-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_pool_finite [hPre_pool_finite : Cert.Pre_pool_finite.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_pool_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7)) (m ((c.tc : Thread Cert.PostKernelIdeal.nD Cert.PostKernelIdeal.τ).loc Cert.PostKernelIdeal.main_arg8))).1 = (fun _ => 1#1)
    ∧ (Cert.Pre_pool_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7)) (m ((c.tc : Thread Cert.PostKernelIdeal.nD Cert.PostKernelIdeal.τ).loc Cert.PostKernelIdeal.main_arg8))).2.1 = (fun _ => 1#1)
    ∧ (Cert.Pre_pool_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7)) (m ((c.tc : Thread Cert.PostKernelIdeal.nD Cert.PostKernelIdeal.τ).loc Cert.PostKernelIdeal.main_arg8))).2.2 = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_pool_finite [hPre_pool_finite : Cert.Pre_pool_finite.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_pool_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))).1 = (fun _ => 1#1)
    ∧ (Cert.Pre_pool_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))).2.1 = (fun _ => 1#1)
    ∧ (Cert.Pre_pool_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostKernelIdeal_pre_pool_finite [hPostKernelIdeal : Cert.PostKernelIdeal.Facts] [hPre_pool_finite : Cert.Pre_pool_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_pool_finite m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_PostReferenceIdeal_pre_pool_finite [hPostReferenceIdeal : Cert.PostReferenceIdeal.Facts] [hPre_pool_finite : Cert.Pre_pool_finite.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_pool_finite m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v55) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_PostKernel_PostKernelIdeal : Prop :=
  True

def algebraic_PostKernelIdeal_PostReferenceIdeal_pre_pool_finite [hPostKernelIdeal : Cert.PostKernelIdeal.Facts] [hPostReferenceIdeal : Cert.PostReferenceIdeal.Facts] [hPre_pool_finite : Cert.Pre_pool_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_pool_finite m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)) →
    ∃ (v0 : (c : Dev Cert.PostKernelIdeal.nD) → Buf (Elt Ideal) ((c.tc : Thread Cert.PostKernelIdeal.nD Cert.PostKernelIdeal.τ).loc Cert.PostKernelIdeal.main_v6)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v6) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v124) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hPostKernel : Cert.PostKernel.Facts) (hPostKernelIdeal : Cert.PostKernelIdeal.Facts) (hPostReferenceIdeal : Cert.PostReferenceIdeal.Facts) (hPre_scores_finite : Cert.Pre_scores_finite.Facts) (hPre_pool_finite : Cert.Pre_pool_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_PostKernel (hPostKernel := hPostKernel)
    ∧ quiescent_PostKernelIdeal (hPostKernelIdeal := hPostKernelIdeal)
    ∧ quiescent_PostKernelIdeal_pre_pool_finite (hPostKernelIdeal := hPostKernelIdeal) (hPre_pool_finite := hPre_pool_finite)
    ∧ quiescent_PostReferenceIdeal (hPostReferenceIdeal := hPostReferenceIdeal)
    ∧ quiescent_PostReferenceIdeal_pre_pool_finite (hPostReferenceIdeal := hPostReferenceIdeal) (hPre_pool_finite := hPre_pool_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_PostKernel_PostKernelIdeal
    ∧ algebraic_PostKernelIdeal_PostReferenceIdeal_pre_pool_finite (hPostKernelIdeal := hPostKernelIdeal) (hPostReferenceIdeal := hPostReferenceIdeal) (hPre_pool_finite := hPre_pool_finite)
-- ==== Pre_pool_finite.lean ====
abbrev S49152x1024 : Shape := ⟨2, ![49152, 1024]⟩
abbrev S6x9x1024 : Shape := ⟨3, ![6, 9, 1024]⟩
abbrev S1x1024 : Shape := ⟨2, ![1, 1024]⟩
abbrev S1024x3520 : Shape := ⟨2, ![1024, 3520]⟩
abbrev S4x256x256 : Shape := ⟨3, ![4, 256, 256]⟩
abbrev S1024x1024 : Shape := ⟨2, ![1024, 1024]⟩
abbrev S6x1x1024 : Shape := ⟨3, ![6, 1, 1024]⟩
abbrev S_ : Shape := ⟨0, ![]⟩

class Facts : Prop where
  slices_S6x9x1024_S6x1x1024_0_4_0 : S6x9x1024.Slices ![0, 4, 0] S6x1x1024
  bcast_S_S6x1x1024 : S_.BroadcastsInDim S6x1x1024 (![] : Fin 0 → Fin S6x1x1024.rank)
  bcast_S_S1x1024 : S_.BroadcastsInDim S1x1024 (![] : Fin 0 → Fin S1x1024.rank)
  slices_S1024x3520_S1024x1024_0_448 : S1024x3520.Slices ![0, 448] S1024x1024
  bcast_S_S1024x1024 : S_.BroadcastsInDim S1024x1024 (![] : Fin 0 → Fin S1024x1024.rank)

variable [Facts]

def fn {F : FTy → Type} [FloatOps F] (main_arg0 : FVec F S49152x1024 .f32) (main_arg1 : FVec F S49152x1024 .f32) (main_arg2 : FVec F S6x9x1024 .f32) (main_arg3 : FVec F S1x1024 .f32) (main_arg4 : FVec F S1024x3520 .f32) (main_arg5 : FVec F S4x256x256 .f32) (main_arg6 : FVec F S1x1024 .f32) (main_arg7 : FVec F S1024x1024 .f32) (main_arg8 : FVec F S1x1024 .f32) : IVec S6x1x1024 1 × IVec S1x1024 1 × IVec S1024x1024 1 :=
  let main_v0 : FVec F S6x1x1024 .f32 := (extractStridedSlice S6x1x1024 ![0, 4, 0] · slices_S6x9x1024_S6x1x1024_0_4_0) main_arg2
  let main_v1 : FVec F S6x1x1024 .f32 := Host.absf main_v0
  let main_cst : FVec F S_ .f32 := constant S_ .f32 0x7F800000#32
  let main_v2 : FVec F S6x1x1024 .f32 := broadcastInDim S6x1x1024 ![] bcast_S_S6x1x1024 main_cst
  let main_v3 : IVec S6x1x1024 1 := cmpf .olt main_v1 main_v2
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1024x1024 .f32 := (extractStridedSlice S1024x1024 ![0, 448] · slices_S1024x3520_S1024x1024_0_448) main_arg4
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v3, main_v6, main_v10)
-- ==== Pre_scores_finite.lean ====
abbrev S6x8192x8x128 : Shape := ⟨4, ![6, 8192, 8, 128]⟩
abbrev S6x8192x8x64 : Shape := ⟨4, ![6, 8192, 8, 64]⟩
abbrev S6x8192x64 : Shape := ⟨3, ![6, 8192, 64]⟩
abbrev S_ : Shape := ⟨0, ![]⟩

class Facts : Prop where
  bcast_S_S6x8192x8x128 : S_.BroadcastsInDim S6x8192x8x128 (![] : Fin 0 → Fin S6x8192x8x128.rank)
  bcast_S_S6x8192x8x64 : S_.BroadcastsInDim S6x8192x8x64 (![] : Fin 0 → Fin S6x8192x8x64.rank)
  bcast_S_S6x8192x64 : S_.BroadcastsInDim S6x8192x64 (![] : Fin 0 → Fin S6x8192x64.rank)

variable [Facts]

def fn {F : FTy → Type} [FloatOps F] (main_arg0 : FVec F S6x8192x8x128 .f32) (main_arg1 : FVec F S6x8192x8x64 .f32) (main_arg2 : FVec F S6x8192x8x128 .f32) (main_arg3 : FVec F S6x8192x64 .f32) (main_arg4 : FVec F S6x8192x8x128 .f32) : IVec S6x8192x8x128 1 × IVec S6x8192x8x64 1 × IVec S6x8192x8x128 1 × IVec S6x8192x64 1 :=
  let main_v0 : FVec F S6x8192x8x128 .f32 := Host.absf main_arg0
  let main_cst : FVec F S_ .f32 := constant S_ .f32 0x7F800000#32
  let main_v1 : FVec F S6x8192x8x128 .f32 := broadcastInDim S6x8192x8x128 ![] bcast_S_S6x8192x8x128 main_cst
  let main_v2 : IVec S6x8192x8x128 1 := cmpf .olt main_v0 main_v1
  let main_v3 : FVec F S6x8192x8x64 .f32 := Host.absf main_arg1
  let main_cst_0 : FVec F S_ .f32 := constant S_ .f32 0x7F800000#32
  let main_v4 : FVec F S6x8192x8x64 .f32 := broadcastInDim S6x8192x8x64 ![] bcast_S_S6x8192x8x64 main_cst_0
  let main_v5 : IVec S6x8192x8x64 1 := cmpf .olt main_v3 main_v4
  let main_v6 : FVec F S6x8192x8x128 .f32 := Host.absf main_arg2
  let main_cst_1 : FVec F S_ .f32 := constant S_ .f32 0x7F800000#32
  let main_v7 : FVec F S6x8192x8x128 .f32 := broadcastInDim S6x8192x8x128 ![] bcast_S_S6x8192x8x128 main_cst_1
  let main_v8 : IVec S6x8192x8x128 1 := cmpf .olt main_v6 main_v7
  let main_v9 : FVec F S6x8192x64 .f32 := Host.absf main_arg3
  let main_cst_2 : FVec F S_ .f32 := constant S_ .f32 0x7F800000#32
  let main_v10 : FVec F S6x8192x64 .f32 := broadcastInDim S6x8192x64 ![] bcast_S_S6x8192x64 main_cst_2
  let main_v11 : IVec S6x8192x64 1 := cmpf .olt main_v9 main_v10
  (main_v2, main_v5, main_v8, main_v11)
-- ==== Kernel.lean ====
abbrev S6x8192x8x128 : Shape := ⟨4, ![6, 8192, 8, 128]⟩
abbrev S6x8192x8x64 : Shape := ⟨4, ![6, 8192, 8, 64]⟩
abbrev S6x8192x64 : Shape := ⟨3, ![6, 8192, 64]⟩
abbrev S_ : Shape := ⟨0, ![]⟩
abbrev S6x8x128x8192 : Shape := ⟨4, ![6, 8, 128, 8192]⟩
abbrev S6x8x64x8192 : Shape := ⟨4, ![6, 8, 64, 8192]⟩
abbrev S6x8x256x8192 : Shape := ⟨4, ![6, 8, 256, 8192]⟩
abbrev S6x1x8192x64 : Shape := ⟨4, ![6, 1, 8192, 64]⟩
abbrev S6x8x8192x64 : Shape := ⟨4, ![6, 8, 8192, 64]⟩
abbrev S6x8x8192x128 : Shape := ⟨4, ![6, 8, 8192, 128]⟩
abbrev S6x8x8192x256 : Shape := ⟨4, ![6, 8, 8192, 256]⟩
abbrev S6x8x16x8192 : Shape := ⟨4, ![6, 8, 16, 8192]⟩
abbrev S6x8x144x8192 : Shape := ⟨4, ![6, 8, 144, 8192]⟩
abbrev S6x8192x1024 : Shape := ⟨3, ![6, 8192, 1024]⟩
abbrev S1x1x256x8192 : Shape := ⟨4, ![1, 1, 256, 8192]⟩
abbrev S1x1x8192x256 : Shape := ⟨4, ![1, 1, 8192, 256]⟩
abbrev S1x1x144x8192 : Shape := ⟨4, ![1, 1, 144, 8192]⟩
abbrev S1x8192x128 : Shape := ⟨3, ![1, 8192, 128]⟩
abbrev S2x1024x512 : Shape := ⟨3, ![2, 1024, 512]⟩
abbrev S1x8192 : Shape := ⟨2, ![1, 8192]⟩
abbrev S144x8192 : Shape := ⟨2, ![144, 8192]⟩
abbrev S1x1x1024x256 : Shape := ⟨4, ![1, 1, 1024, 256]⟩
abbrev S1024x256 : Shape := ⟨2, ![1024, 256]⟩
abbrev S1x1x256x512 : Shape := ⟨4, ![1, 1, 256, 512]⟩
abbrev S256x512 : Shape := ⟨2, ![256, 512]⟩
abbrev S1024x512 : Shape := ⟨2, ![1024, 512]⟩
abbrev S1x1024x512 : Shape := ⟨3, ![1, 1024, 512]⟩
abbrev S1x512 : Shape := ⟨2, ![1, 512]⟩
abbrev S512 : Shape := ⟨1, ![512]⟩
abbrev S144x512 : Shape := ⟨2, ![144, 512]⟩
abbrev S1x1x144x1024 : Shape := ⟨4, ![1, 1, 144, 1024]⟩
abbrev S144x1024 : Shape := ⟨2, ![144, 1024]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 41
  | .vmem => 12
  | .smem => 0
  | _ => 0

abbrev bufTy : (tb : Table) → Fin (tcTables nBuf tb) → BufTy
  | .hbm, ⟨0, _⟩ => ⟨S6x8192x8x128, .f32⟩
  | .hbm, ⟨1, _⟩ => ⟨S6x8192x8x64, .f32⟩
  | .hbm, ⟨2, _⟩ => ⟨S6x8192x8x128, .f32⟩
  | .hbm, ⟨3, _⟩ => ⟨S6x8192x64, .f32⟩
  | .hbm, ⟨4, _⟩ => ⟨S6x8192x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S6x8x128x8192, .f32⟩
  | .hbm, ⟨10, _⟩ => ⟨S6x8x128x8192, .f32⟩
  | .hbm, ⟨11, _⟩ => ⟨S6x8x128x8192, .f32⟩
  | .hbm, ⟨12, _⟩ => ⟨S6x8x64x8192, .f32⟩
  | .hbm, ⟨13, _⟩ => ⟨S6x8x64x8192, .f32⟩
  | .hbm, ⟨14, _⟩ => ⟨S6x8x64x8192, .f32⟩
  | .hbm, ⟨15, _⟩ => ⟨S6x8x64x8192, .i32⟩
  | .hbm, ⟨16, _⟩ => ⟨S_, .i32⟩
  | .hbm, ⟨17, _⟩ => ⟨S6x8x64x8192, .i32⟩
  | .hbm, ⟨18, _⟩ => ⟨S6x8x64x8192, .i32⟩
  | .hbm, ⟨19, _⟩ => ⟨S_, .i32⟩
  | .hbm, ⟨20, _⟩ => ⟨S6x8x64x8192, .i32⟩
  | .hbm, ⟨21, _⟩ => ⟨S6x8x64x8192, .i1⟩
  | .hbm, ⟨22, _⟩ => ⟨S_, .f32⟩
  | .hbm, ⟨23, _⟩ => ⟨S6x8x64x8192, .f32⟩
  | .hbm, ⟨24, _⟩ => ⟨S6x8x64x8192, .f32⟩
  | .hbm, ⟨25, _⟩ => ⟨S_, .f32⟩
  | .hbm, ⟨26, _⟩ => ⟨S6x8x64x8192, .f32⟩
  | .hbm, ⟨27, _⟩ => ⟨S6x8x64x8192, .f32⟩
  | .hbm, ⟨28, _⟩ => ⟨S6x8x256x8192, .f32⟩
  | .hbm, ⟨29, _⟩ => ⟨S6x8x256x8192, .bf16⟩
  | .hbm, ⟨30, _⟩ => ⟨S6x1x8192x64, .f32⟩
  | .hbm, ⟨31, _⟩ => ⟨S6x8x8192x64, .f32⟩
  | .hbm, ⟨32, _⟩ => ⟨S6x8x8192x128, .f32⟩
  | .hbm, ⟨33, _⟩ => ⟨S6x8x8192x256, .f32⟩
  | .hbm, ⟨34, _⟩ => ⟨S6x8x8192x256, .bf16⟩
  | .hbm, ⟨35, _⟩ => ⟨S6x8x128x8192, .f32⟩
  | .hbm, ⟨36, _⟩ => ⟨S_, .f32⟩
  | .hbm, ⟨37, _⟩ => ⟨S6x8x16x8192, .f32⟩
  | .hbm, ⟨38, _⟩ => ⟨S6x8x144x8192, .f32⟩
  | .hbm, ⟨39, _⟩ => ⟨S6x8x144x8192, .bf16⟩
  | .hbm, ⟨40, _⟩ => ⟨S6x8192x1024, .f32⟩
  | .local _ .vmem, ⟨0, _⟩ => ⟨S1x1x256x8192, .bf16⟩
  | .local _ .vmem, ⟨1, _⟩ => ⟨S1x1x256x8192, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x144x8192, .bf16⟩
  | .local _ .vmem, ⟨5, _⟩ => ⟨S1x1x144x8192, .bf16⟩
  | .local _ .vmem, ⟨6, _⟩ => ⟨S1x8192x128, .f32⟩
  | .local _ .vmem, ⟨7, _⟩ => ⟨S1x8192x128, .f32⟩
  | .local _ .vmem, ⟨8, _⟩ => ⟨S2x1024x512, .f32⟩
  | .local _ .vmem, ⟨9, _⟩ => ⟨S2x1024x512, .bf16⟩
  | .local _ .vmem, ⟨10, _⟩ => ⟨S1x8192, .f32⟩
  | .local _ .vmem, ⟨11, _⟩ => ⟨S144x8192, .f32⟩
  | _, _ => ⟨S6x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def k0_mult1 : BitVec 32 :=
  let c0_i32 : BitVec 32 := 0#32
  let c16_i32 : BitVec 32 := 16#32
  let v8 : BitVec 32 := Scalar.divsi c0_i32 c16_i32
  let c1024_i32 : BitVec 32 := 1024#32
  let v10 : BitVec 32 := Scalar.muli v8 c1024_i32
  v10
def k0_mult2 : BitVec 32 :=
  let c0_i32_4 : BitVec 32 := 0#32
  let c16_i32_5 : BitVec 32 := 16#32
  let v9 : BitVec 32 := Scalar.remsi c0_i32_4 c16_i32_5
  let c512_i32 : BitVec 32 := 512#32
  let v12 : BitVec 32 := Scalar.muli v9 c512_i32
  v12
def k0_off1 (c0_i32 : BitVec 32) : Fin 4 → Nat :=
  let c0_6 : Index := 0#32
  let c0_7 : Index := 0#32
  let c16_i32 : BitVec 32 := 16#32
  let v8 : BitVec 32 := Scalar.divsi c0_i32 c16_i32
  let c1024_i32 : BitVec 32 := 1024#32
  let v10 : BitVec 32 := Scalar.muli v8 c1024_i32
  let v11 : BitVec 32 := v10
  let v14 : Index := Scalar.indexCast v11
  let c0_8 : Index := 0#32
  ![0, 0, v14.toNat, 0]
def k0_off1_at (r : Fin 16) : BitVec 32 :=
  if r.val < 8 then
    if r.val < 4 then
      if r.val < 2 then
        if r.val < 1 then
          0#32
        else
          1#32
      else
        if r.val < 3 then
          114#32
        else
          115#32
    else
      if r.val < 6 then
        if r.val < 5 then
          116#32
        else
          117#32
      else
        if r.val < 7 then
          118#32
        else
          119#32
  else
    if r.val < 12 then
      if r.val < 10 then
        if r.val < 9 then
          120#32
        else
          121#32
      else
        if r.val < 11 then
          122#32
        else
          123#32
    else
      if r.val < 14 then
        if r.val < 13 then
          124#32
        else
          125#32
      else
        if r.val < 15 then
          126#32
        else
          127#32
def k0_off2 (c0_i32_4 : BitVec 32) : Fin 4 → Nat :=
  let c0_9 : Index := 0#32
  let c0_10 : Index := 0#32
  let c0_11 : Index := 0#32
  let c16_i32_5 : BitVec 32 := 16#32
  let v9 : BitVec 32 := Scalar.remsi c0_i32_4 c16_i32_5
  let c512_i32 : BitVec 32 := 512#32
  let v12 : BitVec 32 := Scalar.muli v9 c512_i32
  let v13 : BitVec 32 := v12
  let v17 : Index := Scalar.indexCast v13
  ![0, 0, 0, v17.toNat]
def k0_off2_at (r : Fin 16) : BitVec 32 :=
  if r.val < 8 then
    if r.val < 4 then
      if r.val < 2 then
        if r.val < 1 then
          0#32
        else
          1#32
      else
        if r.val < 3 then
          114#32
        else
          115#32
    else
      if r.val < 6 then
        if r.val < 5 then
          116#32
        else
          117#32
      else
        if r.val < 7 then
          118#32
        else
          119#32
  else
    if r.val < 12 then
      if r.val < 10 then
        if r.val < 9 then
          120#32
        else
          121#32
      else
        if r.val < 11 then
          122#32
        else
          123#32
    else
      if r.val < 14 then
        if r.val < 13 then
          124#32
        else
          125#32
      else
        if r.val < 15 then
          126#32
        else
          127#32
def k0_mult3 : BitVec 32 :=
  let c1_i32 : BitVec 32 := 1#32
  let c16_i32_16 : BitVec 32 := 16#32
  let v24 : BitVec 32 := Scalar.divsi c1_i32 c16_i32_16
  let c1024_i32_19 : BitVec 32 := 1024#32
  let v26 : BitVec 32 := Scalar.muli v24 c1024_i32_19
  v26
def k0_mult4 : BitVec 32 :=
  let c1_i32_17 : BitVec 32 := 1#32
  let c16_i32_18 : BitVec 32 := 16#32
  let v25 : BitVec 32 := Scalar.remsi c1_i32_17 c16_i32_18
  let c512_i32_20 : BitVec 32 := 512#32
  let v28 : BitVec 32 := Scalar.muli v25 c512_i32_20
  v28
def k0_mult5 : BitVec 32 :=
  let c0_i32_30 : BitVec 32 := 0#32
  let c16_i32_31 : BitVec 32 := 16#32
  let v40 : BitVec 32 := Scalar.remsi c0_i32_30 c16_i32_31
  let c512_i32_32 : BitVec 32 := 512#32
  let v41 : BitVec 32 := Scalar.muli v40 c512_i32_32
  v41
def k0_off3 (c0_i32_30 : BitVec 32) : Fin 2 → Nat :=
  let c0_33 : Index := 0#32
  let c16_i32_31 : BitVec 32 := 16#32
  let v40 : BitVec 32 := Scalar.remsi c0_i32_30 c16_i32_31
  let c512_i32_32 : BitVec 32 := 512#32
  let v41 : BitVec 32 := Scalar.muli v40 c512_i32_32
  let v42 : BitVec 32 := v41
  let v43 : Index := Scalar.indexCast v42
  ![0, v43.toNat]
def k0_off3_at (r : Fin 16) : BitVec 32 :=
  if r.val < 8 then
    if r.val < 4 then
      if r.val < 2 then
        if r.val < 1 then
          0#32
        else
          113#32
      else
        if r.val < 3 then
          114#32
        else
          115#32
    else
      if r.val < 6 then
        if r.val < 5 then
          116#32
        else
          117#32
      else
        if r.val < 7 then
          118#32
        else
          119#32
  else
    if r.val < 12 then
      if r.val < 10 then
        if r.val < 9 then
          120#32
        else
          121#32
      else
        if r.val < 11 then
          122#32
        else
          123#32
    else
      if r.val < 14 then
        if r.val < 13 then
          124#32
        else
          125#32
      else
        if r.val < 15 then
          126#32
        else
          127#32
@[reducible] def k0_t1_loop : Scf.Loop 32 :=
  let c0_i32_45 : BitVec 32 := 0#32
  let c7_i32 : BitVec 32 := 7#32
  let v65 : BitVec 32 := Scalar.addi c0_i32_45 c7_i32
  let c1_i32_46 : BitVec 32 := 1#32
  ⟨c0_i32_45, v65, c1_i32_46⟩
def k0_mult6 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c0_i32_738 : BitVec 32 := 0#32
  let v1083 : BitVec 32 := Scalar.addi v1082 c0_i32_738
  let c16_i32_739 : BitVec 32 := 16#32
  let v1084 : BitVec 32 := Scalar.divsi v1083 c16_i32_739
  let c1024_i32_741 : BitVec 32 := 1024#32
  let v1086 : BitVec 32 := Scalar.muli v1084 c1024_i32_741
  v1086
def k0_mult7 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c0_i32_738 : BitVec 32 := 0#32
  let v1083 : BitVec 32 := Scalar.addi v1082 c0_i32_738
  let c16_i32_740 : BitVec 32 := 16#32
  let v1085 : BitVec 32 := Scalar.remsi v1083 c16_i32_740
  let c512_i32_742 : BitVec 32 := 512#32
  let v1088 : BitVec 32 := Scalar.muli v1085 c512_i32_742
  v1088
def k0_off4 (k0_t1 : Fin k0_t1_loop.trips) (c0_i32_738 : BitVec 32) : Fin 2 → Nat :=
  let c0_743 : Index := 0#32
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let v1083 : BitVec 32 := Scalar.addi v1082 c0_i32_738
  let c16_i32_740 : BitVec 32 := 16#32
  let v1085 : BitVec 32 := Scalar.remsi v1083 c16_i32_740
  let c512_i32_742 : BitVec 32 := 512#32
  let v1088 : BitVec 32 := Scalar.muli v1085 c512_i32_742
  let v1089 : BitVec 32 := v1088
  let v1090 : Index := Scalar.indexCast v1089
  ![0, v1090.toNat]
def k0_off5 (k0_t1 : Fin k0_t1_loop.trips) (c0_i32_738 : BitVec 32) : Fin 4 → Nat :=
  let c0_744 : Index := 0#32
  let c0_745 : Index := 0#32
  let c0_746 : Index := 0#32
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let v1083 : BitVec 32 := Scalar.addi v1082 c0_i32_738
  let c16_i32_739 : BitVec 32 := 16#32
  let v1084 : BitVec 32 := Scalar.divsi v1083 c16_i32_739
  let c1024_i32_741 : BitVec 32 := 1024#32
  let v1086 : BitVec 32 := Scalar.muli v1084 c1024_i32_741
  let v1087 : BitVec 32 := v1086
  let v1094 : Index := Scalar.indexCast v1087
  ![0, 0, 0, v1094.toNat]
def k0_mult8 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c0_i32_738 : BitVec 32 := 0#32
  let v1083 : BitVec 32 := Scalar.addi v1082 c0_i32_738
  let c1_i32_752 : BitVec 32 := 1#32
  let v1105 : BitVec 32 := Scalar.addi v1083 c1_i32_752
  let c16_i32_753 : BitVec 32 := 16#32
  let v1106 : BitVec 32 := Scalar.remsi v1105 c16_i32_753
  let c512_i32_754 : BitVec 32 := 512#32
  let v1107 : BitVec 32 := Scalar.muli v1106 c512_i32_754
  v1107
def k0_off6 (k0_t1 : Fin k0_t1_loop.trips) (c0_i32_738 : BitVec 32) : Fin 2 → Nat :=
  let c0_755 : Index := 0#32
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let v1083 : BitVec 32 := Scalar.addi v1082 c0_i32_738
  let c1_i32_752 : BitVec 32 := 1#32
  let v1105 : BitVec 32 := Scalar.addi v1083 c1_i32_752
  let c16_i32_753 : BitVec 32 := 16#32
  let v1106 : BitVec 32 := Scalar.remsi v1105 c16_i32_753
  let c512_i32_754 : BitVec 32 := 512#32
  let v1107 : BitVec 32 := Scalar.muli v1106 c512_i32_754
  let v1108 : BitVec 32 := v1107
  let v1109 : Index := Scalar.indexCast v1108
  ![0, v1109.toNat]
def k0_mult9 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c0_i32_738 : BitVec 32 := 0#32
  let v1083 : BitVec 32 := Scalar.addi v1082 c0_i32_738
  let c2_i32 : BitVec 32 := 2#32
  let v1131 : BitVec 32 := Scalar.addi v1083 c2_i32
  let c16_i32_767 : BitVec 32 := 16#32
  let v1132 : BitVec 32 := Scalar.divsi v1131 c16_i32_767
  let c1024_i32_769 : BitVec 32 := 1024#32
  let v1134 : BitVec 32 := Scalar.muli v1132 c1024_i32_769
  v1134
def k0_mult10 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c0_i32_738 : BitVec 32 := 0#32
  let v1083 : BitVec 32 := Scalar.addi v1082 c0_i32_738
  let c2_i32 : BitVec 32 := 2#32
  let v1131 : BitVec 32 := Scalar.addi v1083 c2_i32
  let c16_i32_768 : BitVec 32 := 16#32
  let v1133 : BitVec 32 := Scalar.remsi v1131 c16_i32_768
  let c512_i32_770 : BitVec 32 := 512#32
  let v1136 : BitVec 32 := Scalar.muli v1133 c512_i32_770
  v1136
def k0_off7 (k0_t1 : Fin k0_t1_loop.trips) (c0_i32_738 : BitVec 32) : Fin 4 → Nat :=
  let c0_771 : Index := 0#32
  let c0_772 : Index := 0#32
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let v1083 : BitVec 32 := Scalar.addi v1082 c0_i32_738
  let c2_i32 : BitVec 32 := 2#32
  let v1131 : BitVec 32 := Scalar.addi v1083 c2_i32
  let c16_i32_767 : BitVec 32 := 16#32
  let v1132 : BitVec 32 := Scalar.divsi v1131 c16_i32_767
  let c1024_i32_769 : BitVec 32 := 1024#32
  let v1134 : BitVec 32 := Scalar.muli v1132 c1024_i32_769
  let v1135 : BitVec 32 := v1134
  let v1138 : Index := Scalar.indexCast v1135
  let c0_773 : Index := 0#32
  ![0, 0, v1138.toNat, 0]
def k0_off8 (k0_t1 : Fin k0_t1_loop.trips) (c0_i32_738 : BitVec 32) : Fin 4 → Nat :=
  let c0_774 : Index := 0#32
  let c0_775 : Index := 0#32
  let c0_776 : Index := 0#32
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let v1083 : BitVec 32 := Scalar.addi v1082 c0_i32_738
  let c2_i32 : BitVec 32 := 2#32
  let v1131 : BitVec 32 := Scalar.addi v1083 c2_i32
  let c16_i32_768 : BitVec 32 := 16#32
  let v1133 : BitVec 32 := Scalar.remsi v1131 c16_i32_768
  let c512_i32_770 : BitVec 32 := 512#32
  let v1136 : BitVec 32 := Scalar.muli v1133 c512_i32_770
  let v1137 : BitVec 32 := v1136
  let v1141 : Index := Scalar.indexCast v1137
  ![0, 0, 0, v1141.toNat]
def k0_mult11 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c1_i32_781 : BitVec 32 := 1#32
  let v1148 : BitVec 32 := Scalar.addi v1082 c1_i32_781
  let c16_i32_782 : BitVec 32 := 16#32
  let v1149 : BitVec 32 := Scalar.divsi v1148 c16_i32_782
  let c1024_i32_784 : BitVec 32 := 1024#32
  let v1151 : BitVec 32 := Scalar.muli v1149 c1024_i32_784
  v1151
def k0_mult12 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c1_i32_781 : BitVec 32 := 1#32
  let v1148 : BitVec 32 := Scalar.addi v1082 c1_i32_781
  let c16_i32_783 : BitVec 32 := 16#32
  let v1150 : BitVec 32 := Scalar.remsi v1148 c16_i32_783
  let c512_i32_785 : BitVec 32 := 512#32
  let v1153 : BitVec 32 := Scalar.muli v1150 c512_i32_785
  v1153
def k0_mult13 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c1_i32_781 : BitVec 32 := 1#32
  let v1148 : BitVec 32 := Scalar.addi v1082 c1_i32_781
  let c1_i32_795 : BitVec 32 := 1#32
  let v1170 : BitVec 32 := Scalar.addi v1148 c1_i32_795
  let c16_i32_796 : BitVec 32 := 16#32
  let v1171 : BitVec 32 := Scalar.remsi v1170 c16_i32_796
  let c512_i32_797 : BitVec 32 := 512#32
  let v1172 : BitVec 32 := Scalar.muli v1171 c512_i32_797
  v1172
def k0_mult14 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c1_i32_781 : BitVec 32 := 1#32
  let v1148 : BitVec 32 := Scalar.addi v1082 c1_i32_781
  let c2_i32_810 : BitVec 32 := 2#32
  let v1196 : BitVec 32 := Scalar.addi v1148 c2_i32_810
  let c16_i32_811 : BitVec 32 := 16#32
  let v1197 : BitVec 32 := Scalar.divsi v1196 c16_i32_811
  let c1024_i32_813 : BitVec 32 := 1024#32
  let v1199 : BitVec 32 := Scalar.muli v1197 c1024_i32_813
  v1199
def k0_mult15 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c1_i32_781 : BitVec 32 := 1#32
  let v1148 : BitVec 32 := Scalar.addi v1082 c1_i32_781
  let c2_i32_810 : BitVec 32 := 2#32
  let v1196 : BitVec 32 := Scalar.addi v1148 c2_i32_810
  let c16_i32_812 : BitVec 32 := 16#32
  let v1198 : BitVec 32 := Scalar.remsi v1196 c16_i32_812
  let c512_i32_814 : BitVec 32 := 512#32
  let v1201 : BitVec 32 := Scalar.muli v1198 c512_i32_814
  v1201
def k0_mult16 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c2_i32_825 : BitVec 32 := 2#32
  let v1213 : BitVec 32 := Scalar.addi v1082 c2_i32_825
  let c16_i32_826 : BitVec 32 := 16#32
  let v1214 : BitVec 32 := Scalar.divsi v1213 c16_i32_826
  let c1024_i32_828 : BitVec 32 := 1024#32
  let v1216 : BitVec 32 := Scalar.muli v1214 c1024_i32_828
  v1216
def k0_mult17 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c2_i32_825 : BitVec 32 := 2#32
  let v1213 : BitVec 32 := Scalar.addi v1082 c2_i32_825
  let c16_i32_827 : BitVec 32 := 16#32
  let v1215 : BitVec 32 := Scalar.remsi v1213 c16_i32_827
  let c512_i32_829 : BitVec 32 := 512#32
  let v1218 : BitVec 32 := Scalar.muli v1215 c512_i32_829
  v1218
def k0_mult18 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c2_i32_825 : BitVec 32 := 2#32
  let v1213 : BitVec 32 := Scalar.addi v1082 c2_i32_825
  let c1_i32_839 : BitVec 32 := 1#32
  let v1235 : BitVec 32 := Scalar.addi v1213 c1_i32_839
  let c16_i32_840 : BitVec 32 := 16#32
  let v1236 : BitVec 32 := Scalar.remsi v1235 c16_i32_840
  let c512_i32_841 : BitVec 32 := 512#32
  let v1237 : BitVec 32 := Scalar.muli v1236 c512_i32_841
  v1237
def k0_mult19 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c2_i32_825 : BitVec 32 := 2#32
  let v1213 : BitVec 32 := Scalar.addi v1082 c2_i32_825
  let c2_i32_854 : BitVec 32 := 2#32
  let v1261 : BitVec 32 := Scalar.addi v1213 c2_i32_854
  let c16_i32_855 : BitVec 32 := 16#32
  let v1262 : BitVec 32 := Scalar.divsi v1261 c16_i32_855
  let c1024_i32_857 : BitVec 32 := 1024#32
  let v1264 : BitVec 32 := Scalar.muli v1262 c1024_i32_857
  v1264
def k0_mult20 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c2_i32_825 : BitVec 32 := 2#32
  let v1213 : BitVec 32 := Scalar.addi v1082 c2_i32_825
  let c2_i32_854 : BitVec 32 := 2#32
  let v1261 : BitVec 32 := Scalar.addi v1213 c2_i32_854
  let c16_i32_856 : BitVec 32 := 16#32
  let v1263 : BitVec 32 := Scalar.remsi v1261 c16_i32_856
  let c512_i32_858 : BitVec 32 := 512#32
  let v1266 : BitVec 32 := Scalar.muli v1263 c512_i32_858
  v1266
def k0_mult21 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c3_i32 : BitVec 32 := 3#32
  let v1278 : BitVec 32 := Scalar.addi v1082 c3_i32
  let c16_i32_869 : BitVec 32 := 16#32
  let v1279 : BitVec 32 := Scalar.divsi v1278 c16_i32_869
  let c1024_i32_871 : BitVec 32 := 1024#32
  let v1281 : BitVec 32 := Scalar.muli v1279 c1024_i32_871
  v1281
def k0_mult22 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c3_i32 : BitVec 32 := 3#32
  let v1278 : BitVec 32 := Scalar.addi v1082 c3_i32
  let c16_i32_870 : BitVec 32 := 16#32
  let v1280 : BitVec 32 := Scalar.remsi v1278 c16_i32_870
  let c512_i32_872 : BitVec 32 := 512#32
  let v1283 : BitVec 32 := Scalar.muli v1280 c512_i32_872
  v1283
def k0_mult23 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c3_i32 : BitVec 32 := 3#32
  let v1278 : BitVec 32 := Scalar.addi v1082 c3_i32
  let c1_i32_882 : BitVec 32 := 1#32
  let v1300 : BitVec 32 := Scalar.addi v1278 c1_i32_882
  let c16_i32_883 : BitVec 32 := 16#32
  let v1301 : BitVec 32 := Scalar.remsi v1300 c16_i32_883
  let c512_i32_884 : BitVec 32 := 512#32
  let v1302 : BitVec 32 := Scalar.muli v1301 c512_i32_884
  v1302
def k0_mult24 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c3_i32 : BitVec 32 := 3#32
  let v1278 : BitVec 32 := Scalar.addi v1082 c3_i32
  let c2_i32_897 : BitVec 32 := 2#32
  let v1326 : BitVec 32 := Scalar.addi v1278 c2_i32_897
  let c16_i32_898 : BitVec 32 := 16#32
  let v1327 : BitVec 32 := Scalar.divsi v1326 c16_i32_898
  let c1024_i32_900 : BitVec 32 := 1024#32
  let v1329 : BitVec 32 := Scalar.muli v1327 c1024_i32_900
  v1329
def k0_mult25 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c3_i32 : BitVec 32 := 3#32
  let v1278 : BitVec 32 := Scalar.addi v1082 c3_i32
  let c2_i32_897 : BitVec 32 := 2#32
  let v1326 : BitVec 32 := Scalar.addi v1278 c2_i32_897
  let c16_i32_899 : BitVec 32 := 16#32
  let v1328 : BitVec 32 := Scalar.remsi v1326 c16_i32_899
  let c512_i32_901 : BitVec 32 := 512#32
  let v1331 : BitVec 32 := Scalar.muli v1328 c512_i32_901
  v1331
def k0_mult26 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c4_i32 : BitVec 32 := 4#32
  let v1343 : BitVec 32 := Scalar.addi v1082 c4_i32
  let c16_i32_912 : BitVec 32 := 16#32
  let v1344 : BitVec 32 := Scalar.divsi v1343 c16_i32_912
  let c1024_i32_914 : BitVec 32 := 1024#32
  let v1346 : BitVec 32 := Scalar.muli v1344 c1024_i32_914
  v1346
def k0_mult27 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c4_i32 : BitVec 32 := 4#32
  let v1343 : BitVec 32 := Scalar.addi v1082 c4_i32
  let c16_i32_913 : BitVec 32 := 16#32
  let v1345 : BitVec 32 := Scalar.remsi v1343 c16_i32_913
  let c512_i32_915 : BitVec 32 := 512#32
  let v1348 : BitVec 32 := Scalar.muli v1345 c512_i32_915
  v1348
def k0_mult28 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c4_i32 : BitVec 32 := 4#32
  let v1343 : BitVec 32 := Scalar.addi v1082 c4_i32
  let c1_i32_925 : BitVec 32 := 1#32
  let v1365 : BitVec 32 := Scalar.addi v1343 c1_i32_925
  let c16_i32_926 : BitVec 32 := 16#32
  let v1366 : BitVec 32 := Scalar.remsi v1365 c16_i32_926
  let c512_i32_927 : BitVec 32 := 512#32
  let v1367 : BitVec 32 := Scalar.muli v1366 c512_i32_927
  v1367
def k0_mult29 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c4_i32 : BitVec 32 := 4#32
  let v1343 : BitVec 32 := Scalar.addi v1082 c4_i32
  let c2_i32_940 : BitVec 32 := 2#32
  let v1391 : BitVec 32 := Scalar.addi v1343 c2_i32_940
  let c16_i32_941 : BitVec 32 := 16#32
  let v1392 : BitVec 32 := Scalar.divsi v1391 c16_i32_941
  let c1024_i32_943 : BitVec 32 := 1024#32
  let v1394 : BitVec 32 := Scalar.muli v1392 c1024_i32_943
  v1394
def k0_mult30 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c4_i32 : BitVec 32 := 4#32
  let v1343 : BitVec 32 := Scalar.addi v1082 c4_i32
  let c2_i32_940 : BitVec 32 := 2#32
  let v1391 : BitVec 32 := Scalar.addi v1343 c2_i32_940
  let c16_i32_942 : BitVec 32 := 16#32
  let v1393 : BitVec 32 := Scalar.remsi v1391 c16_i32_942
  let c512_i32_944 : BitVec 32 := 512#32
  let v1396 : BitVec 32 := Scalar.muli v1393 c512_i32_944
  v1396
def k0_mult31 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c5_i32 : BitVec 32 := 5#32
  let v1408 : BitVec 32 := Scalar.addi v1082 c5_i32
  let c16_i32_955 : BitVec 32 := 16#32
  let v1409 : BitVec 32 := Scalar.divsi v1408 c16_i32_955
  let c1024_i32_957 : BitVec 32 := 1024#32
  let v1411 : BitVec 32 := Scalar.muli v1409 c1024_i32_957
  v1411
def k0_mult32 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c5_i32 : BitVec 32 := 5#32
  let v1408 : BitVec 32 := Scalar.addi v1082 c5_i32
  let c16_i32_956 : BitVec 32 := 16#32
  let v1410 : BitVec 32 := Scalar.remsi v1408 c16_i32_956
  let c512_i32_958 : BitVec 32 := 512#32
  let v1413 : BitVec 32 := Scalar.muli v1410 c512_i32_958
  v1413
def k0_mult33 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c5_i32 : BitVec 32 := 5#32
  let v1408 : BitVec 32 := Scalar.addi v1082 c5_i32
  let c1_i32_968 : BitVec 32 := 1#32
  let v1430 : BitVec 32 := Scalar.addi v1408 c1_i32_968
  let c16_i32_969 : BitVec 32 := 16#32
  let v1431 : BitVec 32 := Scalar.remsi v1430 c16_i32_969
  let c512_i32_970 : BitVec 32 := 512#32
  let v1432 : BitVec 32 := Scalar.muli v1431 c512_i32_970
  v1432
def k0_mult34 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c5_i32 : BitVec 32 := 5#32
  let v1408 : BitVec 32 := Scalar.addi v1082 c5_i32
  let c2_i32_983 : BitVec 32 := 2#32
  let v1456 : BitVec 32 := Scalar.addi v1408 c2_i32_983
  let c16_i32_984 : BitVec 32 := 16#32
  let v1457 : BitVec 32 := Scalar.divsi v1456 c16_i32_984
  let c1024_i32_986 : BitVec 32 := 1024#32
  let v1459 : BitVec 32 := Scalar.muli v1457 c1024_i32_986
  v1459
def k0_mult35 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c5_i32 : BitVec 32 := 5#32
  let v1408 : BitVec 32 := Scalar.addi v1082 c5_i32
  let c2_i32_983 : BitVec 32 := 2#32
  let v1456 : BitVec 32 := Scalar.addi v1408 c2_i32_983
  let c16_i32_985 : BitVec 32 := 16#32
  let v1458 : BitVec 32 := Scalar.remsi v1456 c16_i32_985
  let c512_i32_987 : BitVec 32 := 512#32
  let v1461 : BitVec 32 := Scalar.muli v1458 c512_i32_987
  v1461
def k0_mult36 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c6_i32 : BitVec 32 := 6#32
  let v1473 : BitVec 32 := Scalar.addi v1082 c6_i32
  let c16_i32_998 : BitVec 32 := 16#32
  let v1474 : BitVec 32 := Scalar.divsi v1473 c16_i32_998
  let c1024_i32_1000 : BitVec 32 := 1024#32
  let v1476 : BitVec 32 := Scalar.muli v1474 c1024_i32_1000
  v1476
def k0_mult37 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c6_i32 : BitVec 32 := 6#32
  let v1473 : BitVec 32 := Scalar.addi v1082 c6_i32
  let c16_i32_999 : BitVec 32 := 16#32
  let v1475 : BitVec 32 := Scalar.remsi v1473 c16_i32_999
  let c512_i32_1001 : BitVec 32 := 512#32
  let v1478 : BitVec 32 := Scalar.muli v1475 c512_i32_1001
  v1478
def k0_mult38 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c6_i32 : BitVec 32 := 6#32
  let v1473 : BitVec 32 := Scalar.addi v1082 c6_i32
  let c1_i32_1011 : BitVec 32 := 1#32
  let v1495 : BitVec 32 := Scalar.addi v1473 c1_i32_1011
  let c16_i32_1012 : BitVec 32 := 16#32
  let v1496 : BitVec 32 := Scalar.remsi v1495 c16_i32_1012
  let c512_i32_1013 : BitVec 32 := 512#32
  let v1497 : BitVec 32 := Scalar.muli v1496 c512_i32_1013
  v1497
def k0_mult39 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c6_i32 : BitVec 32 := 6#32
  let v1473 : BitVec 32 := Scalar.addi v1082 c6_i32
  let c2_i32_1026 : BitVec 32 := 2#32
  let v1521 : BitVec 32 := Scalar.addi v1473 c2_i32_1026
  let c16_i32_1027 : BitVec 32 := 16#32
  let v1522 : BitVec 32 := Scalar.divsi v1521 c16_i32_1027
  let c1024_i32_1029 : BitVec 32 := 1024#32
  let v1524 : BitVec 32 := Scalar.muli v1522 c1024_i32_1029
  v1524
def k0_mult40 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c6_i32 : BitVec 32 := 6#32
  let v1473 : BitVec 32 := Scalar.addi v1082 c6_i32
  let c2_i32_1026 : BitVec 32 := 2#32
  let v1521 : BitVec 32 := Scalar.addi v1473 c2_i32_1026
  let c16_i32_1028 : BitVec 32 := 16#32
  let v1523 : BitVec 32 := Scalar.remsi v1521 c16_i32_1028
  let c512_i32_1030 : BitVec 32 := 512#32
  let v1526 : BitVec 32 := Scalar.muli v1523 c512_i32_1030
  v1526
def k0_mult41 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c7_i32_1041 : BitVec 32 := 7#32
  let v1538 : BitVec 32 := Scalar.addi v1082 c7_i32_1041
  let c16_i32_1042 : BitVec 32 := 16#32
  let v1539 : BitVec 32 := Scalar.divsi v1538 c16_i32_1042
  let c1024_i32_1044 : BitVec 32 := 1024#32
  let v1541 : BitVec 32 := Scalar.muli v1539 c1024_i32_1044
  v1541
def k0_mult42 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c7_i32_1041 : BitVec 32 := 7#32
  let v1538 : BitVec 32 := Scalar.addi v1082 c7_i32_1041
  let c16_i32_1043 : BitVec 32 := 16#32
  let v1540 : BitVec 32 := Scalar.remsi v1538 c16_i32_1043
  let c512_i32_1045 : BitVec 32 := 512#32
  let v1543 : BitVec 32 := Scalar.muli v1540 c512_i32_1045
  v1543
def k0_mult43 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c7_i32_1041 : BitVec 32 := 7#32
  let v1538 : BitVec 32 := Scalar.addi v1082 c7_i32_1041
  let c1_i32_1055 : BitVec 32 := 1#32
  let v1560 : BitVec 32 := Scalar.addi v1538 c1_i32_1055
  let c16_i32_1056 : BitVec 32 := 16#32
  let v1561 : BitVec 32 := Scalar.remsi v1560 c16_i32_1056
  let c512_i32_1057 : BitVec 32 := 512#32
  let v1562 : BitVec 32 := Scalar.muli v1561 c512_i32_1057
  v1562
def k0_mult44 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c7_i32_1041 : BitVec 32 := 7#32
  let v1538 : BitVec 32 := Scalar.addi v1082 c7_i32_1041
  let c2_i32_1070 : BitVec 32 := 2#32
  let v1586 : BitVec 32 := Scalar.addi v1538 c2_i32_1070
  let c16_i32_1071 : BitVec 32 := 16#32
  let v1587 : BitVec 32 := Scalar.divsi v1586 c16_i32_1071
  let c1024_i32_1073 : BitVec 32 := 1024#32
  let v1589 : BitVec 32 := Scalar.muli v1587 c1024_i32_1073
  v1589
def k0_mult45 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c7_i32_1041 : BitVec 32 := 7#32
  let v1538 : BitVec 32 := Scalar.addi v1082 c7_i32_1041
  let c2_i32_1070 : BitVec 32 := 2#32
  let v1586 : BitVec 32 := Scalar.addi v1538 c2_i32_1070
  let c16_i32_1072 : BitVec 32 := 16#32
  let v1588 : BitVec 32 := Scalar.remsi v1586 c16_i32_1072
  let c512_i32_1074 : BitVec 32 := 512#32
  let v1591 : BitVec 32 := Scalar.muli v1588 c512_i32_1074
  v1591
def k0_mult46 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c8_i32 : BitVec 32 := 8#32
  let v1603 : BitVec 32 := Scalar.addi v1082 c8_i32
  let c16_i32_1085 : BitVec 32 := 16#32
  let v1604 : BitVec 32 := Scalar.divsi v1603 c16_i32_1085
  let c1024_i32_1087 : BitVec 32 := 1024#32
  let v1606 : BitVec 32 := Scalar.muli v1604 c1024_i32_1087
  v1606
def k0_mult47 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c8_i32 : BitVec 32 := 8#32
  let v1603 : BitVec 32 := Scalar.addi v1082 c8_i32
  let c16_i32_1086 : BitVec 32 := 16#32
  let v1605 : BitVec 32 := Scalar.remsi v1603 c16_i32_1086
  let c512_i32_1088 : BitVec 32 := 512#32
  let v1608 : BitVec 32 := Scalar.muli v1605 c512_i32_1088
  v1608
def k0_mult48 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c8_i32 : BitVec 32 := 8#32
  let v1603 : BitVec 32 := Scalar.addi v1082 c8_i32
  let c1_i32_1098 : BitVec 32 := 1#32
  let v1625 : BitVec 32 := Scalar.addi v1603 c1_i32_1098
  let c16_i32_1099 : BitVec 32 := 16#32
  let v1626 : BitVec 32 := Scalar.remsi v1625 c16_i32_1099
  let c512_i32_1100 : BitVec 32 := 512#32
  let v1627 : BitVec 32 := Scalar.muli v1626 c512_i32_1100
  v1627
def k0_mult49 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c8_i32 : BitVec 32 := 8#32
  let v1603 : BitVec 32 := Scalar.addi v1082 c8_i32
  let c2_i32_1113 : BitVec 32 := 2#32
  let v1651 : BitVec 32 := Scalar.addi v1603 c2_i32_1113
  let c16_i32_1114 : BitVec 32 := 16#32
  let v1652 : BitVec 32 := Scalar.divsi v1651 c16_i32_1114
  let c1024_i32_1116 : BitVec 32 := 1024#32
  let v1654 : BitVec 32 := Scalar.muli v1652 c1024_i32_1116
  v1654
def k0_mult50 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c8_i32 : BitVec 32 := 8#32
  let v1603 : BitVec 32 := Scalar.addi v1082 c8_i32
  let c2_i32_1113 : BitVec 32 := 2#32
  let v1651 : BitVec 32 := Scalar.addi v1603 c2_i32_1113
  let c16_i32_1115 : BitVec 32 := 16#32
  let v1653 : BitVec 32 := Scalar.remsi v1651 c16_i32_1115
  let c512_i32_1117 : BitVec 32 := 512#32
  let v1656 : BitVec 32 := Scalar.muli v1653 c512_i32_1117
  v1656
def k0_mult51 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c9_i32 : BitVec 32 := 9#32
  let v1668 : BitVec 32 := Scalar.addi v1082 c9_i32
  let c16_i32_1128 : BitVec 32 := 16#32
  let v1669 : BitVec 32 := Scalar.divsi v1668 c16_i32_1128
  let c1024_i32_1130 : BitVec 32 := 1024#32
  let v1671 : BitVec 32 := Scalar.muli v1669 c1024_i32_1130
  v1671
def k0_mult52 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c9_i32 : BitVec 32 := 9#32
  let v1668 : BitVec 32 := Scalar.addi v1082 c9_i32
  let c16_i32_1129 : BitVec 32 := 16#32
  let v1670 : BitVec 32 := Scalar.remsi v1668 c16_i32_1129
  let c512_i32_1131 : BitVec 32 := 512#32
  let v1673 : BitVec 32 := Scalar.muli v1670 c512_i32_1131
  v1673
def k0_mult53 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c9_i32 : BitVec 32 := 9#32
  let v1668 : BitVec 32 := Scalar.addi v1082 c9_i32
  let c1_i32_1141 : BitVec 32 := 1#32
  let v1690 : BitVec 32 := Scalar.addi v1668 c1_i32_1141
  let c16_i32_1142 : BitVec 32 := 16#32
  let v1691 : BitVec 32 := Scalar.remsi v1690 c16_i32_1142
  let c512_i32_1143 : BitVec 32 := 512#32
  let v1692 : BitVec 32 := Scalar.muli v1691 c512_i32_1143
  v1692
def k0_mult54 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c9_i32 : BitVec 32 := 9#32
  let v1668 : BitVec 32 := Scalar.addi v1082 c9_i32
  let c2_i32_1156 : BitVec 32 := 2#32
  let v1716 : BitVec 32 := Scalar.addi v1668 c2_i32_1156
  let c16_i32_1157 : BitVec 32 := 16#32
  let v1717 : BitVec 32 := Scalar.divsi v1716 c16_i32_1157
  let c1024_i32_1159 : BitVec 32 := 1024#32
  let v1719 : BitVec 32 := Scalar.muli v1717 c1024_i32_1159
  v1719
def k0_mult55 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c9_i32 : BitVec 32 := 9#32
  let v1668 : BitVec 32 := Scalar.addi v1082 c9_i32
  let c2_i32_1156 : BitVec 32 := 2#32
  let v1716 : BitVec 32 := Scalar.addi v1668 c2_i32_1156
  let c16_i32_1158 : BitVec 32 := 16#32
  let v1718 : BitVec 32 := Scalar.remsi v1716 c16_i32_1158
  let c512_i32_1160 : BitVec 32 := 512#32
  let v1721 : BitVec 32 := Scalar.muli v1718 c512_i32_1160
  v1721
def k0_mult56 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c10_i32 : BitVec 32 := 10#32
  let v1733 : BitVec 32 := Scalar.addi v1082 c10_i32
  let c16_i32_1171 : BitVec 32 := 16#32
  let v1734 : BitVec 32 := Scalar.divsi v1733 c16_i32_1171
  let c1024_i32_1173 : BitVec 32 := 1024#32
  let v1736 : BitVec 32 := Scalar.muli v1734 c1024_i32_1173
  v1736
def k0_mult57 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c10_i32 : BitVec 32 := 10#32
  let v1733 : BitVec 32 := Scalar.addi v1082 c10_i32
  let c16_i32_1172 : BitVec 32 := 16#32
  let v1735 : BitVec 32 := Scalar.remsi v1733 c16_i32_1172
  let c512_i32_1174 : BitVec 32 := 512#32
  let v1738 : BitVec 32 := Scalar.muli v1735 c512_i32_1174
  v1738
def k0_mult58 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c10_i32 : BitVec 32 := 10#32
  let v1733 : BitVec 32 := Scalar.addi v1082 c10_i32
  let c1_i32_1184 : BitVec 32 := 1#32
  let v1755 : BitVec 32 := Scalar.addi v1733 c1_i32_1184
  let c16_i32_1185 : BitVec 32 := 16#32
  let v1756 : BitVec 32 := Scalar.remsi v1755 c16_i32_1185
  let c512_i32_1186 : BitVec 32 := 512#32
  let v1757 : BitVec 32 := Scalar.muli v1756 c512_i32_1186
  v1757
def k0_mult59 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c10_i32 : BitVec 32 := 10#32
  let v1733 : BitVec 32 := Scalar.addi v1082 c10_i32
  let c2_i32_1199 : BitVec 32 := 2#32
  let v1781 : BitVec 32 := Scalar.addi v1733 c2_i32_1199
  let c16_i32_1200 : BitVec 32 := 16#32
  let v1782 : BitVec 32 := Scalar.divsi v1781 c16_i32_1200
  let c1024_i32_1202 : BitVec 32 := 1024#32
  let v1784 : BitVec 32 := Scalar.muli v1782 c1024_i32_1202
  v1784
def k0_mult60 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c10_i32 : BitVec 32 := 10#32
  let v1733 : BitVec 32 := Scalar.addi v1082 c10_i32
  let c2_i32_1199 : BitVec 32 := 2#32
  let v1781 : BitVec 32 := Scalar.addi v1733 c2_i32_1199
  let c16_i32_1201 : BitVec 32 := 16#32
  let v1783 : BitVec 32 := Scalar.remsi v1781 c16_i32_1201
  let c512_i32_1203 : BitVec 32 := 512#32
  let v1786 : BitVec 32 := Scalar.muli v1783 c512_i32_1203
  v1786
def k0_mult61 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c11_i32 : BitVec 32 := 11#32
  let v1798 : BitVec 32 := Scalar.addi v1082 c11_i32
  let c16_i32_1214 : BitVec 32 := 16#32
  let v1799 : BitVec 32 := Scalar.divsi v1798 c16_i32_1214
  let c1024_i32_1216 : BitVec 32 := 1024#32
  let v1801 : BitVec 32 := Scalar.muli v1799 c1024_i32_1216
  v1801
def k0_mult62 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c11_i32 : BitVec 32 := 11#32
  let v1798 : BitVec 32 := Scalar.addi v1082 c11_i32
  let c16_i32_1215 : BitVec 32 := 16#32
  let v1800 : BitVec 32 := Scalar.remsi v1798 c16_i32_1215
  let c512_i32_1217 : BitVec 32 := 512#32
  let v1803 : BitVec 32 := Scalar.muli v1800 c512_i32_1217
  v1803
def k0_mult63 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c11_i32 : BitVec 32 := 11#32
  let v1798 : BitVec 32 := Scalar.addi v1082 c11_i32
  let c1_i32_1227 : BitVec 32 := 1#32
  let v1820 : BitVec 32 := Scalar.addi v1798 c1_i32_1227
  let c16_i32_1228 : BitVec 32 := 16#32
  let v1821 : BitVec 32 := Scalar.remsi v1820 c16_i32_1228
  let c512_i32_1229 : BitVec 32 := 512#32
  let v1822 : BitVec 32 := Scalar.muli v1821 c512_i32_1229
  v1822
def k0_mult64 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c11_i32 : BitVec 32 := 11#32
  let v1798 : BitVec 32 := Scalar.addi v1082 c11_i32
  let c2_i32_1242 : BitVec 32 := 2#32
  let v1846 : BitVec 32 := Scalar.addi v1798 c2_i32_1242
  let c16_i32_1243 : BitVec 32 := 16#32
  let v1847 : BitVec 32 := Scalar.divsi v1846 c16_i32_1243
  let c1024_i32_1245 : BitVec 32 := 1024#32
  let v1849 : BitVec 32 := Scalar.muli v1847 c1024_i32_1245
  v1849
def k0_mult65 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c11_i32 : BitVec 32 := 11#32
  let v1798 : BitVec 32 := Scalar.addi v1082 c11_i32
  let c2_i32_1242 : BitVec 32 := 2#32
  let v1846 : BitVec 32 := Scalar.addi v1798 c2_i32_1242
  let c16_i32_1244 : BitVec 32 := 16#32
  let v1848 : BitVec 32 := Scalar.remsi v1846 c16_i32_1244
  let c512_i32_1246 : BitVec 32 := 512#32
  let v1851 : BitVec 32 := Scalar.muli v1848 c512_i32_1246
  v1851
def k0_mult66 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c12_i32 : BitVec 32 := 12#32
  let v1863 : BitVec 32 := Scalar.addi v1082 c12_i32
  let c16_i32_1257 : BitVec 32 := 16#32
  let v1864 : BitVec 32 := Scalar.divsi v1863 c16_i32_1257
  let c1024_i32_1259 : BitVec 32 := 1024#32
  let v1866 : BitVec 32 := Scalar.muli v1864 c1024_i32_1259
  v1866
def k0_mult67 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c12_i32 : BitVec 32 := 12#32
  let v1863 : BitVec 32 := Scalar.addi v1082 c12_i32
  let c16_i32_1258 : BitVec 32 := 16#32
  let v1865 : BitVec 32 := Scalar.remsi v1863 c16_i32_1258
  let c512_i32_1260 : BitVec 32 := 512#32
  let v1868 : BitVec 32 := Scalar.muli v1865 c512_i32_1260
  v1868
def k0_mult68 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c12_i32 : BitVec 32 := 12#32
  let v1863 : BitVec 32 := Scalar.addi v1082 c12_i32
  let c1_i32_1270 : BitVec 32 := 1#32
  let v1885 : BitVec 32 := Scalar.addi v1863 c1_i32_1270
  let c16_i32_1271 : BitVec 32 := 16#32
  let v1886 : BitVec 32 := Scalar.remsi v1885 c16_i32_1271
  let c512_i32_1272 : BitVec 32 := 512#32
  let v1887 : BitVec 32 := Scalar.muli v1886 c512_i32_1272
  v1887
def k0_mult69 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c12_i32 : BitVec 32 := 12#32
  let v1863 : BitVec 32 := Scalar.addi v1082 c12_i32
  let c2_i32_1285 : BitVec 32 := 2#32
  let v1911 : BitVec 32 := Scalar.addi v1863 c2_i32_1285
  let c16_i32_1286 : BitVec 32 := 16#32
  let v1912 : BitVec 32 := Scalar.divsi v1911 c16_i32_1286
  let c1024_i32_1288 : BitVec 32 := 1024#32
  let v1914 : BitVec 32 := Scalar.muli v1912 c1024_i32_1288
  v1914
def k0_mult70 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c12_i32 : BitVec 32 := 12#32
  let v1863 : BitVec 32 := Scalar.addi v1082 c12_i32
  let c2_i32_1285 : BitVec 32 := 2#32
  let v1911 : BitVec 32 := Scalar.addi v1863 c2_i32_1285
  let c16_i32_1287 : BitVec 32 := 16#32
  let v1913 : BitVec 32 := Scalar.remsi v1911 c16_i32_1287
  let c512_i32_1289 : BitVec 32 := 512#32
  let v1916 : BitVec 32 := Scalar.muli v1913 c512_i32_1289
  v1916
def k0_mult71 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c13_i32 : BitVec 32 := 13#32
  let v1928 : BitVec 32 := Scalar.addi v1082 c13_i32
  let c16_i32_1300 : BitVec 32 := 16#32
  let v1929 : BitVec 32 := Scalar.divsi v1928 c16_i32_1300
  let c1024_i32_1302 : BitVec 32 := 1024#32
  let v1931 : BitVec 32 := Scalar.muli v1929 c1024_i32_1302
  v1931
def k0_mult72 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c13_i32 : BitVec 32 := 13#32
  let v1928 : BitVec 32 := Scalar.addi v1082 c13_i32
  let c16_i32_1301 : BitVec 32 := 16#32
  let v1930 : BitVec 32 := Scalar.remsi v1928 c16_i32_1301
  let c512_i32_1303 : BitVec 32 := 512#32
  let v1933 : BitVec 32 := Scalar.muli v1930 c512_i32_1303
  v1933
def k0_mult73 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c13_i32 : BitVec 32 := 13#32
  let v1928 : BitVec 32 := Scalar.addi v1082 c13_i32
  let c1_i32_1313 : BitVec 32 := 1#32
  let v1950 : BitVec 32 := Scalar.addi v1928 c1_i32_1313
  let c16_i32_1314 : BitVec 32 := 16#32
  let v1951 : BitVec 32 := Scalar.remsi v1950 c16_i32_1314
  let c512_i32_1315 : BitVec 32 := 512#32
  let v1952 : BitVec 32 := Scalar.muli v1951 c512_i32_1315
  v1952
def k0_mult74 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c13_i32 : BitVec 32 := 13#32
  let v1928 : BitVec 32 := Scalar.addi v1082 c13_i32
  let c2_i32_1328 : BitVec 32 := 2#32
  let v1976 : BitVec 32 := Scalar.addi v1928 c2_i32_1328
  let c16_i32_1329 : BitVec 32 := 16#32
  let v1977 : BitVec 32 := Scalar.divsi v1976 c16_i32_1329
  let c1024_i32_1331 : BitVec 32 := 1024#32
  let v1979 : BitVec 32 := Scalar.muli v1977 c1024_i32_1331
  v1979
def k0_mult75 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c13_i32 : BitVec 32 := 13#32
  let v1928 : BitVec 32 := Scalar.addi v1082 c13_i32
  let c2_i32_1328 : BitVec 32 := 2#32
  let v1976 : BitVec 32 := Scalar.addi v1928 c2_i32_1328
  let c16_i32_1330 : BitVec 32 := 16#32
  let v1978 : BitVec 32 := Scalar.remsi v1976 c16_i32_1330
  let c512_i32_1332 : BitVec 32 := 512#32
  let v1981 : BitVec 32 := Scalar.muli v1978 c512_i32_1332
  v1981
def k0_mult76 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c14_i32 : BitVec 32 := 14#32
  let v1993 : BitVec 32 := Scalar.addi v1082 c14_i32
  let c16_i32_1343 : BitVec 32 := 16#32
  let v1994 : BitVec 32 := Scalar.divsi v1993 c16_i32_1343
  let c1024_i32_1345 : BitVec 32 := 1024#32
  let v1996 : BitVec 32 := Scalar.muli v1994 c1024_i32_1345
  v1996
def k0_mult77 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c14_i32 : BitVec 32 := 14#32
  let v1993 : BitVec 32 := Scalar.addi v1082 c14_i32
  let c16_i32_1344 : BitVec 32 := 16#32
  let v1995 : BitVec 32 := Scalar.remsi v1993 c16_i32_1344
  let c512_i32_1346 : BitVec 32 := 512#32
  let v1998 : BitVec 32 := Scalar.muli v1995 c512_i32_1346
  v1998
def k0_mult78 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c14_i32 : BitVec 32 := 14#32
  let v1993 : BitVec 32 := Scalar.addi v1082 c14_i32
  let c1_i32_1356 : BitVec 32 := 1#32
  let v2015 : BitVec 32 := Scalar.addi v1993 c1_i32_1356
  let c16_i32_1357 : BitVec 32 := 16#32
  let v2016 : BitVec 32 := Scalar.remsi v2015 c16_i32_1357
  let c512_i32_1358 : BitVec 32 := 512#32
  let v2017 : BitVec 32 := Scalar.muli v2016 c512_i32_1358
  v2017
def k0_mult79 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c14_i32 : BitVec 32 := 14#32
  let v1993 : BitVec 32 := Scalar.addi v1082 c14_i32
  let c2_i32_1371 : BitVec 32 := 2#32
  let v2041 : BitVec 32 := Scalar.addi v1993 c2_i32_1371
  let c16_i32_1372 : BitVec 32 := 16#32
  let v2042 : BitVec 32 := Scalar.divsi v2041 c16_i32_1372
  let c1024_i32_1374 : BitVec 32 := 1024#32
  let v2044 : BitVec 32 := Scalar.muli v2042 c1024_i32_1374
  v2044
def k0_mult80 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c14_i32 : BitVec 32 := 14#32
  let v1993 : BitVec 32 := Scalar.addi v1082 c14_i32
  let c2_i32_1371 : BitVec 32 := 2#32
  let v2041 : BitVec 32 := Scalar.addi v1993 c2_i32_1371
  let c16_i32_1373 : BitVec 32 := 16#32
  let v2043 : BitVec 32 := Scalar.remsi v2041 c16_i32_1373
  let c512_i32_1375 : BitVec 32 := 512#32
  let v2046 : BitVec 32 := Scalar.muli v2043 c512_i32_1375
  v2046
def k0_mult81 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c15_i32 : BitVec 32 := 15#32
  let v2058 : BitVec 32 := Scalar.addi v1082 c15_i32
  let c16_i32_1386 : BitVec 32 := 16#32
  let v2059 : BitVec 32 := Scalar.divsi v2058 c16_i32_1386
  let c1024_i32_1388 : BitVec 32 := 1024#32
  let v2061 : BitVec 32 := Scalar.muli v2059 c1024_i32_1388
  v2061
def k0_mult82 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c15_i32 : BitVec 32 := 15#32
  let v2058 : BitVec 32 := Scalar.addi v1082 c15_i32
  let c16_i32_1387 : BitVec 32 := 16#32
  let v2060 : BitVec 32 := Scalar.remsi v2058 c16_i32_1387
  let c512_i32_1389 : BitVec 32 := 512#32
  let v2063 : BitVec 32 := Scalar.muli v2060 c512_i32_1389
  v2063
def k0_mult83 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c15_i32 : BitVec 32 := 15#32
  let v2058 : BitVec 32 := Scalar.addi v1082 c15_i32
  let c1_i32_1399 : BitVec 32 := 1#32
  let v2080 : BitVec 32 := Scalar.addi v2058 c1_i32_1399
  let c16_i32_1400 : BitVec 32 := 16#32
  let v2081 : BitVec 32 := Scalar.remsi v2080 c16_i32_1400
  let c512_i32_1401 : BitVec 32 := 512#32
  let v2082 : BitVec 32 := Scalar.muli v2081 c512_i32_1401
  v2082
def k0_mult84 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c15_i32 : BitVec 32 := 15#32
  let v2058 : BitVec 32 := Scalar.addi v1082 c15_i32
  let c2_i32_1414 : BitVec 32 := 2#32
  let v2106 : BitVec 32 := Scalar.addi v2058 c2_i32_1414
  let c16_i32_1415 : BitVec 32 := 16#32
  let v2107 : BitVec 32 := Scalar.divsi v2106 c16_i32_1415
  let c1024_i32_1417 : BitVec 32 := 1024#32
  let v2109 : BitVec 32 := Scalar.muli v2107 c1024_i32_1417
  v2109
def k0_mult85 (k0_t1 : Fin k0_t1_loop.trips) : BitVec 32 :=
  let c0_i32_45 : BitVec 32 := 0#32
  let c1_i32_46 : BitVec 32 := 1#32
  let arg10 : BitVec 32 := Scf.iv c0_i32_45 c1_i32_46 k0_t1
  let c16_i32_737 : BitVec 32 := 16#32
  let v1082 : BitVec 32 := Scalar.muli arg10 c16_i32_737
  let c15_i32 : BitVec 32 := 15#32
  let v2058 : BitVec 32 := Scalar.addi v1082 c15_i32
  let c2_i32_1414 : BitVec 32 := 2#32
  let v2106 : BitVec 32 := Scalar.addi v2058 c2_i32_1414
  let c16_i32_1416 : BitVec 32 := 16#32
  let v2108 : BitVec 32 := Scalar.remsi v2106 c16_i32_1416
  let c512_i32_1418 : BitVec 32 := 512#32
  let v2111 : BitVec 32 := Scalar.muli v2108 c512_i32_1418
  v2111
def k0_mult86 : BitVec 32 :=
  let c112_i32 : BitVec 32 := 112#32
  let c16_i32_48 : BitVec 32 := 16#32
  let v67 : BitVec 32 := Scalar.divsi c112_i32 c16_i32_48
  let c1024_i32_51 : BitVec 32 := 1024#32
  let v69 : BitVec 32 := Scalar.muli v67 c1024_i32_51
  v69
def k0_mult87 : BitVec 32 :=
  let c112_i32_49 : BitVec 32 := 112#32
  let c16_i32_50 : BitVec 32 := 16#32
  let v68 : BitVec 32 := Scalar.remsi c112_i32_49 c16_i32_50
  let c512_i32_52 : BitVec 32 := 512#32
  let v71 : BitVec 32 := Scalar.muli v68 c512_i32_52
  v71
def k0_off9 (c112_i32_49 : BitVec 32) : Fin 2 → Nat :=
  let c0_53 : Index := 0#32
  let c16_i32_50 : BitVec 32 := 16#32
  let v68 : BitVec 32 := Scalar.remsi c112_i32_49 c16_i32_50
  let c512_i32_52 : BitVec 32 := 512#32
  let v71 : BitVec 32 := Scalar.muli v68 c512_i32_52
  let v72 : BitVec 32 := v71
  let v73 : Index := Scalar.indexCast v72
  ![0, v73.toNat]
def k0_off10 (c112_i32 : BitVec 32) : Fin 4 → Nat :=
  let c0_54 : Index := 0#32
  let c0_55 : Index := 0#32
  let c0_56 : Index := 0#32
  let c16_i32_48 : BitVec 32 := 16#32
  let v67 : BitVec 32 := Scalar.divsi c112_i32 c16_i32_48
  let c1024_i32_51 : BitVec 32 := 1024#32
  let v69 : BitVec 32 := Scalar.muli v67 c1024_i32_51
  let v70 : BitVec 32 := v69
  let v77 : Index := Scalar.indexCast v70
  ![0, 0, 0, v77.toNat]
def k0_off11 (c112_i32_49 : BitVec 32) : Fin 3 → Nat :=
  let c0_61 : Index := 0#32
  let c16_i32_50 : BitVec 32 := 16#32
  let v68 : BitVec 32 := Scalar.remsi c112_i32_49 c16_i32_50
  let c512_i32_52 : BitVec 32 := 512#32
  let v71 : BitVec 32 := Scalar.muli v68 c512_i32_52
  let v72 : BitVec 32 := v71
  let v89 : Index := Scalar.indexCast v72
  let c0_62 : Index := 0#32
  ![0, v89.toNat, 0]
def k0_mult88 : BitVec 32 :=
  let c113_i32 : BitVec 32 := 113#32
  let c16_i32_63 : BitVec 32 := 16#32
  let v93 : BitVec 32 := Scalar.remsi c113_i32 c16_i32_63
  let c512_i32_64 : BitVec 32 := 512#32
  let v94 : BitVec 32 := Scalar.muli v93 c512_i32_64
  v94
def k0_mult89 : BitVec 32 :=
  let c114_i32 : BitVec 32 := 114#32
  let c16_i32_77 : BitVec 32 := 16#32
  let v118 : BitVec 32 := Scalar.divsi c114_i32 c16_i32_77
  let c1024_i32_80 : BitVec 32 := 1024#32
  let v120 : BitVec 32 := Scalar.muli v118 c1024_i32_80
  v120
def k0_mult90 : BitVec 32 :=
  let c114_i32_78 : BitVec 32 := 114#32
  let c16_i32_79 : BitVec 32 := 16#32
  let v119 : BitVec 32 := Scalar.remsi c114_i32_78 c16_i32_79
  let c512_i32_81 : BitVec 32 := 512#32
  let v122 : BitVec 32 := Scalar.muli v119 c512_i32_81
  v122
def k0_mult91 : BitVec 32 :=
  let c113_i32_92 : BitVec 32 := 113#32
  let c16_i32_93 : BitVec 32 := 16#32
  let v134 : BitVec 32 := Scalar.divsi c113_i32_92 c16_i32_93
  let c1024_i32_96 : BitVec 32 := 1024#32
  let v136 : BitVec 32 := Scalar.muli v134 c1024_i32_96
  v136
def k0_mult92 : BitVec 32 :=
  let c113_i32_94 : BitVec 32 := 113#32
  let c16_i32_95 : BitVec 32 := 16#32
  let v135 : BitVec 32 := Scalar.remsi c113_i32_94 c16_i32_95
  let c512_i32_97 : BitVec 32 := 512#32
  let v138 : BitVec 32 := Scalar.muli v135 c512_i32_97
  v138
def k0_mult93 : BitVec 32 :=
  let c114_i32_108 : BitVec 32 := 114#32
  let c16_i32_109 : BitVec 32 := 16#32
  let v160 : BitVec 32 := Scalar.remsi c114_i32_108 c16_i32_109
  let c512_i32_110 : BitVec 32 := 512#32
  let v161 : BitVec 32 := Scalar.muli v160 c512_i32_110
  v161
def k0_mult94 : BitVec 32 :=
  let c115_i32 : BitVec 32 := 115#32
  let c16_i32_123 : BitVec 32 := 16#32
  let v185 : BitVec 32 := Scalar.divsi c115_i32 c16_i32_123
  let c1024_i32_126 : BitVec 32 := 1024#32
  let v187 : BitVec 32 := Scalar.muli v185 c1024_i32_126
  v187
def k0_mult95 : BitVec 32 :=
  let c115_i32_124 : BitVec 32 := 115#32
  let c16_i32_125 : BitVec 32 := 16#32
  let v186 : BitVec 32 := Scalar.remsi c115_i32_124 c16_i32_125
  let c512_i32_127 : BitVec 32 := 512#32
  let v189 : BitVec 32 := Scalar.muli v186 c512_i32_127
  v189
def k0_mult96 : BitVec 32 :=
  let c114_i32_138 : BitVec 32 := 114#32
  let c16_i32_139 : BitVec 32 := 16#32
  let v201 : BitVec 32 := Scalar.divsi c114_i32_138 c16_i32_139
  let c1024_i32_142 : BitVec 32 := 1024#32
  let v203 : BitVec 32 := Scalar.muli v201 c1024_i32_142
  v203
def k0_mult97 : BitVec 32 :=
  let c114_i32_140 : BitVec 32 := 114#32
  let c16_i32_141 : BitVec 32 := 16#32
  let v202 : BitVec 32 := Scalar.remsi c114_i32_140 c16_i32_141
  let c512_i32_143 : BitVec 32 := 512#32
  let v205 : BitVec 32 := Scalar.muli v202 c512_i32_143
  v205
def k0_mult98 : BitVec 32 :=
  let c115_i32_154 : BitVec 32 := 115#32
  let c16_i32_155 : BitVec 32 := 16#32
  let v227 : BitVec 32 := Scalar.remsi c115_i32_154 c16_i32_155
  let c512_i32_156 : BitVec 32 := 512#32
  let v228 : BitVec 32 := Scalar.muli v227 c512_i32_156
  v228
def k0_mult99 : BitVec 32 :=
  let c116_i32 : BitVec 32 := 116#32
  let c16_i32_169 : BitVec 32 := 16#32
  let v252 : BitVec 32 := Scalar.divsi c116_i32 c16_i32_169
  let c1024_i32_172 : BitVec 32 := 1024#32
  let v254 : BitVec 32 := Scalar.muli v252 c1024_i32_172
  v254
def k0_mult100 : BitVec 32 :=
  let c116_i32_170 : BitVec 32 := 116#32
  let c16_i32_171 : BitVec 32 := 16#32
  let v253 : BitVec 32 := Scalar.remsi c116_i32_170 c16_i32_171
  let c512_i32_173 : BitVec 32 := 512#32
  let v256 : BitVec 32 := Scalar.muli v253 c512_i32_173
  v256
def k0_mult101 : BitVec 32 :=
  let c115_i32_184 : BitVec 32 := 115#32
  let c16_i32_185 : BitVec 32 := 16#32
  let v268 : BitVec 32 := Scalar.divsi c115_i32_184 c16_i32_185
  let c1024_i32_188 : BitVec 32 := 1024#32
  let v270 : BitVec 32 := Scalar.muli v268 c1024_i32_188
  v270
def k0_mult102 : BitVec 32 :=
  let c115_i32_186 : BitVec 32 := 115#32
  let c16_i32_187 : BitVec 32 := 16#32
  let v269 : BitVec 32 := Scalar.remsi c115_i32_186 c16_i32_187
  let c512_i32_189 : BitVec 32 := 512#32
  let v272 : BitVec 32 := Scalar.muli v269 c512_i32_189
  v272
def k0_mult103 : BitVec 32 :=
  let c116_i32_200 : BitVec 32 := 116#32
  let c16_i32_201 : BitVec 32 := 16#32
  let v294 : BitVec 32 := Scalar.remsi c116_i32_200 c16_i32_201
  let c512_i32_202 : BitVec 32 := 512#32
  let v295 : BitVec 32 := Scalar.muli v294 c512_i32_202
  v295
def k0_mult104 : BitVec 32 :=
  let c117_i32 : BitVec 32 := 117#32
  let c16_i32_215 : BitVec 32 := 16#32
  let v319 : BitVec 32 := Scalar.divsi c117_i32 c16_i32_215
  let c1024_i32_218 : BitVec 32 := 1024#32
  let v321 : BitVec 32 := Scalar.muli v319 c1024_i32_218
  v321
def k0_mult105 : BitVec 32 :=
  let c117_i32_216 : BitVec 32 := 117#32
  let c16_i32_217 : BitVec 32 := 16#32
  let v320 : BitVec 32 := Scalar.remsi c117_i32_216 c16_i32_217
  let c512_i32_219 : BitVec 32 := 512#32
  let v323 : BitVec 32 := Scalar.muli v320 c512_i32_219
  v323
def k0_mult106 : BitVec 32 :=
  let c116_i32_230 : BitVec 32 := 116#32
  let c16_i32_231 : BitVec 32 := 16#32
  let v335 : BitVec 32 := Scalar.divsi c116_i32_230 c16_i32_231
  let c1024_i32_234 : BitVec 32 := 1024#32
  let v337 : BitVec 32 := Scalar.muli v335 c1024_i32_234
  v337
def k0_mult107 : BitVec 32 :=
  let c116_i32_232 : BitVec 32 := 116#32
  let c16_i32_233 : BitVec 32 := 16#32
  let v336 : BitVec 32 := Scalar.remsi c116_i32_232 c16_i32_233
  let c512_i32_235 : BitVec 32 := 512#32
  let v339 : BitVec 32 := Scalar.muli v336 c512_i32_235
  v339
def k0_mult108 : BitVec 32 :=
  let c117_i32_246 : BitVec 32 := 117#32
  let c16_i32_247 : BitVec 32 := 16#32
  let v361 : BitVec 32 := Scalar.remsi c117_i32_246 c16_i32_247
  let c512_i32_248 : BitVec 32 := 512#32
  let v362 : BitVec 32 := Scalar.muli v361 c512_i32_248
  v362
def k0_mult109 : BitVec 32 :=
  let c118_i32 : BitVec 32 := 118#32
  let c16_i32_261 : BitVec 32 := 16#32
  let v386 : BitVec 32 := Scalar.divsi c118_i32 c16_i32_261
  let c1024_i32_264 : BitVec 32 := 1024#32
  let v388 : BitVec 32 := Scalar.muli v386 c1024_i32_264
  v388
def k0_mult110 : BitVec 32 :=
  let c118_i32_262 : BitVec 32 := 118#32
  let c16_i32_263 : BitVec 32 := 16#32
  let v387 : BitVec 32 := Scalar.remsi c118_i32_262 c16_i32_263
  let c512_i32_265 : BitVec 32 := 512#32
  let v390 : BitVec 32 := Scalar.muli v387 c512_i32_265
  v390
def k0_mult111 : BitVec 32 :=
  let c117_i32_276 : BitVec 32 := 117#32
  let c16_i32_277 : BitVec 32 := 16#32
  let v402 : BitVec 32 := Scalar.divsi c117_i32_276 c16_i32_277
  let c1024_i32_280 : BitVec 32 := 1024#32
  let v404 : BitVec 32 := Scalar.muli v402 c1024_i32_280
  v404
def k0_mult112 : BitVec 32 :=
  let c117_i32_278 : BitVec 32 := 117#32
  let c16_i32_279 : BitVec 32 := 16#32
  let v403 : BitVec 32 := Scalar.remsi c117_i32_278 c16_i32_279
  let c512_i32_281 : BitVec 32 := 512#32
  let v406 : BitVec 32 := Scalar.muli v403 c512_i32_281
  v406
def k0_mult113 : BitVec 32 :=
  let c118_i32_292 : BitVec 32 := 118#32
  let c16_i32_293 : BitVec 32 := 16#32
  let v428 : BitVec 32 := Scalar.remsi c118_i32_292 c16_i32_293
  let c512_i32_294 : BitVec 32 := 512#32
  let v429 : BitVec 32 := Scalar.muli v428 c512_i32_294
  v429
def k0_mult114 : BitVec 32 :=
  let c119_i32 : BitVec 32 := 119#32
  let c16_i32_307 : BitVec 32 := 16#32
  let v453 : BitVec 32 := Scalar.divsi c119_i32 c16_i32_307
  let c1024_i32_310 : BitVec 32 := 1024#32
  let v455 : BitVec 32 := Scalar.muli v453 c1024_i32_310
  v455
def k0_mult115 : BitVec 32 :=
  let c119_i32_308 : BitVec 32 := 119#32
  let c16_i32_309 : BitVec 32 := 16#32
  let v454 : BitVec 32 := Scalar.remsi c119_i32_308 c16_i32_309
  let c512_i32_311 : BitVec 32 := 512#32
  let v457 : BitVec 32 := Scalar.muli v454 c512_i32_311
  v457
def k0_mult116 : BitVec 32 :=
  let c118_i32_322 : BitVec 32 := 118#32
  let c16_i32_323 : BitVec 32 := 16#32
  let v469 : BitVec 32 := Scalar.divsi c118_i32_322 c16_i32_323
  let c1024_i32_326 : BitVec 32 := 1024#32
  let v471 : BitVec 32 := Scalar.muli v469 c1024_i32_326
  v471
def k0_mult117 : BitVec 32 :=
  let c118_i32_324 : BitVec 32 := 118#32
  let c16_i32_325 : BitVec 32 := 16#32
  let v470 : BitVec 32 := Scalar.remsi c118_i32_324 c16_i32_325
  let c512_i32_327 : BitVec 32 := 512#32
  let v473 : BitVec 32 := Scalar.muli v470 c512_i32_327
  v473
def k0_mult118 : BitVec 32 :=
  let c119_i32_338 : BitVec 32 := 119#32
  let c16_i32_339 : BitVec 32 := 16#32
  let v495 : BitVec 32 := Scalar.remsi c119_i32_338 c16_i32_339
  let c512_i32_340 : BitVec 32 := 512#32
  let v496 : BitVec 32 := Scalar.muli v495 c512_i32_340
  v496
def k0_mult119 : BitVec 32 :=
  let c120_i32 : BitVec 32 := 120#32
  let c16_i32_353 : BitVec 32 := 16#32
  let v520 : BitVec 32 := Scalar.divsi c120_i32 c16_i32_353
  let c1024_i32_356 : BitVec 32 := 1024#32
  let v522 : BitVec 32 := Scalar.muli v520 c1024_i32_356
  v522
def k0_mult120 : BitVec 32 :=
  let c120_i32_354 : BitVec 32 := 120#32
  let c16_i32_355 : BitVec 32 := 16#32
  let v521 : BitVec 32 := Scalar.remsi c120_i32_354 c16_i32_355
  let c512_i32_357 : BitVec 32 := 512#32
  let v524 : BitVec 32 := Scalar.muli v521 c512_i32_357
  v524
def k0_mult121 : BitVec 32 :=
  let c119_i32_368 : BitVec 32 := 119#32
  let c16_i32_369 : BitVec 32 := 16#32
  let v536 : BitVec 32 := Scalar.divsi c119_i32_368 c16_i32_369
  let c1024_i32_372 : BitVec 32 := 1024#32
  let v538 : BitVec 32 := Scalar.muli v536 c1024_i32_372
  v538
def k0_mult122 : BitVec 32 :=
  let c119_i32_370 : BitVec 32 := 119#32
  let c16_i32_371 : BitVec 32 := 16#32
  let v537 : BitVec 32 := Scalar.remsi c119_i32_370 c16_i32_371
  let c512_i32_373 : BitVec 32 := 512#32
  let v540 : BitVec 32 := Scalar.muli v537 c512_i32_373
  v540
def k0_mult123 : BitVec 32 :=
  let c120_i32_384 : BitVec 32 := 120#32
  let c16_i32_385 : BitVec 32 := 16#32
  let v562 : BitVec 32 := Scalar.remsi c120_i32_384 c16_i32_385
  let c512_i32_386 : BitVec 32 := 512#32
  let v563 : BitVec 32 := Scalar.muli v562 c512_i32_386
  v563
def k0_mult124 : BitVec 32 :=
  let c121_i32 : BitVec 32 := 121#32
  let c16_i32_399 : BitVec 32 := 16#32
  let v587 : BitVec 32 := Scalar.divsi c121_i32 c16_i32_399
  let c1024_i32_402 : BitVec 32 := 1024#32
  let v589 : BitVec 32 := Scalar.muli v587 c1024_i32_402
  v589
def k0_mult125 : BitVec 32 :=
  let c121_i32_400 : BitVec 32 := 121#32
  let c16_i32_401 : BitVec 32 := 16#32
  let v588 : BitVec 32 := Scalar.remsi c121_i32_400 c16_i32_401
  let c512_i32_403 : BitVec 32 := 512#32
  let v591 : BitVec 32 := Scalar.muli v588 c512_i32_403
  v591
def k0_mult126 : BitVec 32 :=
  let c120_i32_414 : BitVec 32 := 120#32
  let c16_i32_415 : BitVec 32 := 16#32
  let v603 : BitVec 32 := Scalar.divsi c120_i32_414 c16_i32_415
  let c1024_i32_418 : BitVec 32 := 1024#32
  let v605 : BitVec 32 := Scalar.muli v603 c1024_i32_418
  v605
def k0_mult127 : BitVec 32 :=
  let c120_i32_416 : BitVec 32 := 120#32
  let c16_i32_417 : BitVec 32 := 16#32
  let v604 : BitVec 32 := Scalar.remsi c120_i32_416 c16_i32_417
  let c512_i32_419 : BitVec 32 := 512#32
  let v607 : BitVec 32 := Scalar.muli v604 c512_i32_419
  v607
def k0_mult128 : BitVec 32 :=
  let c121_i32_430 : BitVec 32 := 121#32
  let c16_i32_431 : BitVec 32 := 16#32
  let v629 : BitVec 32 := Scalar.remsi c121_i32_430 c16_i32_431
  let c512_i32_432 : BitVec 32 := 512#32
  let v630 : BitVec 32 := Scalar.muli v629 c512_i32_432
  v630
def k0_mult129 : BitVec 32 :=
  let c122_i32 : BitVec 32 := 122#32
  let c16_i32_445 : BitVec 32 := 16#32
  let v654 : BitVec 32 := Scalar.divsi c122_i32 c16_i32_445
  let c1024_i32_448 : BitVec 32 := 1024#32
  let v656 : BitVec 32 := Scalar.muli v654 c1024_i32_448
  v656
def k0_mult130 : BitVec 32 :=
  let c122_i32_446 : BitVec 32 := 122#32
  let c16_i32_447 : BitVec 32 := 16#32
  let v655 : BitVec 32 := Scalar.remsi c122_i32_446 c16_i32_447
  let c512_i32_449 : BitVec 32 := 512#32
  let v658 : BitVec 32 := Scalar.muli v655 c512_i32_449
  v658
def k0_mult131 : BitVec 32 :=
  let c121_i32_460 : BitVec 32 := 121#32
  let c16_i32_461 : BitVec 32 := 16#32
  let v670 : BitVec 32 := Scalar.divsi c121_i32_460 c16_i32_461
  let c1024_i32_464 : BitVec 32 := 1024#32
  let v672 : BitVec 32 := Scalar.muli v670 c1024_i32_464
  v672
def k0_mult132 : BitVec 32 :=
  let c121_i32_462 : BitVec 32 := 121#32
  let c16_i32_463 : BitVec 32 := 16#32
  let v671 : BitVec 32 := Scalar.remsi c121_i32_462 c16_i32_463
  let c512_i32_465 : BitVec 32 := 512#32
  let v674 : BitVec 32 := Scalar.muli v671 c512_i32_465
  v674
def k0_mult133 : BitVec 32 :=
  let c122_i32_476 : BitVec 32 := 122#32
  let c16_i32_477 : BitVec 32 := 16#32
  let v696 : BitVec 32 := Scalar.remsi c122_i32_476 c16_i32_477
  let c512_i32_478 : BitVec 32 := 512#32
  let v697 : BitVec 32 := Scalar.muli v696 c512_i32_478
  v697
def k0_mult134 : BitVec 32 :=
  let c123_i32 : BitVec 32 := 123#32
  let c16_i32_491 : BitVec 32 := 16#32
  let v721 : BitVec 32 := Scalar.divsi c123_i32 c16_i32_491
  let c1024_i32_494 : BitVec 32 := 1024#32
  let v723 : BitVec 32 := Scalar.muli v721 c1024_i32_494
  v723
def k0_mult135 : BitVec 32 :=
  let c123_i32_492 : BitVec 32 := 123#32
  let c16_i32_493 : BitVec 32 := 16#32
  let v722 : BitVec 32 := Scalar.remsi c123_i32_492 c16_i32_493
  let c512_i32_495 : BitVec 32 := 512#32
  let v725 : BitVec 32 := Scalar.muli v722 c512_i32_495
  v725
def k0_mult136 : BitVec 32 :=
  let c122_i32_506 : BitVec 32 := 122#32
  let c16_i32_507 : BitVec 32 := 16#32
  let v737 : BitVec 32 := Scalar.divsi c122_i32_506 c16_i32_507
  let c1024_i32_510 : BitVec 32 := 1024#32
  let v739 : BitVec 32 := Scalar.muli v737 c1024_i32_510
  v739
def k0_mult137 : BitVec 32 :=
  let c122_i32_508 : BitVec 32 := 122#32
  let c16_i32_509 : BitVec 32 := 16#32
  let v738 : BitVec 32 := Scalar.remsi c122_i32_508 c16_i32_509
  let c512_i32_511 : BitVec 32 := 512#32
  let v741 : BitVec 32 := Scalar.muli v738 c512_i32_511
  v741
def k0_mult138 : BitVec 32 :=
  let c123_i32_522 : BitVec 32 := 123#32
  let c16_i32_523 : BitVec 32 := 16#32
  let v763 : BitVec 32 := Scalar.remsi c123_i32_522 c16_i32_523
  let c512_i32_524 : BitVec 32 := 512#32
  let v764 : BitVec 32 := Scalar.muli v763 c512_i32_524
  v764
def k0_mult139 : BitVec 32 :=
  let c124_i32 : BitVec 32 := 124#32
  let c16_i32_537 : BitVec 32 := 16#32
  let v788 : BitVec 32 := Scalar.divsi c124_i32 c16_i32_537
  let c1024_i32_540 : BitVec 32 := 1024#32
  let v790 : BitVec 32 := Scalar.muli v788 c1024_i32_540
  v790
def k0_mult140 : BitVec 32 :=
  let c124_i32_538 : BitVec 32 := 124#32
  let c16_i32_539 : BitVec 32 := 16#32
  let v789 : BitVec 32 := Scalar.remsi c124_i32_538 c16_i32_539
  let c512_i32_541 : BitVec 32 := 512#32
  let v792 : BitVec 32 := Scalar.muli v789 c512_i32_541
  v792
def k0_mult141 : BitVec 32 :=
  let c123_i32_552 : BitVec 32 := 123#32
  let c16_i32_553 : BitVec 32 := 16#32
  let v804 : BitVec 32 := Scalar.divsi c123_i32_552 c16_i32_553
  let c1024_i32_556 : BitVec 32 := 1024#32
  let v806 : BitVec 32 := Scalar.muli v804 c1024_i32_556
  v806
def k0_mult142 : BitVec 32 :=
  let c123_i32_554 : BitVec 32 := 123#32
  let c16_i32_555 : BitVec 32 := 16#32
  let v805 : BitVec 32 := Scalar.remsi c123_i32_554 c16_i32_555
  let c512_i32_557 : BitVec 32 := 512#32
  let v808 : BitVec 32 := Scalar.muli v805 c512_i32_557
  v808
def k0_mult143 : BitVec 32 :=
  let c124_i32_568 : BitVec 32 := 124#32
  let c16_i32_569 : BitVec 32 := 16#32
  let v830 : BitVec 32 := Scalar.remsi c124_i32_568 c16_i32_569
  let c512_i32_570 : BitVec 32 := 512#32
  let v831 : BitVec 32 := Scalar.muli v830 c512_i32_570
  v831
def k0_mult144 : BitVec 32 :=
  let c125_i32 : BitVec 32 := 125#32
  let c16_i32_583 : BitVec 32 := 16#32
  let v855 : BitVec 32 := Scalar.divsi c125_i32 c16_i32_583
  let c1024_i32_586 : BitVec 32 := 1024#32
  let v857 : BitVec 32 := Scalar.muli v855 c1024_i32_586
  v857
def k0_mult145 : BitVec 32 :=
  let c125_i32_584 : BitVec 32 := 125#32
  let c16_i32_585 : BitVec 32 := 16#32
  let v856 : BitVec 32 := Scalar.remsi c125_i32_584 c16_i32_585
  let c512_i32_587 : BitVec 32 := 512#32
  let v859 : BitVec 32 := Scalar.muli v856 c512_i32_587
  v859
def k0_mult146 : BitVec 32 :=
  let c124_i32_598 : BitVec 32 := 124#32
  let c16_i32_599 : BitVec 32 := 16#32
  let v871 : BitVec 32 := Scalar.divsi c124_i32_598 c16_i32_599
  let c1024_i32_602 : BitVec 32 := 1024#32
  let v873 : BitVec 32 := Scalar.muli v871 c1024_i32_602
  v873
def k0_mult147 : BitVec 32 :=
  let c124_i32_600 : BitVec 32 := 124#32
  let c16_i32_601 : BitVec 32 := 16#32
  let v872 : BitVec 32 := Scalar.remsi c124_i32_600 c16_i32_601
  let c512_i32_603 : BitVec 32 := 512#32
  let v875 : BitVec 32 := Scalar.muli v872 c512_i32_603
  v875
def k0_mult148 : BitVec 32 :=
  let c125_i32_614 : BitVec 32 := 125#32
  let c16_i32_615 : BitVec 32 := 16#32
  let v897 : BitVec 32 := Scalar.remsi c125_i32_614 c16_i32_615
  let c512_i32_616 : BitVec 32 := 512#32
  let v898 : BitVec 32 := Scalar.muli v897 c512_i32_616
  v898
def k0_mult149 : BitVec 32 :=
  let c126_i32 : BitVec 32 := 126#32
  let c16_i32_629 : BitVec 32 := 16#32
  let v922 : BitVec 32 := Scalar.divsi c126_i32 c16_i32_629
  let c1024_i32_632 : BitVec 32 := 1024#32
  let v924 : BitVec 32 := Scalar.muli v922 c1024_i32_632
  v924
def k0_mult150 : BitVec 32 :=
  let c126_i32_630 : BitVec 32 := 126#32
  let c16_i32_631 : BitVec 32 := 16#32
  let v923 : BitVec 32 := Scalar.remsi c126_i32_630 c16_i32_631
  let c512_i32_633 : BitVec 32 := 512#32
  let v926 : BitVec 32 := Scalar.muli v923 c512_i32_633
  v926
def k0_mult151 : BitVec 32 :=
  let c125_i32_644 : BitVec 32 := 125#32
  let c16_i32_645 : BitVec 32 := 16#32
  let v938 : BitVec 32 := Scalar.divsi c125_i32_644 c16_i32_645
  let c1024_i32_648 : BitVec 32 := 1024#32
  let v940 : BitVec 32 := Scalar.muli v938 c1024_i32_648
  v940
def k0_mult152 : BitVec 32 :=
  let c125_i32_646 : BitVec 32 := 125#32
  let c16_i32_647 : BitVec 32 := 16#32
  let v939 : BitVec 32 := Scalar.remsi c125_i32_646 c16_i32_647
  let c512_i32_649 : BitVec 32 := 512#32
  let v942 : BitVec 32 := Scalar.muli v939 c512_i32_649
  v942
def k0_mult153 : BitVec 32 :=
  let c126_i32_660 : BitVec 32 := 126#32
  let c16_i32_661 : BitVec 32 := 16#32
  let v964 : BitVec 32 := Scalar.remsi c126_i32_660 c16_i32_661
  let c512_i32_662 : BitVec 32 := 512#32
  let v965 : BitVec 32 := Scalar.muli v964 c512_i32_662
  v965
def k0_mult154 : BitVec 32 :=
  let c127_i32 : BitVec 32 := 127#32
  let c16_i32_675 : BitVec 32 := 16#32
  let v989 : BitVec 32 := Scalar.divsi c127_i32 c16_i32_675
  let c1024_i32_678 : BitVec 32 := 1024#32
  let v991 : BitVec 32 := Scalar.muli v989 c1024_i32_678
  v991
def k0_mult155 : BitVec 32 :=
  let c127_i32_676 : BitVec 32 := 127#32
  let c16_i32_677 : BitVec 32 := 16#32
  let v990 : BitVec 32 := Scalar.remsi c127_i32_676 c16_i32_677
  let c512_i32_679 : BitVec 32 := 512#32
  let v993 : BitVec 32 := Scalar.muli v990 c512_i32_679
  v993
def k0_mult156 : BitVec 32 :=
  let c126_i32_690 : BitVec 32 := 126#32
  let c16_i32_691 : BitVec 32 := 16#32
  let v1005 : BitVec 32 := Scalar.divsi c126_i32_690 c16_i32_691
  let c1024_i32_694 : BitVec 32 := 1024#32
  let v1007 : BitVec 32 := Scalar.muli v1005 c1024_i32_694
  v1007
def k0_mult157 : BitVec 32 :=
  let c126_i32_692 : BitVec 32 := 126#32
  let c16_i32_693 : BitVec 32 := 16#32
  let v1006 : BitVec 32 := Scalar.remsi c126_i32_692 c16_i32_693
  let c512_i32_695 : BitVec 32 := 512#32
  let v1009 : BitVec 32 := Scalar.muli v1006 c512_i32_695
  v1009
def k0_mult158 : BitVec 32 :=
  let c127_i32_706 : BitVec 32 := 127#32
  let c16_i32_707 : BitVec 32 := 16#32
  let v1031 : BitVec 32 := Scalar.remsi c127_i32_706 c16_i32_707
  let c512_i32_708 : BitVec 32 := 512#32
  let v1032 : BitVec 32 := Scalar.muli v1031 c512_i32_708
  v1032
def k0_mult159 : BitVec 32 :=
  let c127_i32_721 : BitVec 32 := 127#32
  let c16_i32_722 : BitVec 32 := 16#32
  let v1056 : BitVec 32 := Scalar.divsi c127_i32_721 c16_i32_722
  let c1024_i32_725 : BitVec 32 := 1024#32
  let v1058 : BitVec 32 := Scalar.muli v1056 c1024_i32_725
  v1058
def k0_mult160 : BitVec 32 :=
  let c127_i32_723 : BitVec 32 := 127#32
  let c16_i32_724 : BitVec 32 := 16#32
  let v1057 : BitVec 32 := Scalar.remsi c127_i32_723 c16_i32_724
  let c512_i32_726 : BitVec 32 := 512#32
  let v1060 : BitVec 32 := Scalar.muli v1057 c512_i32_726
  v1060
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6x8192x8x128 : Shape := ⟨4, ![6, 8192, 8, 128]⟩
abbrev S6x8192x8x64 : Shape := ⟨4, ![6, 8192, 8, 64]⟩
abbrev S6x8192x64 : Shape := ⟨3, ![6, 8192, 64]⟩
abbrev S6x8x8192x8192 : Shape := ⟨4, ![6, 8, 8192, 8192]⟩
abbrev S6x8192x8192x8 : Shape := ⟨4, ![6, 8192, 8192, 8]⟩
abbrev S_ : Shape := ⟨0, ![]⟩
abbrev S6x8x8192 : Shape := ⟨3, ![6, 8, 8192]⟩
abbrev S6x8x8192x1 : Shape := ⟨4, ![6, 8, 8192, 1]⟩
abbrev S6x8x128x8192 : Shape := ⟨4, ![6, 8, 128, 8192]⟩
abbrev S6x8192x1024 : Shape := ⟨3, ![6, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S6x8192x8x128, .f32⟩
  | .hbm, ⟨1, _⟩ => ⟨S6x8192x8x64, .f32⟩
  | .hbm, ⟨2, _⟩ => ⟨S6x8192x8x128, .f32⟩
  | .hbm, ⟨3, _⟩ => ⟨S6x8192x64, .f32⟩
  | .hbm, ⟨4, _⟩ => ⟨S6x8192x8x128, .f32⟩
  | .hbm, ⟨5, _⟩ => ⟨S6x8x8192x8192, .f32⟩
  | .hbm, ⟨6, _⟩ => ⟨S6x8192x8192x8, .f32⟩
  | .hbm, ⟨7, _⟩ => ⟨S6x8x8192x8192, .f32⟩
  | .hbm, ⟨8, _⟩ => ⟨S6x8x8192x8192, .f32⟩
  | .hbm, ⟨9, _⟩ => ⟨S_, .f32⟩
  | .hbm, ⟨10, _⟩ => ⟨S6x8x8192x8192, .f32⟩
  | .hbm, ⟨11, _⟩ => ⟨S6x8x8192x8192, .f32⟩
  | .hbm, ⟨12, _⟩ => ⟨S_, .f32⟩
  | .hbm, ⟨13, _⟩ => ⟨S6x8x8192, .f32⟩
  | .hbm, ⟨14, _⟩ => ⟨S_, .f32⟩
  | .hbm, ⟨15, _⟩ => ⟨S6x8x8192, .f32⟩
  | .hbm, ⟨16, _⟩ => ⟨S6x8x8192, .f32⟩
  | .hbm, ⟨17, _⟩ => ⟨S6x8x8192x1, .f32⟩
  | .hbm, ⟨18, _⟩ => ⟨S6x8x8192x8192, .f32⟩
  | .hbm, ⟨19, _⟩ => ⟨S6x8x8192x8192, .f32⟩
  | .hbm, ⟨20, _⟩ => ⟨S6x8x8192x8192, .f32⟩
  | .hbm, ⟨21, _⟩ => ⟨S_, .f32⟩
  | .hbm, ⟨22, _⟩ => ⟨S6x8x8192, .f32⟩
  | .hbm, ⟨23, _⟩ => ⟨S6x8x8192x1, .f32⟩
  | .hbm, ⟨24, _⟩ => ⟨S6x8x8192x8192, .f32⟩
  | .hbm, ⟨25, _⟩ => ⟨S6x8x8192x8192, .f32⟩
  | .hbm, ⟨26, _⟩ => ⟨S6x8x128x8192, .f32⟩
  | .hbm, ⟨27, _⟩ => ⟨S6x8192x8x128, .f32⟩
  | .hbm, ⟨28, _⟩ => ⟨S6x8192x1024, .f32⟩
  | _, _ => ⟨S6x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== FfnKernel.lean ====
abbrev S49152x1024 : Shape := ⟨2, ![49152, 1024]⟩
abbrev S6x9x1024 : Shape := ⟨3, ![6, 9, 1024]⟩
abbrev S1x1024 : Shape := ⟨2, ![1, 1024]⟩
abbrev S1024x5632 : Shape := ⟨2, ![1024, 5632]⟩
abbrev S2816x1024 : Shape := ⟨2, ![2816, 1024]⟩
abbrev S32768x1024 : Shape := ⟨2, ![32768, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 9
  | .vmem => 10
  | .smem => 0
  | _ => 0

abbrev bufTy : (tb : Table) → Fin (tcTables nBuf tb) → BufTy
  | .hbm, ⟨0, _⟩ => ⟨S49152x1024, .f32⟩
  | .hbm, ⟨1, _⟩ => ⟨S6x9x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S49152x1024 : Shape := ⟨2, ![49152, 1024]⟩
abbrev S6x9x1024 : Shape := ⟨3, ![6, 9, 1024]⟩
abbrev S1x1024 : Shape := ⟨2, ![1, 1024]⟩
abbrev S1024x5632 : Shape := ⟨2, ![1024, 5632]⟩
abbrev S2816x1024 : Shape := ⟨2, ![2816, 1024]⟩
abbrev S6x8192x1024 : Shape := ⟨3, ![6, 8192, 1024]⟩
abbrev S4x8192x1024 : Shape := ⟨3, ![4, 8192, 1024]⟩
abbrev S4x9x1024 : Shape := ⟨3, ![4, 9, 1024]⟩
abbrev S4x9x1x1024 : Shape := ⟨4, ![4, 9, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S6x9x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S6x8192x1024, .f32⟩
  | .hbm, ⟨7, _⟩ => ⟨S4x8192x1024, .f32⟩
  | .hbm, ⟨8, _⟩ => ⟨S4x9x1024, .f32⟩
  | .hbm, ⟨9, _⟩ => ⟨S4x9x1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S4x1x1x1024, .f32⟩
  | .hbm, ⟨28, _⟩ => ⟨S4x1x1024, .f32⟩
  | .hbm, ⟨29, _⟩ => ⟨S4x1x1x1024, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x1x1x1024, .f32⟩
  | .hbm, ⟨39, _⟩ => ⟨S4x1x1024, .f32⟩
  | .hbm, ⟨40, _⟩ => ⟨S_, .f32⟩
  | .hbm, ⟨41, _⟩ => ⟨S4x1x1024, .f32⟩
  | .hbm, ⟨42, _⟩ => ⟨S4x1x1024, .f32⟩
  | .hbm, ⟨43, _⟩ => ⟨S4x8192x5632, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x1024, .f32⟩
  | .hbm, ⟨57, _⟩ => ⟨S1024, .f32⟩
  | .hbm, ⟨58, _⟩ => ⟨S4x8192x1024, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192x1024, .f32⟩
  | .hbm, ⟨70, _⟩ => ⟨S4x8192x1024, .f32⟩
  | .hbm, ⟨71, _⟩ => ⟨S1x1x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S32768x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== PostKernel.lean ====
abbrev S49152x1024 : Shape := ⟨2, ![49152, 1024]⟩
abbrev S6x9x1024 : Shape := ⟨3, ![6, 9, 1024]⟩
abbrev S1x1024 : Shape := ⟨2, ![1, 1024]⟩
abbrev S1024x3520 : Shape := ⟨2, ![1024, 3520]⟩
abbrev S4x256x256 : Shape := ⟨3, ![4, 256, 256]⟩
abbrev S1024x1024 : Shape := ⟨2, ![1024, 1024]⟩
abbrev S1024x2048 : Shape := ⟨2, ![1024, 2048]⟩
abbrev S8x1024 : Shape := ⟨2, ![8, 1024]⟩
abbrev S1x9x1024 : Shape := ⟨3, ![1, 9, 1024]⟩
abbrev S1x1x1024 : Shape := ⟨3, ![1, 1, 1024]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S1040x1024 : Shape := ⟨2, ![1040, 1024]⟩
abbrev S1040x1 : Shape := ⟨2, ![1040, 1]⟩
abbrev S272x1024 : Shape := ⟨2, ![272, 1024]⟩
abbrev S256x1 : Shape := ⟨2, ![256, 1]⟩
abbrev S272x256 : Shape := ⟨2, ![272, 256]⟩
abbrev S256x256 : Shape := ⟨2, ![256, 256]⟩
abbrev S1x256x256 : Shape := ⟨3, ![1, 256, 256]⟩
abbrev S256x1024 : Shape := ⟨2, ![256, 1024]⟩
abbrev S256x2048 : Shape := ⟨2, ![256, 2048]⟩
abbrev S256 : Shape := ⟨1, ![256]⟩

abbrev nBuf : Space → Nat
  | .hbm => 16
  | .vmem => 19
  | .smem => 0
  | _ => 0

abbrev bufTy : (tb : Table) → Fin (tcTables nBuf tb) → BufTy
  | .hbm, ⟨0, _⟩ => ⟨S49152x1024, .f32⟩
  | .hbm, ⟨1, _⟩ => ⟨S49152x1024, .f32⟩
  | .hbm, ⟨2, _⟩ => ⟨S6x9x1024, .f32⟩
  | .hbm, ⟨3, _⟩ => ⟨S1x1024, .f32⟩
  | .hbm, ⟨4, _⟩ => ⟨S1024x3520, .f32⟩
  | .hbm, ⟨5, _⟩ => ⟨S4x256x256, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1024x2048, .f32⟩
  | .hbm, ⟨12, _⟩ => ⟨S1024x2048, .bf16⟩
  | .hbm, ⟨13, _⟩ => ⟨S4x256x256, .bf16⟩
  | .hbm, ⟨14, _⟩ => ⟨S1024x1024, .bf16⟩
  | .hbm, ⟨15, _⟩ => ⟨S49152x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | .local _ .vmem, ⟨8, _⟩ => ⟨S1x9x1024, .f32⟩
  | .local _ .vmem, ⟨9, _⟩ => ⟨S1x9x1024, .f32⟩
  | .local _ .vmem, ⟨10, _⟩ => ⟨S1x1024, .f32⟩
  | .local _ .vmem, ⟨11, _⟩ => ⟨S1024x1024, .bf16⟩
  | .local _ .vmem, ⟨12, _⟩ => ⟨S1024x2048, .bf16⟩
  | .local _ .vmem, ⟨13, _⟩ => ⟨S4x256x256, .bf16⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c6143_i32 : BitVec 32 := 6143#32
  let v2 : BitVec 32 := Scalar.minsi v1 c6143_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostReferenceIdeal.lean ====
abbrev S49152x1024 : Shape := ⟨2, ![49152, 1024]⟩
abbrev S6x9x1024 : Shape := ⟨3, ![6, 9, 1024]⟩
abbrev S1x1024 : Shape := ⟨2, ![1, 1024]⟩
abbrev S1024x3520 : Shape := ⟨2, ![1024, 3520]⟩
abbrev S4x256x256 : Shape := ⟨3, ![4, 256, 256]⟩
abbrev S1024x1024 : Shape := ⟨2, ![1024, 1024]⟩
abbrev S4 : Shape := ⟨1, ![4]⟩
abbrev S6x8192x1024 : Shape := ⟨3, ![6, 8192, 1024]⟩
abbrev S6x9x1x1024 : Shape := ⟨4, ![6, 9, 1, 1024]⟩
abbrev S1024 : Shape := ⟨1, ![1024]⟩
abbrev S_ : Shape := ⟨0, ![]⟩
abbrev S6x8192 : Shape := ⟨2, ![6, 8192]⟩
abbrev S6x8192x1 : Shape := ⟨3, ![6, 8192, 1]⟩
abbrev S1x1x1024 : Shape := ⟨3, ![1, 1, 1024]⟩
abbrev S6x1x1x1024 : Shape := ⟨4, ![6, 1, 1, 1024]⟩
abbrev S6x1x1024 : Shape := ⟨3, ![6, 1, 1024]⟩
abbrev S6x8192x3520 : Shape := ⟨3, ![6, 8192, 3520]⟩
abbrev S6x8192x2048 : Shape := ⟨3, ![6, 8192, 2048]⟩
abbrev S6x8192x4x256 : Shape := ⟨4, ![6, 8192, 4, 256]⟩
abbrev S6x1x4x256 : Shape := ⟨4, ![6, 1, 4, 256]⟩
abbrev S6x8193x4x256 : Shape := ⟨4, ![6, 8193, 4, 256]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S1x8192x4x1 : Shape := ⟨4, ![1, 8192, 4, 1]⟩
abbrev S4x256x6x8192 : Shape := ⟨4, ![4, 256, 6, 8192]⟩

abbrev nBuf : Space → Nat
  | .hbm => 186
  | .vmem => 0
  | .smem => 0
  | _ => 0

abbrev hbmTy0_0 (i : Nat) : BufTy := match i % 128 with
  | 0 => ⟨S49152x1024, .f32⟩
  | 1 => ⟨S49152x1024, .f32⟩
  | 2 => ⟨S6x9x1024, .f32⟩
  | 3 => ⟨S1x1024, .f32⟩
  | 4 => ⟨S1024x3520, .f32⟩
  | 5 => ⟨S4x256x256, .f32⟩
  | 6 => ⟨S1x1024, .f32⟩
  | 7 => ⟨S1024x1024, .f32⟩
  | 8 => ⟨S1x1024, .f32⟩
  | 9 => ⟨S4, .i32⟩
  | 10 => ⟨S6x8192x1024, .f32⟩
  | 11 => ⟨S6x8192x1024, .f32⟩
  | 12 => ⟨S6x9x1x1024, .f32⟩
  | 13 => ⟨S1024, .f32⟩
  | 14 => ⟨S6x8192x1024, .f32⟩
  | 15 => ⟨S_, .f32⟩
  | 16 => ⟨S6x8192, .f32⟩
  | 17 => ⟨S6x8192x1, .f32⟩
  | 18 => ⟨S_, .f32⟩
  | 19 => ⟨S6x8192x1, .f32⟩
  | 20 => ⟨S6x8192x1, .f32⟩
  | 21 => ⟨S_, .f32⟩
  | 22 => ⟨S6x8192x1, .f32⟩
  | 23 => ⟨S6x8192x1, .f32⟩
  | 24 => ⟨S6x8192x1, .f32⟩
  | 25 => ⟨S6x8192x1024, .f32⟩
  | 26 => ⟨S6x8192x1024, .f32⟩
  | 27 => ⟨S1x1x1024, .f32⟩
  | 28 => ⟨S6x8192x1024, .f32⟩
  | 29 => ⟨S6x8192x1024, .f32⟩
  | 30 => ⟨S6x1x1x1024, .f32⟩
  | 31 => ⟨S6x1x1024, .f32⟩
  | 32 => ⟨S6x1x1x1024, .f32⟩
  | 33 => ⟨S6x1x1024, .f32⟩
  | 34 => ⟨S_, .f32⟩
  | 35 => ⟨S6x1x1024, .f32⟩
  | 36 => ⟨S6x1x1024, .f32⟩
  | 37 => ⟨S6x8192x1024, .f32⟩
  | 38 => ⟨S6x8192x1024, .f32⟩
  | 39 => ⟨S6x8192x1024, .f32⟩
  | 40 => ⟨S6x8192x1024, .f32⟩
  | 41 => ⟨S6x8192x3520, .f32⟩
  | 42 => ⟨S6x8192x1024, .f32⟩
  | 43 => ⟨S6x8192x2048, .f32⟩
  | 44 => ⟨S1024, .f32⟩
  | 45 => ⟨S6x8192x4x256, .f32⟩
  | 46 => ⟨S_, .f32⟩
  | 47 => ⟨S6x1x4x256, .f32⟩
  | 48 => ⟨S_, .f32⟩
  | 49 => ⟨S_, .f32⟩
  | 50 => ⟨S6x8192x4x256, .f32⟩
  | 51 => ⟨S6x8193x4x256, .f32⟩
  | 52 => ⟨S_, .i32⟩
  | 53 => ⟨S_, .i32⟩
  | 54 => ⟨S4, .i32⟩
  | 55 => ⟨S4, .i32⟩
  | 56 => ⟨S4, .i32⟩
  | 57 => ⟨S_, .i32⟩
  | 58 => ⟨S4, .i32⟩
  | 59 => ⟨S4, .i1⟩
  | 60 => ⟨S4, .i32⟩
  | 61 => ⟨S4, .i32⟩
  | 62 => ⟨S_, .i32⟩
  | 63 => ⟨S4, .i32⟩
  | 64 => ⟨S4, .i1⟩
  | 65 => ⟨S4, .i1⟩
  | 66 => ⟨S_, .i32⟩
  | 67 => ⟨S4, .i32⟩
  | 68 => ⟨S4, .i32⟩
  | 69 => ⟨S4, .i32⟩
  | 70 => ⟨S8192, .i32⟩
  | 71 => ⟨S8192x1, .i32⟩
  | 72 => ⟨S1x4, .i32⟩
  | 73 => ⟨S8192x4, .i32⟩
  | 74 => ⟨S8192x4, .i32⟩
  | 75 => ⟨S8192x4, .i32⟩
  | 76 => ⟨S_, .i32⟩
  | 77 => ⟨S_, .i32⟩
  | 78 => ⟨S_, .i32⟩
  | 79 => ⟨S8192x4, .i32⟩
  | 80 => ⟨S8192x4, .i32⟩
  | 81 => ⟨S_, .i32⟩
  | 82 => ⟨S8192x4, .i32⟩
  | 83 => ⟨S8192x4, .i32⟩
  | 84 => ⟨S1x4, .i32⟩
  | 85 => ⟨S8192x4, .i32⟩
  | 86 => ⟨S8192x4, .i32⟩
  | 87 => ⟨S8192x4, .i32⟩
  | 88 => ⟨S_, .i32⟩
  | 89 => ⟨S_, .i32⟩
  | 90 => ⟨S_, .i32⟩
  | 91 => ⟨S8192x4, .i32⟩
  | 92 => ⟨S8192x4, .i32⟩
  | 93 => ⟨S_, .i32⟩
  | 94 => ⟨S8192x4, .i32⟩
  | 95 => ⟨S8192x4, .i32⟩
  | 96 => ⟨S4, .i32⟩
  | 97 => ⟨S1x4, .i32⟩
  | 98 => ⟨S_, .i32⟩
  | 99 => ⟨S8192x4, .i32⟩
  | 100 => ⟨S8192x4, .i1⟩
  | 101 => ⟨S_, .i32⟩
  | 102 => ⟨S8192x4, .i32⟩
  | 103 => ⟨S8192x4, .i32⟩
  | 104 => ⟨S8192x4, .i32⟩
  | 105 => ⟨S_, .i32⟩
  | 106 => ⟨S1x4, .i32⟩
  | 107 => ⟨S1x4, .i1⟩
  | 108 => ⟨S_, .i32⟩
  | 109 => ⟨S1x4, .i32⟩
  | 110 => ⟨S1x4, .i32⟩
  | 111 => ⟨S1x4, .i32⟩
  | 112 => ⟨S8192x4, .i32⟩
  | 113 => ⟨S8192x4x1, .i32⟩
  | 114 => ⟨S8192x4x1, .i32⟩
  | 115 => ⟨S8192x4x2, .i32⟩
  | 116 => ⟨S6x8192x4x256, .f32⟩
  | 117 => ⟨S_, .i32⟩
  | 118 => ⟨S8192x4, .i32⟩
  | 119 => ⟨S8192x4, .i1⟩
  | 120 => ⟨S_, .i32⟩
  | 121 => ⟨S8192x4, .i32⟩
  | 122 => ⟨S8192x4, .i32⟩
  | 123 => ⟨S8192x4, .i32⟩
  | 124 => ⟨S_, .i32⟩
  | 125 => ⟨S1x4, .i32⟩
  | 126 => ⟨S1x4, .i1⟩
  | 127 => ⟨S_, .i32⟩
  | _ => ⟨S49152x1024, .f32⟩

abbrev hbmTy0_1 (i : Nat) : BufTy := match i % 128 with
  | 0 => ⟨S1x4, .i32⟩
  | 1 => ⟨S1x4, .i32⟩
  | 2 => ⟨S1x4, .i32⟩
  | 3 => ⟨S8192x4, .i32⟩
  | 4 => ⟨S8192x4x1, .i32⟩
  | 5 => ⟨S8192x4x1, .i32⟩
  | 6 => ⟨S8192x4x2, .i32⟩
  | 7 => ⟨S6x8192x4x256, .f32⟩
  | 8 => ⟨S6x8192x4x256, .f32⟩
  | 9 => ⟨S8192x4, .i32⟩
  | 10 => ⟨S8192x4, .f32⟩
  | 11 => ⟨S1x8192x4x1, .f32⟩
  | 12 => ⟨S6x8192x4x256, .f32⟩
  | 13 => ⟨S6x8192x4x256, .f32⟩
  | 14 => ⟨S6x8192x4x256, .f32⟩
  | 15 => ⟨S4x256x6x8192, .f32⟩
  | 16 => ⟨S6x8192x4x256, .f32⟩
  | 17 => ⟨S6x8192x1024, .f32⟩
  | 18 => ⟨S1x1x1024, .f32⟩
  | 19 => ⟨S6x8192x1024, .f32⟩
  | 20 => ⟨S6x8192x1024, .f32⟩
  | 21 => ⟨S6x8192x2048, .f32⟩
  | 22 => ⟨S6x8192x2048, .f32⟩
  | 23 => ⟨S_, .f32⟩
  | 24 => ⟨S6x8192x2048, .f32⟩
  | 25 => ⟨S6x8192x2048, .f32⟩
  | 26 => ⟨S_, .f32⟩
  | 27 => ⟨S6x8192x2048, .f32⟩
  | 28 => ⟨S6x8192x2048, .f32⟩
  | 29 => ⟨S6x8192x1024, .f32⟩
  | 30 => ⟨S6x8192x1024, .f32⟩
  | 31 => ⟨S6x8192x1024, .f32⟩
  | 32 => ⟨S6x8192x1024, .f32⟩
  | 33 => ⟨S6x8192x1024, .f32⟩
  | 34 => ⟨S6x8192x1024, .f32⟩
  | 35 => ⟨S6x1x1x1024, .f32⟩
  | 36 => ⟨S6x1x1024, .f32⟩
  | 37 => ⟨S1024, .f32⟩
  | 38 => ⟨S6x8192x1024, .f32⟩
  | 39 => ⟨S_, .f32⟩
  | 40 => ⟨S6x8192, .f32⟩
  | 41 => ⟨S6x8192x1, .f32⟩
  | 42 => ⟨S_, .f32⟩
  | 43 => ⟨S6x8192x1, .f32⟩
  | 44 => ⟨S6x8192x1, .f32⟩
  | 45 => ⟨S_, .f32⟩
  | 46 => ⟨S6x8192x1, .f32⟩
  | 47 => ⟨S6x8192x1, .f32⟩
  | 48 => ⟨S6x8192x1, .f32⟩
  | 49 => ⟨S6x8192x1024, .f32⟩
  | 50 => ⟨S6x8192x1024, .f32⟩
  | 51 => ⟨S1x1x1024, .f32⟩
  | 52 => ⟨S6x8192x1024, .f32⟩
  | 53 => ⟨S6x8192x1024, .f32⟩
  | 54 => ⟨S6x8192x1024, .f32⟩
  | 55 => ⟨S6x8192x1024, .f32⟩
  | 56 => ⟨S6x8192x1024, .f32⟩
  | 57 => ⟨S49152x1024, .f32⟩
  | _ => ⟨S49152x1024, .f32⟩

abbrev hbmTy (i : Nat) : BufTy := match i / 128 with
  | 0 => hbmTy0_0 i
  | 1 => hbmTy0_1 i
  | _ => ⟨S49152x1024, .f32⟩

abbrev bufTy : (tb : Table) → Fin (tcTables nBuf tb) → BufTy
  | .hbm, ⟨i, _⟩ => hbmTy i
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_call0_call0_cst : Ref sig .tc := ⟨.hbm, 48, rfl⟩
abbrev main_call0_call0_v0 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_5 : Ref sig .tc := ⟨.hbm, 76, rfl⟩
abbrev main_c_6 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_7 : Ref sig .tc := ⟨.hbm, 88, rfl⟩
abbrev main_c_8 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_9 : Ref sig .tc := ⟨.hbm, 98, rfl⟩
abbrev main_v50 : Ref sig .tc := ⟨.hbm, 99, rfl⟩
abbrev main_v51 : Ref sig .tc := ⟨.hbm, 100, rfl⟩
abbrev main_c_10 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_c_11 : Ref sig .tc := ⟨.hbm, 105, rfl⟩
abbrev main_v55 : Ref sig .tc := ⟨.hbm, 106, rfl⟩
abbrev main_v56 : Ref sig .tc := ⟨.hbm, 107, rfl⟩
abbrev main_c_12 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_c_13 : Ref sig .tc := ⟨.hbm, 117, rfl⟩
abbrev main_v65 : Ref sig .tc := ⟨.hbm, 118, rfl⟩
abbrev main_v66 : Ref sig .tc := ⟨.hbm, 119, rfl⟩
abbrev main_c_14 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_15 : Ref sig .tc := ⟨.hbm, 124, rfl⟩
abbrev main_v70 : Ref sig .tc := ⟨.hbm, 125, rfl⟩
abbrev main_v71 : Ref sig .tc := ⟨.hbm, 126, rfl⟩
abbrev main_c_16 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_17 : Ref sig .tc := ⟨.hbm, 151, rfl⟩
abbrev main_v95 : Ref sig .tc := ⟨.hbm, 152, rfl⟩
abbrev main_v96 : Ref sig .tc := ⟨.hbm, 153, rfl⟩
abbrev main_cst_18 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_19 : Ref sig .tc := ⟨.hbm, 167, rfl⟩
abbrev main_v109 : Ref sig .tc := ⟨.hbm, 168, rfl⟩
abbrev main_v110 : Ref sig .tc := ⟨.hbm, 169, rfl⟩
abbrev main_cst_20 : Ref sig .tc := ⟨.hbm, 170, rfl⟩
abbrev main_v111 : Ref sig .tc := ⟨.hbm, 171, rfl⟩
abbrev main_v112 : Ref sig .tc := ⟨.hbm, 172, rfl⟩
abbrev main_cst_21 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩

abbrev nD : Nat := 1
abbrev τ : Topo := Topo.v7x

variable {F : FTy → Type} [FloatOps F]
-- ==== Proof.Steps.lean ====
/- THE BODY AS A CHAIN OF STEPS. The kernel walks 128 pairs (chunk of 1024 keys, tile of 512 queries). For a pair it takes the scores
   (`scoP`), later exponentiates them against the running maximum (`expP`), and later still folds them into the accumulator (`accP`, or
   at the last chunk `outP`, which normalises and stores the result). The three stages of three successive pairs overlap, through two slots
   of scratch. Here: the four stages as programs, and the printed body as their chain (`body_eq`), by definitional unfolding. -/
module

public import proofs.«01_k».proof.Proof.Gen.KernelIdeal.Skeleton

@[expose] public section

set_option maxRecDepth 65536

noncomputable section

namespace Cert.Proof.Attn

open Cert.KernelIdeal Cert.KernelIdeal.Gen
open Idealize.ShloMosaic Idealize.SL.Sem

variable {F : FTy → Type} [FloatOps F]

/-- Both slots of the two-slot scratch lie inside it. -/
theorem slot_inb : ∀ s : Fin 2, ∀ a, (![s.val, 0, 0] : Fin 3 → Nat) a + S1x1024x512.size a ≤ S2x1024x512.size a := by decide

/-- A slot of the weights' scratch is made of whole packed rows. -/
theorem slot_packed : ∀ s : Fin 2, (Rect.unit (s := S2x1024x512) ![s.val, 0, 0] S1x1024x512.size (slot_inb s)).PackedRows (EltTy.packing .bf16)
  | ⟨0, _⟩ => packedbf16_S2x1024x512_S1x1024x512_0_0_0
  | ⟨1, _⟩ => packedbf16_S2x1024x512_S1x1024x512_1_0_0

/-- The slot a rectangle of the two-slot scratch is. -/
abbrev slotRect (s : Fin 2) : Rect S2x1024x512 := Rect.unit (s := S2x1024x512) ![s.val, 0, 0] S1x1024x512.size (slot_inb s)

/-- SCORES of a pair: keys (1024 rows of the key block) times queries (512 columns of the query block), stored in slot `s`. -/
def scoP (arg2 : Memref sig .tc .vmem S1x1x256x8192 .bf16) (arg3 : Memref sig .tc .vmem S1x1x8192x256 .bf16)
    (arg6 : Memref sig .tc .vmem S2x1024x512 .f32) (s : Fin 2)
    (oK : Fin 4 → Nat) (hK : ∀ a, oK a + S1x1x1024x256.size a ≤ S1x1x8192x256.size a)
    (oQ : Fin 4 → Nat) (hQ : ∀ a, oQ a + S1x1x256x512.size a ≤ S1x1x256x8192.size a) :
    Prog (TpuEff nD τ sig (Elt F) Λ₀ .tc) PUnit := do
  let k : Vec F S1x1x1024x256 .bf16 ← Prog.lift (.load arg3 (Rect.unit (s := S1x1x8192x256) oK S1x1x1024x256.size hK).toLoadRect (View.loadsAt_vmem h_S1x1x1024x256))
  let q : Vec F S1x1x256x512 .bf16 ← Prog.lift (.load arg2 (Rect.unit (s := S1x1x256x8192) oQ S1x1x256x512.size hQ).toLoadRect (View.loadsAt_vmem h_S1x1x256x512))
  let _d : Vec F S1x1024x512 .f32 ← Prog.lift (.load arg6 (slotRect s).toLoadRect (View.loadsAt_vmem h_S1x1024x512))
  Prog.lift (.store arg6 (slotRect s) (k0_pay7 k q) Finset.univ (View.stores_vmem_bits_univ h_S1x1024x512 rfl) (.inl rfl))

/-- EXPONENTIATE slot `s`: the tile's running maximum is raised to the new scores' column maxima, the weights `exp2 (score - maximum)` go to
    the weights' slot `s`, and the factor by which older weights shrink is returned. -/
def expP (arg6 : Memref sig .tc .vmem S2x1024x512 .f32) (arg7 : Memref sig .tc .vmem S2x1024x512 .bf16) (harg7 : arg7.IsWhole)
    (arg8 : Memref sig .tc .vmem S1x8192 .f32) (s : Fin 2) (oM : Fin 2 → Nat) (hM : ∀ a, oM a + S1x512.size a ≤ S1x8192.size a) :
    Prog (TpuEff nD τ sig (Elt F) Λ₀ .tc) (FVec F S1x512 .f32) := do
  let m : Vec F S1x512 .f32 ← Prog.lift (.load arg8 (Rect.unit (s := S1x8192) oM S1x512.size hM).toLoadRect (View.loadsAt_vmem h_S1x512))
  let x : Vec F S1x1024x512 .f32 ← Prog.lift (.load arg6 (slotRect s).toLoadRect (View.loadsAt_vmem h_S1x1024x512))
  let y : Vec F S1x1024x512 .f32 ← Prog.lift (.load arg6 (slotRect s).toLoadRect (View.loadsAt_vmem h_S1x1024x512))
  let _d : Vec F S1x1024x512 .bf16 ← Prog.lift (.load arg7 (slotRect s).toLoadRect (View.loadsAt_vmem h_S1x1024x512))
  Prog.lift (.store arg7 (slotRect s) (k0_pay4 (k0_pay3 m x) y) Finset.univ (View.stores_vmem h_S1x1024x512 (harg7.storeExact_slice rfl _ (slot_packed s)) (fun _ => rfl)) (.inl rfl))
  let _e : Vec F S1x512 .f32 ← Prog.lift (.load arg8 (Rect.unit (s := S1x8192) oM S1x512.size hM).toLoadRect (View.loadsAt_vmem h_S1x512))
  Prog.lift (.store arg8 (Rect.unit (s := S1x8192) oM S1x512.size hM) (k0_pay5 (k0_pay3 m x)) Finset.univ (View.stores_vmem_bits_univ h_S1x512 rfl) (.inl rfl))
  pure (k0_pay6 m (k0_pay3 m x))

/-- ACCUMULATE slot `s`: the tile's accumulator becomes `al` times itself plus values times weights. -/
def accP (arg4 : Memref sig .tc .vmem S1x1x144x8192 .bf16) (arg7 : Memref sig .tc .vmem S2x1024x512 .bf16)
    (arg9 : Memref sig .tc .vmem S144x8192 .f32) (s : Fin 2) (al : FVec F S1x512 .f32)
    (oA : Fin 2 → Nat) (hA : ∀ a, oA a + S144x512.size a ≤ S144x8192.size a)
    (oV : Fin 4 → Nat) (hV : ∀ a, oV a + S1x1x144x1024.size a ≤ S1x1x144x8192.size a) :
    Prog (TpuEff nD τ sig (Elt F) Λ₀ .tc) PUnit := do
  let a : Vec F S144x512 .f32 ← Prog.lift (.load arg9 (Rect.unit (s := S144x8192) oA S144x512.size hA).toLoadRect (View.loadsAt_vmem h_S144x512))
  let v : Vec F S1x1x144x1024 .bf16 ← Prog.lift (.load arg4 (Rect.unit (s := S1x1x144x8192) oV S1x1x144x1024.size hV).toLoadRect (View.loadsAt_vmem h_S1x1x144x1024))
  let p : Vec F S1x1024x512 .bf16 ← Prog.lift (.load arg7 (slotRect s).toLoadRect (View.loadsAt_vmem h_S1x1024x512))
  let _d : Vec F S144x512 .f32 ← Prog.lift (.load arg9 (Rect.unit (s := S144x8192) oA S144x512.size hA).toLoadRect (View.loadsAt_vmem h_S144x512))
  Prog.lift (.store arg9 (Rect.unit (s := S144x8192) oA S144x512.size hA) (k0_pay2 al a v p) Finset.univ (View.stores_vmem_bits_univ h_S144x512 rfl) (.inl rfl))

/-- OUTPUT of a tile at its last chunk: the accumulation as in `accP`, its rows divided by their sum row and stored as the tile's result. -/
def outP (arg4 : Memref sig .tc .vmem S1x1x144x8192 .bf16) (arg5 : Memref sig .tc .vmem S1x8192x128 .f32)
    (arg7 : Memref sig .tc .vmem S2x1024x512 .bf16) (arg9 : Memref sig .tc .vmem S144x8192 .f32) (s : Fin 2) (al : FVec F S1x512 .f32)
    (oA : Fin 2 → Nat) (hA : ∀ a, oA a + S144x512.size a ≤ S144x8192.size a)
    (oV : Fin 4 → Nat) (hV : ∀ a, oV a + S1x1x144x1024.size a ≤ S1x1x144x8192.size a)
    (oO : Fin 3 → Nat) (hO : ∀ a, oO a + S1x512x128.size a ≤ S1x8192x128.size a) :
    Prog (TpuEff nD τ sig (Elt F) Λ₀ .tc) PUnit := do
  let a : Vec F S144x512 .f32 ← Prog.lift (.load arg9 (Rect.unit (s := S144x8192) oA S144x512.size hA).toLoadRect (View.loadsAt_vmem h_S144x512))
  let v : Vec F S1x1x144x1024 .bf16 ← Prog.lift (.load arg4 (Rect.unit (s := S1x1x144x8192) oV S1x1x144x1024.size hV).toLoadRect (View.loadsAt_vmem h_S1x1x144x1024))
  let p : Vec F S1x1024x512 .bf16 ← Prog.lift (.load arg7 (slotRect s).toLoadRect (View.loadsAt_vmem h_S1x1024x512))
  let _d : Vec F S1x512x128 .f32 ← Prog.lift (.load arg5 (Rect.unit (s := S1x8192x128) oO S1x512x128.size hO).toLoadRect (View.loadsAt_vmem h_S1x512x128))
  Prog.lift (.store arg5 (Rect.unit (s := S1x8192x128) oO S1x512x128.size hO) (k0_pay118 al a v p) Finset.univ (View.stores_vmem_bits_univ h_S1x512x128 rfl) (.inl rfl))

/-- The start: the running maximum is minus infinity and the accumulator zero, everywhere. -/
def iniP (arg8 : Memref sig .tc .vmem S1x8192 .f32) (arg9 : Memref sig .tc .vmem S144x8192 .f32) :
    Prog (TpuEff nD τ sig (Elt F) Λ₀ .tc) PUnit := do
  let _d : Vec F S1x8192 .f32 ← Prog.lift (.load arg8 (Rect.unit (s := S1x8192) ![0, 0] S1x8192.size inb_S1x8192_S1x8192_0_0).toLoadRect (View.loadsAt_vmem h_S1x8192))
  Prog.lift (.store arg8 (Rect.unit (s := S1x8192) ![0, 0] S1x8192.size inb_S1x8192_S1x8192_0_0) (k0_pay109 (F := F)) Finset.univ (View.stores_vmem_bits_univ h_S1x8192 rfl) (.inl rfl))
  let _e : Vec F S144x8192 .f32 ← Prog.lift (.load arg9 (Rect.unit (s := S144x8192) ![0, 0] S144x8192.size inb_S144x8192_S144x8192_0_0).toLoadRect (View.loadsAt_vmem h_S144x8192))
  Prog.lift (.store arg9 (Rect.unit (s := S144x8192) ![0, 0] S144x8192.size inb_S144x8192_S144x8192_0_0) (k0_pay110 (F := F)) Finset.univ (View.stores_vmem_bits_univ h_S144x8192 rfl) (.inl rfl))

/-- The slot of an even step is 0 and of an odd one 1. -/
def par (n : Nat) : Fin 2 := ⟨n % 2, Nat.mod_lt _ (by decide)⟩

/-- The closing group's offsets lie inside: keys and queries of step 114 + u, the maxima of step 113 + u. -/
theorem offK_inb : ∀ u : Fin 14, ∀ a, (k0_off1 (BitVec.ofNat 32 (114 + u.val))) a + S1x1x1024x256.size a ≤ S1x1x8192x256.size a := by decide +kernel
theorem offQ_inb : ∀ u : Fin 14, ∀ a, (k0_off2 (BitVec.ofNat 32 (114 + u.val))) a + S1x1x256x512.size a ≤ S1x1x256x8192.size a := by decide +kernel
theorem offM_inb : ∀ u : Fin 15, ∀ a, (k0_off3 (BitVec.ofNat 32 (113 + u.val))) a + S1x512.size a ≤ S1x8192.size a := by decide +kernel

section Body

variable (arg2 : Memref sig .tc .vmem S1x1x256x8192 .bf16) (harg2 : arg2.IsWhole) (arg3 : Memref sig .tc .vmem S1x1x8192x256 .bf16) (harg3 : arg3.IsWhole) (arg4 : Memref sig .tc .vmem S1x1x144x8192 .bf16) (harg4 : arg4.IsWhole) (arg5 : Memref sig .tc .vmem S1x8192x128 .f32) (harg5 : arg5.IsWhole) (arg6 : Memref sig .tc .vmem S2x1024x512 .f32) (harg6 : arg6.IsWhole) (arg7 : Memref sig .tc .vmem S2x1024x512 .bf16) (harg7 : arg7.IsWhole) (arg8 : Memref sig .tc .vmem S1x8192 .f32) (harg8 : arg8.IsWhole) (arg9 : Memref sig .tc .vmem S144x8192 .f32) (harg9 : arg9.IsWhole)

/-- Step `t = 16 k + u` of the loop: accumulate pair `t`, exponentiate pair `t + 1`, take the scores of pair `t + 2`. -/
def stepP (k : Fin k0_t1_loop.trips) (u : Fin 16) (al : FVec F S1x512 .f32) : Prog (TpuEff nD τ sig (Elt F) Λ₀ .tc) (FVec F S1x512 .f32) := do
  accP arg4 arg7 arg9 (par u.val) al (k0_off4 k (BitVec.ofNat 32 u.val)) (k0_off4_inb k u) (k0_off5 k (BitVec.ofNat 32 u.val)) (k0_off5_inb k u)
  let al' ← expP arg6 arg7 harg7 arg8 (par (u.val + 1)) (k0_off6 k (BitVec.ofNat 32 u.val)) (k0_off6_inb k u)
  scoP (F := F) arg2 arg3 arg6 (par u.val) (k0_off7 k (BitVec.ofNat 32 u.val)) (k0_off7_inb k u) (k0_off8 k (BitVec.ofNat 32 u.val)) (k0_off8_inb k u)
  pure al'

/-- Step `112 + u` of the closing group, of whose pairs the results are stored. -/
def lastP (u : Fin 16) (al : FVec F S1x512 .f32) : Prog (TpuEff nD τ sig (Elt F) Λ₀ .tc) PUnit :=
  outP arg4 arg5 arg7 arg9 (par u.val) al (k0_off9 (BitVec.ofNat 32 (112 + u.val))) (k0_off9_inb u)
    (k0_off10 (BitVec.ofNat 32 (112 + u.val))) (k0_off10_inb u) (k0_off11 (BitVec.ofNat 32 (112 + u.val))) (k0_off11_inb u)

/-- One of its first fourteen steps, with the next pair's exponentials and the scores of the pair after. -/
def closeP (u : Fin 14) (al : FVec F S1x512 .f32) : Prog (TpuEff nD τ sig (Elt F) Λ₀ .tc) (FVec F S1x512 .f32) := do
  lastP arg4 arg5 arg7 arg9 ⟨u.val, by omega⟩ al
  let al' ← expP arg6 arg7 harg7 arg8 (par (u.val + 1)) (k0_off3 (BitVec.ofNat 32 (113 + u.val))) (offM_inb ⟨u.val, by omega⟩)
  scoP (F := F) arg2 arg3 arg6 (par u.val) (k0_off1 (BitVec.ofNat 32 (114 + u.val))) (offK_inb u) (k0_off2 (BitVec.ofNat 32 (114 + u.val))) (offQ_inb u)
  pure al'

/-- A trip of the loop: sixteen steps. -/
def tripP (k : Fin k0_t1_loop.trips) (al : FVec F S1x512 .f32) : Prog (TpuEff nD τ sig (Elt F) Λ₀ .tc) (FVec F S1x512 .f32) :=
  Scf.forFrom (stepP arg2 arg3 arg4 arg6 arg7 harg7 arg8 arg9 k) [0, 1, 2, 3, 4, 5, 6, 7, 8, 9, 10, 11, 12, 13, 14, 15] al

/-- The whole body. -/
def bodyP : Prog (TpuEff nD τ sig (Elt F) Λ₀ .tc) PUnit := do
  iniP (F := F) arg8 arg9
  scoP (F := F) arg2 arg3 arg6 (par 0) (k0_off1 0#32) (k0_off1_inb 0) (k0_off2 0#32) (k0_off2_inb 0)
  scoP (F := F) arg2 arg3 arg6 (par 1) (k0_off1 1#32) (k0_off1_inb 1) (k0_off2 1#32) (k0_off2_inb 1)
  let al ← expP arg6 arg7 harg7 arg8 (par 0) (k0_off3 0#32) (k0_off3_inb 0)
  let al ← Scf.Loop.for k0_t1_loop k0_t1_ok al (tripP arg2 arg3 arg4 arg6 arg7 harg7 arg8 arg9)
  let al ← Scf.forFrom (closeP arg2 arg3 arg4 arg5 arg6 arg7 harg7 arg8 arg9) [0, 1, 2, 3, 4, 5, 6, 7, 8, 9, 10, 11, 12, 13] al
  lastP arg4 arg5 arg7 arg9 14 al
  let al ← expP arg6 arg7 harg7 arg8 (par 15) (k0_off3 (BitVec.ofNat 32 (113 + (14 : Fin 15).val))) (offM_inb 14)
  lastP arg4 arg5 arg7 arg9 15 al

/-- The printed trip is the chain of sixteen steps. -/
theorem trip_eq (i : grid0.Coords) (v44 : Vec F S1x512 .f32) (v49 : FVec F S1x512 .f32) (k : Fin k0_t1_loop.trips) (al : FVec F S1x512 .f32) :
    k0_t1_body i arg2 harg2 arg3 harg3 arg4 harg4 arg5 harg5 arg6 harg6 arg7 harg7 arg8 harg8 arg9 harg9 v44 v49 k al
      = tripP arg2 arg3 arg4 arg6 arg7 harg7 arg8 arg9 k al := rfl

/-- The same, of the trips as one function. -/
theorem trip_fun (i : grid0.Coords) (v44 : Vec F S1x512 .f32) (v49 : FVec F S1x512 .f32) :
    k0_t1_body i arg2 harg2 arg3 harg3 arg4 harg4 arg5 harg5 arg6 harg6 arg7 harg7 arg8 harg8 arg9 harg9 v44 v49
      = tripP arg2 arg3 arg4 arg6 arg7 harg7 arg8 arg9 := funext fun k => funext fun al => trip_eq ..

/-- Two programs that begin with the same operation are equal where their continuations are. -/
theorem lift_congr {β γ : Type} (e : TpuEff nD τ sig (Elt F) Λ₀ .tc β) {k k' : β → Prog (TpuEff nD τ sig (Elt F) Λ₀ .tc) γ} (h : ∀ x, k x = k' x) :
    Prog.lift e >>= k = Prog.lift e >>= k' := congrArg (Prog.op e) (funext h)

/-- Two sequences are equal where their parts are. -/
theorem bind_congr {β γ : Type} {p q : Prog (TpuEff nD τ sig (Elt F) Λ₀ .tc) β} {k k' : β → Prog (TpuEff nD τ sig (Elt F) Λ₀ .tc) γ} (e : p = q) (h : ∀ x, k x = k' x) :
    p >>= k = q >>= k' := by subst e; exact congrArg _ (funext h)

/-- The printed body is the chain of its steps. -/
theorem body_eq (i : grid0.Coords) :
    cc0_latent_attention (F := F) i arg2 harg2 arg3 harg3 arg4 harg4 arg5 harg5 arg6 harg6 arg7 harg7 arg8 harg8 arg9 harg9
      = bodyP arg2 arg3 arg4 arg5 arg6 arg7 harg7 arg8 arg9 := by
  rw [cc0_latent_attention_eq_skeleton]
  unfold cc0_latent_attention_skel
  rw [k0_part62_eq_skeleton]
  unfold k0_part62_skel
  rw [k0_part31_eq_skeleton, k0_part32_eq_skeleton, k0_part33_eq_skeleton]
  unfold k0_part31_skel k0_part32_skel k0_part33_skel bodyP
  simp only [iniP, scoP, expP, Prog.bind_assoc, pure_bind, trip_fun]
  iterate 19 refine lift_congr _ fun _ => ?_
  refine bind_congr rfl fun al => ?_
  rw [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
  unfold k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel
  simp only [Scf.forFrom_cons, Scf.forFrom_nil, closeP, lastP, outP, scoP, expP, Prog.bind_assoc, pure_bind]
  repeat' refine lift_congr _ fun _ => ?_
  rfl

end Body

end Cert.Proof.Attn

end
-- ==== Proof.Rules.lean ====
/- LOADS, STORES AND THE STAGES, BY VALUES. A memref held at the values `X` (`owns`): a load reads a window of `X` and a store puts its payload
   over a window. From these, what each stage of a step does to the four scratch arrays and the result block, as a map of vectors. -/
module

public import proofs.«01_k».proof.Proof.Steps
public import Idealize.ShloMosaic.Lib.VecWindow
public import Idealize.ShloMosaic.Lib.Writes
public import Idealize.ShloMosaic.Lib.Tactic
public import Idealize.ShloMosaic.Lib.Pipeline.Kit

@[expose] public section

set_option maxRecDepth 16384

noncomputable section

namespace Cert.Proof.Attn

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ)

/-- A load, by values: it reads the window. -/
theorem wp_ld {cs : CoreSpace} {s : Shape} {e : EltTy} {α : Type} (m : Memref sig .tc cs s e) {off size : Fin s.rank → ℕ}
    {inb : ∀ a, off a + size a ≤ s.size a} {hl : m.view.LoadsAt (Rect.unit off size inb).toLoadRect} (X : s.Idx → Elt F e)
    {k : ((Rect.unit off size inb).toLoadRect.shape.Idx → Elt F e) → Prog (TpuEff nD τ sig (Elt F) Λ₀ .tc) α} {Q : α → sProp 𝕄} :
    iprop(owns (c : Thread nD τ) m fullShare X ∗ (owns (c : Thread nD τ) m fullShare X -∗ wp frame (wpE defs₀ 𝒱 (c : Thread nD τ) bd) E (k (window X off size inb)) Q))
      ⊢ wp frame (wpE defs₀ 𝒱 (c : Thread nD τ) bd) E (Prog.lift (.load m (Rect.unit off size inb).toLoadRect hl) >>= k) Q := by
  unfold owns
  iintro ⟨⟨%f, %hf, H⟩, HK⟩
  iapply (wp_load (defs := defs₀) 𝒱 (c : Thread nD τ) bd E (m := m) (r := (Rect.unit off size inb).toLoadRect) (hl := hl) (k := k) (q := fullShare) (Q := Q) (f := f) (m.view.setOn_subset_set _)) $$ H
  iintro H
  rw [View.readAt_unit m.view f inb rfl inb, hf]
  iapply HK
  iexists f
  isplitr
  · ipureintro; exact hf
  · iexact H

/-- A store, by values: it puts the payload over the window. -/
theorem wp_st {cs : CoreSpace} {s : Shape} {e : EltTy} {α : Type} (m : Memref sig .tc cs s e) {off size : Fin s.rank → ℕ}
    {inb : ∀ a, off a + size a ≤ s.size a} (X : s.Idx → Elt F e) {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {Q : α → sProp 𝕄} :
    iprop(owns (c : Thread nD τ) m fullShare X ∗ (owns (c : Thread nD τ) m fullShare (put X off size w) -∗ wp frame (wpE defs₀ 𝒱 (c : Thread nD τ) bd) E (k ⟨⟩) Q))
      ⊢ wp frame (wpE defs₀ 𝒱 (c : Thread nD τ) bd) E (Prog.lift (.store m (Rect.unit off size inb) w Finset.univ hx hm) >>= k) Q := by
  unfold owns
  iintro ⟨⟨%f, %hf, H⟩, HK⟩
  iapply (wp_store_writes₀ (defs := defs₀) 𝒱 (c : Thread nD τ) bd E (Q := Q) (m := m) (r := Rect.unit off size inb) (w := w) (hx := hx) (hm := hm) (k := k) (f := f) (View.set_slice_subset _ _)) $$ H
  iintro H
  iapply HK
  iexists (m.view.writes (Elt F) f [⟨Rect.unit off size inb, w⟩])
  isplitr
  · ipureintro
    rw [View.read_writes_cons_put m.view f inb w [] rfl, View.writes_nil, hf]
  · iexact H

/-- What the scratch and the result block hold: the scores' and the weights' two slots, the running maxima, the accumulator, the result. -/
structure Mem (F : FTy → Type) where
  S : Vec F S2x1024x512 .f32
  P : Vec F S2x1024x512 .bf16
  M : Vec F S1x8192 .f32
  A : Vec F S144x8192 .f32
  O : Vec F S1x8192x128 .f32

/-- A slot of the scores, and one of the weights. -/
abbrev slotS (x : Vec F S2x1024x512 .f32) (s : Fin 2) : Vec F S1x1024x512 .f32 := window x ![s.val, 0, 0] S1x1024x512.size (slot_inb s)
abbrev slotP (x : Vec F S2x1024x512 .bf16) (s : Fin 2) : Vec F S1x1024x512 .bf16 := window x ![s.val, 0, 0] S1x1024x512.size (slot_inb s)

section Stages

variable (arg2 : Memref sig .tc .vmem S1x1x256x8192 .bf16) (arg3 : Memref sig .tc .vmem S1x1x8192x256 .bf16) (arg4 : Memref sig .tc .vmem S1x1x144x8192 .bf16) (arg5 : Memref sig .tc .vmem S1x8192x128 .f32) (arg6 : Memref sig .tc .vmem S2x1024x512 .f32) (arg7 : Memref sig .tc .vmem S2x1024x512 .bf16) (harg7 : arg7.IsWhole) (arg8 : Memref sig .tc .vmem S1x8192 .f32) (arg9 : Memref sig .tc .vmem S144x8192 .f32)
variable (q : Vec F S1x1x256x8192 .bf16) (k : Vec F S1x1x8192x256 .bf16) (v : Vec F S1x1x144x8192 .bf16)

/-- The body's eight buffers: queries, keys and values at `q`, `k`, `v`, the others at `σ`. -/
def St (σ : Mem F) : sProp 𝕄 :=
  iprop(owns (c : Thread nD τ) arg2 fullShare q ∗ owns (c : Thread nD τ) arg3 fullShare k ∗ owns (c : Thread nD τ) arg4 fullShare v
    ∗ owns (c : Thread nD τ) arg5 fullShare σ.O ∗ owns (c : Thread nD τ) arg6 fullShare σ.S ∗ owns (c : Thread nD τ) arg7 fullShare σ.P
    ∗ owns (c : Thread nD τ) arg8 fullShare σ.M ∗ owns (c : Thread nD τ) arg9 fullShare σ.A)

local notation "STATE" => St (F := F) c arg2 arg3 arg4 arg5 arg6 arg7 arg8 arg9 q k v

variable {α : Type} (σ : Mem F)

/-- The scores' stage. -/
theorem wp_sco (s : Fin 2) {oK : Fin 4 → Nat} {hK : ∀ a, oK a + S1x1x1024x256.size a ≤ S1x1x8192x256.size a}
    {oQ : Fin 4 → Nat} {hQ : ∀ a, oQ a + S1x1x256x512.size a ≤ S1x1x256x8192.size a} {Φ : α → sProp 𝕄}
    {kk : PUnit → Prog (TpuEff nD τ sig (Elt F) Λ₀ .tc) α} :
    iprop(STATE σ ∗ (STATE { σ with S := put σ.S ![s.val, 0, 0] S1x1024x512.size (k0_pay7 (window k oK S1x1x1024x256.size hK) (window q oQ S1x1x256x512.size hQ)) }
        -∗ wp frame (wpE defs₀ 𝒱 (c : Thread nD τ) bd) E (kk ⟨⟩) Φ))
      ⊢ wp frame (wpE defs₀ 𝒱 (c : Thread nD τ) bd) E (scoP (F := F) arg2 arg3 arg6 s oK hK oQ hQ >>= kk) Φ := by
  unfold scoP St
  simp only [Prog.bind_assoc]
  iintro ⟨⟨H2, H3, H4, H5, H6, H7, H8, H9⟩, HK⟩
  iapply (wp_ld 𝒱 c bd E arg3 k)
  isplitl [H3]; · iexact H3
  iintro H3
  iapply (wp_ld 𝒱 c bd E arg2 q)
  isplitl [H2]; · iexact H2
  iintro H2
  iapply (wp_ld 𝒱 c bd E arg6 σ.S)
  isplitl [H6]; · iexact H6
  iintro H6
  iapply (wp_st 𝒱 c bd E arg6 σ.S)
  isplitl [H6]; · iexact H6
  iintro H6
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The exponentials' stage. -/
theorem wp_exp (s : Fin 2) {oM : Fin 2 → Nat} {hM : ∀ a, oM a + S1x512.size a ≤ S1x8192.size a} {Φ : α → sProp 𝕄}
    {kk : FVec F S1x512 .f32 → Prog (TpuEff nD τ sig (Elt F) Λ₀ .tc) α} :
    iprop(STATE σ ∗ (STATE { σ with
            P := put σ.P ![s.val, 0, 0] S1x1024x512.size (k0_pay4 (k0_pay3 (window σ.M oM S1x512.size hM) (slotS σ.S s)) (slotS σ.S s))
            M := put σ.M oM S1x512.size (k0_pay5 (k0_pay3 (window σ.M oM S1x512.size hM) (slotS σ.S s))) }
        -∗ wp frame (wpE defs₀ 𝒱 (c : Thread nD τ) bd) E (kk (k0_pay6 (window σ.M oM S1x512.size hM) (k0_pay3 (window σ.M oM S1x512.size hM) (slotS σ.S s)))) Φ))
      ⊢ wp frame (wpE defs₀ 𝒱 (c : Thread nD τ) bd) E (expP (F := F) arg6 arg7 harg7 arg8 s oM hM >>= kk) Φ := by
  unfold expP St
  simp only [Prog.bind_assoc, pure_bind]
  iintro ⟨⟨H2, H3, H4, H5, H6, H7, H8, H9⟩, HK⟩
  iapply (wp_ld 𝒱 c bd E arg8 σ.M)
  isplitl [H8]; · iexact H8
  iintro H8
  iapply (wp_ld 𝒱 c bd E arg6 σ.S)
  isplitl [H6]; · iexact H6
  iintro H6
  iapply (wp_ld 𝒱 c bd E arg6 σ.S)
  isplitl [H6]; · iexact H6
  iintro H6
  iapply (wp_ld 𝒱 c bd E arg7 σ.P)
  isplitl [H7]; · iexact H7
  iintro H7
  iapply (wp_st 𝒱 c bd E arg7 σ.P)
  isplitl [H7]; · iexact H7
  iintro H7
  iapply (wp_ld 𝒱 c bd E arg8 σ.M)
  isplitl [H8]; · iexact H8
  iintro H8
  iapply (wp_st 𝒱 c bd E arg8 σ.M)
  isplitl [H8]; · iexact H8
  iintro H8
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The accumulation's stage. -/
theorem wp_acc (s : Fin 2) (al : FVec F S1x512 .f32) {oA : Fin 2 → Nat} {hA : ∀ a, oA a + S144x512.size a ≤ S144x8192.size a}
    {oV : Fin 4 → Nat} {hV : ∀ a, oV a + S1x1x144x1024.size a ≤ S1x1x144x8192.size a} {Φ : α → sProp 𝕄}
    {kk : PUnit → Prog (TpuEff nD τ sig (Elt F) Λ₀ .tc) α} :
    iprop(STATE σ ∗ (STATE { σ with A := put σ.A oA S144x512.size (k0_pay2 al (window σ.A oA S144x512.size hA) (window v oV S1x1x144x1024.size hV) (slotP σ.P s)) }
        -∗ wp frame (wpE defs₀ 𝒱 (c : Thread nD τ) bd) E (kk ⟨⟩) Φ))
      ⊢ wp frame (wpE defs₀ 𝒱 (c : Thread nD τ) bd) E (accP (F := F) arg4 arg7 arg9 s al oA hA oV hV >>= kk) Φ := by
  unfold accP St
  simp only [Prog.bind_assoc]
  iintro ⟨⟨H2, H3, H4, H5, H6, H7, H8, H9⟩, HK⟩
  iapply (wp_ld 𝒱 c bd E arg9 σ.A)
  isplitl [H9]; · iexact H9
  iintro H9
  iapply (wp_ld 𝒱 c bd E arg4 v)
  isplitl [H4]; · iexact H4
  iintro H4
  iapply (wp_ld 𝒱 c bd E arg7 σ.P)
  isplitl [H7]; · iexact H7
  iintro H7
  iapply (wp_ld 𝒱 c bd E arg9 σ.A)
  isplitl [H9]; · iexact H9
  iintro H9
  iapply (wp_st 𝒱 c bd E arg9 σ.A)
  isplitl [H9]; · iexact H9
  iintro H9
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The output's stage. -/
theorem wp_out (s : Fin 2) (al : FVec F S1x512 .f32) {oA : Fin 2 → Nat} {hA : ∀ a, oA a + S144x512.size a ≤ S144x8192.size a}
    {oV : Fin 4 → Nat} {hV : ∀ a, oV a + S1x1x144x1024.size a ≤ S1x1x144x8192.size a}
    {oO : Fin 3 → Nat} {hO : ∀ a, oO a + S1x512x128.size a ≤ S1x8192x128.size a} {Φ : α → sProp 𝕄}
    {kk : PUnit → Prog (TpuEff nD τ sig (Elt F) Λ₀ .tc) α} :
    iprop(STATE σ ∗ (STATE { σ with O := put σ.O oO S1x512x128.size (k0_pay118 al (window σ.A oA S144x512.size hA) (window v oV S1x1x144x1024.size hV) (slotP σ.P s)) }
        -∗ wp frame (wpE defs₀ 𝒱 (c : Thread nD τ) bd) E (kk ⟨⟩) Φ))
      ⊢ wp frame (wpE defs₀ 𝒱 (c : Thread nD τ) bd) E (outP (F := F) arg4 arg5 arg7 arg9 s al oA hA oV hV oO hO >>= kk) Φ := by
  unfold outP St
  simp only [Prog.bind_assoc]
  iintro ⟨⟨H2, H3, H4, H5, H6, H7, H8, H9⟩, HK⟩
  iapply (wp_ld 𝒱 c bd E arg9 σ.A)
  isplitl [H9]; · iexact H9
  iintro H9
  iapply (wp_ld 𝒱 c bd E arg4 v)
  isplitl [H4]; · iexact H4
  iintro H4
  iapply (wp_ld 𝒱 c bd E arg7 σ.P)
  isplitl [H7]; · iexact H7
  iintro H7
  iapply (wp_ld 𝒱 c bd E arg5 σ.O)
  isplitl [H5]; · iexact H5
  iintro H5
  iapply (wp_st 𝒱 c bd E arg5 σ.O)
  isplitl [H5]; · iexact H5
  iintro H5
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The start. -/
theorem wp_ini {Φ : α → sProp 𝕄}
    {kk : PUnit → Prog (TpuEff nD τ sig (Elt F) Λ₀ .tc) α} :
    iprop(STATE σ ∗ (STATE { σ with M := put σ.M ![0, 0] S1x8192.size (k0_pay109 (F := F)), A := put σ.A ![0, 0] S144x8192.size (k0_pay110 (F := F)) }
        -∗ wp frame (wpE defs₀ 𝒱 (c : Thread nD τ) bd) E (kk ⟨⟩) Φ))
      ⊢ wp frame (wpE defs₀ 𝒱 (c : Thread nD τ) bd) E (iniP (F := F) arg8 arg9 >>= kk) Φ := by
  unfold iniP St
  simp only [Prog.bind_assoc]
  iintro ⟨⟨H2, H3, H4, H5, H6, H7, H8, H9⟩, HK⟩
  iapply (wp_ld 𝒱 c bd E arg8 σ.M)
  isplitl [H8]; · iexact H8
  iintro H8
  iapply (wp_st 𝒱 c bd E arg8 σ.M)
  isplitl [H8]; · iexact H8
  iintro H8
  iapply (wp_ld 𝒱 c bd E arg9 σ.A)
  isplitl [H9]; · iexact H9
  iintro H9
  iapply (wp_st 𝒱 c bd E arg9 σ.A)
  isplitl [H9]; · iexact H9
  iintro H9
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Stages

end Cert.Proof.Attn

end
-- ==== Proof.Sched.lean ====
/- THE SCHEDULE, IN CLOSED FORM. What the body's buffers hold before each of its 128 steps, as functions of the step: pair `t` is key chunk
   `t / 16` and query tile `t % 16`. From it the body's result block (`body_run`): tile `n` of the result is `outT8 n`, the last chunk's
   normalised accumulation. -/
module

public import proofs.«01_k».proof.Proof.Rules

@[expose] public section

set_option maxRecDepth 16384

noncomputable section

namespace Cert.Proof.Attn

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Offsets of a pair -/

/-- The tile's columns in the running maxima and in the accumulator; the chunk's keys, the tile's queries, the chunk's values, the tile's results. -/
def tO (t : Nat) : Fin 2 → Nat := ![0, 512 * (t % 16)]
def kO (t : Nat) : Fin 4 → Nat := ![0, 0, 1024 * (t / 16 % 8), 0]
def qO (t : Nat) : Fin 4 → Nat := ![0, 0, 0, 512 * (t % 16)]
def vO (t : Nat) : Fin 4 → Nat := ![0, 0, 0, 1024 * (t / 16 % 8)]
def oO (t : Nat) : Fin 3 → Nat := ![0, 512 * (t % 16), 0]

theorem tM_inb (t : Nat) : ∀ a, tO t a + S1x512.size a ≤ S1x8192.size a := by
  have := Nat.mod_lt t (by decide : 16 > 0)
  intro a; fin_cases a <;> simp [tO, S1x512, S1x8192] <;> omega
theorem tA_inb (t : Nat) : ∀ a, tO t a + S144x512.size a ≤ S144x8192.size a := by
  have := Nat.mod_lt t (by decide : 16 > 0)
  intro a; fin_cases a <;> simp [tO, S144x512, S144x8192] <;> omega
theorem kO_inb (t : Nat) : ∀ a, kO t a + S1x1x1024x256.size a ≤ S1x1x8192x256.size a := by
  have := Nat.mod_lt (t / 16) (by decide : 8 > 0)
  intro a; fin_cases a <;> simp [kO, S1x1x1024x256, S1x1x8192x256] <;> omega
theorem qO_inb (t : Nat) : ∀ a, qO t a + S1x1x256x512.size a ≤ S1x1x256x8192.size a := by
  have := Nat.mod_lt t (by decide : 16 > 0)
  intro a; fin_cases a <;> simp [qO, S1x1x256x512, S1x1x256x8192] <;> omega
theorem vO_inb (t : Nat) : ∀ a, vO t a + S1x1x144x1024.size a ≤ S1x1x144x8192.size a := by
  have := Nat.mod_lt (t / 16) (by decide : 8 > 0)
  intro a; fin_cases a <;> simp [vO, S1x1x144x1024, S1x1x144x8192] <;> omega
theorem oO_inb (t : Nat) : ∀ a, oO t a + S1x512x128.size a ≤ S1x8192x128.size a := by
  have := Nat.mod_lt t (by decide : 16 > 0)
  intro a; fin_cases a <;> simp [oO, S1x512x128, S1x8192x128] <;> omega

/-- A pair's tile of the running maxima, of the accumulator, of the result. -/
def tileM (x : Vec F S1x8192 .f32) (t : Nat) : Vec F S1x512 .f32 := window x (tO t) S1x512.size (tM_inb t)
def tileA (x : Vec F S144x8192 .f32) (t : Nat) : Vec F S144x512 .f32 := window x (tO t) S144x512.size (tA_inb t)
def tileO (x : Vec F S1x8192x128 .f32) (t : Nat) : Vec F S1x512x128 .f32 := window x (oO t) S1x512x128.size (oO_inb t)

/-! ## Puts and windows -/

theorem slotS_same (x : Vec F S2x1024x512 .f32) (s : Fin 2) (w : Vec F S1x1024x512 .f32) : slotS (put x ![s.val, 0, 0] S1x1024x512.size w) s = w :=
  window_put_same ..
theorem slotP_same (x : Vec F S2x1024x512 .bf16) (s : Fin 2) (w : Vec F S1x1024x512 .bf16) : slotP (put x ![s.val, 0, 0] S1x1024x512.size w) s = w :=
  window_put_same ..
theorem slotS_ne (x : Vec F S2x1024x512 .f32) {s s' : Fin 2} (h : s ≠ s') (w : Vec F S1x1024x512 .f32) :
    slotS (put x ![s.val, 0, 0] S1x1024x512.size w) s' = slotS x s' :=
  window_put_of_disjoint x ![s.val, 0, 0] S1x1024x512.size ![s'.val, 0, 0] S1x1024x512.size (slot_inb s') w 0 (by
    have : s.val ≠ s'.val := fun e => h (Fin.ext e)
    show s'.val + 1 ≤ s.val ∨ s.val + 1 ≤ s'.val
    omega)
theorem tileM_same (x : Vec F S1x8192 .f32) (t : Nat) (w : Vec F S1x512 .f32) : tileM (put x (tO t) S1x512.size w) t = w := window_put_same ..
theorem tileA_same (x : Vec F S144x8192 .f32) (t : Nat) (w : Vec F S144x512 .f32) : tileA (put x (tO t) S144x512.size w) t = w := window_put_same ..
theorem tileO_same (x : Vec F S1x8192x128 .f32) (t : Nat) (w : Vec F S1x512x128 .f32) : tileO (put x (oO t) S1x512x128.size w) t = w := window_put_same ..
theorem tileM_ne (x : Vec F S1x8192 .f32) {t n : Nat} (h : n % 16 ≠ t % 16) (w : Vec F S1x512 .f32) : tileM (put x (tO t) S1x512.size w) n = tileM x n :=
  window_put_of_disjoint x (tO t) S1x512.size (tO n) S1x512.size (tM_inb n) w 1 (by
    show 512 * (n % 16) + 512 ≤ 512 * (t % 16) ∨ 512 * (t % 16) + 512 ≤ 512 * (n % 16)
    omega)
theorem tileA_ne (x : Vec F S144x8192 .f32) {t n : Nat} (h : n % 16 ≠ t % 16) (w : Vec F S144x512 .f32) : tileA (put x (tO t) S144x512.size w) n = tileA x n :=
  window_put_of_disjoint x (tO t) S144x512.size (tO n) S144x512.size (tA_inb n) w 1 (by
    show 512 * (n % 16) + 512 ≤ 512 * (t % 16) ∨ 512 * (t % 16) + 512 ≤ 512 * (n % 16)
    omega)
theorem tileO_ne (x : Vec F S1x8192x128 .f32) {t n : Nat} (h : n % 16 ≠ t % 16) (w : Vec F S1x512x128 .f32) : tileO (put x (oO t) S1x512x128.size w) n = tileO x n :=
  window_put_of_disjoint x (oO t) S1x512x128.size (oO n) S1x512x128.size (oO_inb n) w 1 (by
    show 512 * (n % 16) + 512 ≤ 512 * (t % 16) ∨ 512 * (t % 16) + 512 ≤ 512 * (n % 16)
    omega)
theorem window_congr {s : Shape} {α : Type} (x : s.Idx → α) {off off' size : Fin s.rank → Nat} (h : off = off') (i : ∀ a, off a + size a ≤ s.size a)
    (i' : ∀ a, off' a + size a ≤ s.size a) : window x off size i = window x off' size i' := by subst h; rfl
theorem tO_mod (t : Nat) : tO (t % 16) = tO t := by unfold tO; rw [Nat.mod_mod]
theorem tileM_mod (x : Vec F S1x8192 .f32) (t : Nat) : tileM x (t % 16) = tileM x t := window_congr x (tO_mod t) _ _
theorem tileA_mod (x : Vec F S144x8192 .f32) (t : Nat) : tileA x (t % 16) = tileA x t := window_congr x (tO_mod t) _ _

/-- A put over the whole is the payload. -/
theorem put_full {s : Shape} {α : Type} (x : s.Idx → α) {off : Fin s.rank → Nat} (h : ∀ a, off a = 0) (w : s.Idx → α) : put x off s.size w = w := by
  funext y
  have hy : ∀ a, off a ≤ (y a).val ∧ (y a).val < off a + s.size a := fun a => by have := h a; have := (y a).isLt; omega
  show (if h : _ then w (Rect.unitLocal (s := s) (off := off) (size := s.size) y h) else x y) = w y
  rw [dif_pos hy]
  exact congrArg w (funext fun a => Fin.ext (by show (y a).val - off a = (y a).val; have := h a; omega))

theorem par_ne (t : Nat) : par t ≠ par (t + 1) := fun h => by
  have : t % 2 = (t + 1) % 2 := congrArg Fin.val h
  omega
theorem par_two (t : Nat) : par (t + 2) = par t := Fin.ext (by show (t + 2) % 2 = t % 2; omega)

/-! ## The values of a pair -/

section Values

variable (q : Vec F S1x1x256x8192 .bf16) (k : Vec F S1x1x8192x256 .bf16) (v : Vec F S1x1x144x8192 .bf16)

/-- Pair `t`'s scores: its 1024 keys times its 512 queries. -/
def scs (t : Nat) : Vec F S1x1024x512 .f32 := k0_pay7 (window k (kO t) S1x1x1024x256.size (kO_inb t)) (window q (qO t) S1x1x256x512.size (qO_inb t))

/-- Tile `n`'s running maximum before chunk `j`. -/
def mxs (n : Nat) : Nat → Vec F S1x512 .f32
  | 0 => tileM (k0_pay109 (F := F)) n
  | j + 1 => k0_pay5 (k0_pay3 (mxs n j) (scs q k (16 * j + n)))

/-- Pair `t`'s maximum, its weights, and the factor its older weights shrink by. -/
def mxn (t : Nat) : FVec F S1x512 .f32 := k0_pay3 (mxs q k (t % 16) (t / 16)) (scs q k t)
def wts (t : Nat) : Vec F S1x1024x512 .bf16 := k0_pay4 (mxn q k t) (scs q k t)
def als (t : Nat) : FVec F S1x512 .f32 := k0_pay6 (mxs q k (t % 16) (t / 16)) (mxn q k t)

/-- Pair `t`'s values. -/
def vls (t : Nat) : Vec F S1x1x144x1024 .bf16 := window v (vO t) S1x1x144x1024.size (vO_inb t)

/-- Tile `n`'s accumulator before chunk `j`. -/
def acs (n : Nat) : Nat → Vec F S144x512 .f32
  | 0 => tileA (k0_pay110 (F := F)) n
  | j + 1 => k0_pay2 (als q k (16 * j + n)) (acs n j) (vls v (16 * j + n)) (wts q k (16 * j + n))

/-- Tile `n`'s result. -/
def outs (n : Nat) : Vec F S1x512x128 .f32 :=
  k0_pay118 (als q k (112 + n)) (acs q k v n 7) (vls v (112 + n)) (wts q k (112 + n))

theorem mxs_succ (t : Nat) : mxs q k (t % 16) (t / 16 + 1) = k0_pay5 (mxn q k t) := by
  show k0_pay5 (k0_pay3 (mxs q k (t % 16) (t / 16)) (scs q k (16 * (t / 16) + t % 16))) = _
  rw [Nat.div_add_mod]; rfl
theorem acs_succ (t : Nat) : acs q k v (t % 16) (t / 16 + 1) = k0_pay2 (als q k t) (acs q k v (t % 16) (t / 16)) (vls v t) (wts q k t) := by
  show k0_pay2 (als q k (16 * (t / 16) + t % 16)) (acs q k v (t % 16) (t / 16)) (vls v (16 * (t / 16) + t % 16)) (wts q k (16 * (t / 16) + t % 16)) = _
  rw [Nat.div_add_mod]

/-! ## The stages as maps of what the buffers hold -/

def iniT (σ : Mem F) : Mem F := { σ with M := put σ.M ![0, 0] S1x8192.size (k0_pay109 (F := F)), A := put σ.A ![0, 0] S144x8192.size (k0_pay110 (F := F)) }
def scoT (t : Nat) (σ : Mem F) : Mem F := { σ with S := put σ.S ![(par t).val, 0, 0] S1x1024x512.size (scs q k t) }
def expT (t : Nat) (σ : Mem F) : Mem F := { σ with
  P := put σ.P ![(par t).val, 0, 0] S1x1024x512.size (k0_pay4 (k0_pay3 (tileM σ.M t) (slotS σ.S (par t))) (slotS σ.S (par t)))
  M := put σ.M (tO t) S1x512.size (k0_pay5 (k0_pay3 (tileM σ.M t) (slotS σ.S (par t)))) }
def expR (t : Nat) (σ : Mem F) : FVec F S1x512 .f32 := k0_pay6 (tileM σ.M t) (k0_pay3 (tileM σ.M t) (slotS σ.S (par t)))
def accT (t : Nat) (al : FVec F S1x512 .f32) (σ : Mem F) : Mem F := { σ with
  A := put σ.A (tO t) S144x512.size (k0_pay2 al (tileA σ.A t) (vls v t) (slotP σ.P (par t))) }
def outT (t : Nat) (al : FVec F S1x512 .f32) (σ : Mem F) : Mem F := { σ with
  O := put σ.O (oO t) S1x512x128.size (k0_pay118 al (tileA σ.A t) (vls v t) (slotP σ.P (par t))) }

/-! ## The invariant -/

/-- What the buffers hold before step `t`, and the factor `al` carried to it. -/
structure Inv (t : Nat) (σ : Mem F) (al : FVec F S1x512 .f32) : Prop where
  hS : slotS σ.S (par (t + 1)) = scs q k (t + 1)
  hP : slotP σ.P (par t) = wts q k t
  hal : al = als q k t
  hM : ∀ n < 16, tileM σ.M n = mxs q k n ((t + 16 - n) / 16)
  hA : ∀ n < 16, tileA σ.A n = acs q k v n (min 7 ((t + 15 - n) / 16))
  hO : ∀ n < 16, 112 + n < t → tileO σ.O n = outs q k v n

variable {q k v}

/-- The exponentials of pair `t + 1`, then the scores of pair `t + 2`, carry the invariant's parts on scores, weights and maxima one step on. -/
theorem exp_sco {t : Nat} {σ : Mem F} {al : FVec F S1x512 .f32} (hS : slotS σ.S (par (t + 1)) = scs q k (t + 1))
    (hM : ∀ n < 16, tileM σ.M n = mxs q k n ((t + 16 - n) / 16)) :
    slotP (expT (t + 1) σ).P (par (t + 1)) = wts q k (t + 1) ∧ expR (t + 1) σ = als q k (t + 1)
      ∧ ∀ n < 16, tileM (expT (t + 1) σ).M n = mxs q k n ((t + 1 + 16 - n) / 16) := by
  have hm : tileM σ.M (t + 1) = mxs q k ((t + 1) % 16) ((t + 1) / 16) := by
    rw [← tileM_mod, hM _ (Nat.mod_lt _ (by decide))]
    congr 1; omega
  refine ⟨?_, ?_, fun n hn => ?_⟩
  · show slotP (put _ _ _ _) _ = _
    rw [slotP_same, hm, hS]; rfl
  · show k0_pay6 _ _ = _
    rw [hm, hS]; rfl
  · show tileM (put _ _ _ _) n = _
    by_cases h : n % 16 = (t + 1) % 16
    · have e : n = (t + 1) % 16 := by omega
      subst e
      rw [tileM_mod, tileM_same, hm, hS]
      have e' : (t + 1 + 16 - (t + 1) % 16) / 16 = (t + 1) / 16 + 1 := by omega
      rw [e', mxs_succ]; rfl
    · rw [tileM_ne _ h, hM n hn]
      congr 1; omega

theorem sco_next {t : Nat} {σ : Mem F} : slotS (scoT q k (t + 2) σ).S (par (t + 2)) = scs q k (t + 2) := slotS_same ..

/-- A step of the loop. -/
theorem Inv.step {t : Nat} (ht : t < 112) {σ : Mem F} {al : FVec F S1x512 .f32} (h : Inv q k v t σ al) :
    Inv q k v (t + 1) (scoT q k (t + 2) (expT (t + 1) (accT v t al σ))) (expR (t + 1) (accT v t al σ)) := by
  obtain ⟨hP', hal', hM'⟩ := exp_sco (σ := accT v t al σ) (al := al) h.hS h.hM
  refine ⟨sco_next, hP', hal', hM', fun n hn => ?_, fun n hn h' => absurd h' (by omega)⟩
  show tileA (put _ _ _ _) n = _
  by_cases e : n % 16 = t % 16
  · have e : n = t % 16 := by omega
    subst e
    have e1 : min 7 ((t + 15 - t % 16) / 16) = t / 16 := by omega
    have e2 : min 7 ((t + 1 + 15 - t % 16) / 16) = t / 16 + 1 := by omega
    rw [tileA_mod, tileA_same, e2, acs_succ, ← tileA_mod, h.hA _ hn, h.hP, h.hal, e1]
  · rw [tileA_ne _ e, h.hA n hn]
    congr 1; omega

/-- The result of pair `t`, of the last chunk. -/
theorem Inv.outO {t : Nat} (ht : 112 ≤ t) (ht' : t < 128) {σ : Mem F} {al : FVec F S1x512 .f32} (hP : slotP σ.P (par t) = wts q k t)
    (hal : al = als q k t) (hA : ∀ n < 16, tileA σ.A n = acs q k v n (min 7 ((t + 15 - n) / 16))) (hO : ∀ n < 16, 112 + n < t → tileO σ.O n = outs q k v n) :
    ∀ n < 16, 112 + n < t + 1 → tileO (outT v t al σ).O n = outs q k v n := fun n hn h' => by
  show tileO (put _ _ _ _) n = _
  by_cases e : 112 + n = t
  · subst e
    have e0 : oO (112 + n) = oO n := by unfold oO; rw [show (112 + n) % 16 = n % 16 by omega]
    have e1 : min 7 ((112 + n + 15 - n) / 16) = 7 := by omega
    have e2 : (112 + n) % 16 = n := by omega
    rw [e0, tileO_same, ← tileA_mod, e2, hA n hn, e1, hP, hal]; rfl
  · rw [tileO_ne _ (by omega), hO n hn (by omega)]

/-- A step of the closing group. -/
theorem Inv.close {t : Nat} (ht : 112 ≤ t) (ht' : t < 128) {σ : Mem F} {al : FVec F S1x512 .f32} (h : Inv q k v t σ al) :
    Inv q k v (t + 1) (scoT q k (t + 2) (expT (t + 1) (outT v t al σ))) (expR (t + 1) (outT v t al σ)) := by
  obtain ⟨hP', hal', hM'⟩ := exp_sco (σ := outT v t al σ) (al := al) h.hS h.hM
  refine ⟨sco_next, hP', hal', hM', fun n hn => ?_, Inv.outO ht ht' h.hP h.hal h.hA h.hO⟩
  refine (h.hA n hn).trans ?_
  congr 1; omega

/-- The last two steps: every tile of the result is written. -/
theorem Inv.last {σ : Mem F} {al : FVec F S1x512 .f32} (h : Inv q k v 126 σ al) :
    ∀ n < 16, tileO (outT v 127 (expR 127 (outT v 126 al σ)) (expT 127 (outT v 126 al σ))).O n = outs q k v n := fun n hn => by
  have hc := h.close (by decide) (by decide)
  exact Inv.outO (t := 127) (σ := expT 127 (outT v 126 al σ)) (by decide) (by decide) hc.hP hc.hal hc.hA hc.hO n hn (by omega)

/-- The start. -/
theorem Inv.ini (σ : Mem F) : Inv q k v 0 (expT 0 (scoT q k 1 (scoT q k 0 (iniT σ)))) (expR 0 (scoT q k 1 (scoT q k 0 (iniT σ)))) := by
  have hM : ∀ n, tileM (iniT σ).M n = mxs q k n 0 := fun n => by
    show tileM (put _ _ _ _) n = tileM _ n
    congr 1
    exact put_full _ (by decide) _
  have hA : ∀ n, tileA (iniT σ).A n = acs q k v n 0 := fun n => by
    show tileA (put _ _ _ _) n = tileA _ n
    congr 1
    exact put_full _ (by decide) _
  have hs0 : slotS (scoT q k 1 (scoT q k 0 (iniT σ))).S (par 0) = scs q k 0 := by
    show slotS (put (put _ _ _ _) _ _ _) _ = _
    rw [slotS_ne _ (par_ne 0).symm, slotS_same]
  have hs1 : slotS (scoT q k 1 (scoT q k 0 (iniT σ))).S (par 1) = scs q k 1 := slotS_same ..
  have hm : tileM (scoT q k 1 (scoT q k 0 (iniT σ))).M 0 = mxs q k 0 0 := hM 0
  refine ⟨hs1, ?_, ?_, fun n hn => ?_, fun n hn => ?_, fun n hn h => absurd h (by omega)⟩
  · show slotP (put _ _ _ _) _ = _
    rw [slotP_same, hm, hs0]; rfl
  · show k0_pay6 _ _ = _
    rw [hm, hs0]; rfl
  · show tileM (put _ _ _ _) n = _
    by_cases e : n = 0
    · subst e
      rw [tileM_same, hm, hs0]; rfl
    · rw [tileM_ne _ (by omega)]
      have e' : (0 + 16 - n) / 16 = 0 := by omega
      rw [e']; exact hM n
  · have e' : min 7 ((0 + 15 - n) / 16) = 0 := by omega
    rw [e']; exact hA n

end Values

end Cert.Proof.Attn

end
-- ==== Proof.Body.lean ====
/- THE BODY'S RUN. From the eight buffers, the result block at anything and the scratch at anything, the body ends with every tile of the result
   written (`body_run`). -/
module

public import proofs.«01_k».proof.Proof.Sched

@[expose] public section

set_option maxRecDepth 16384

noncomputable section

namespace Cert.Proof.Attn

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The closing group's offsets, in closed form -/

theorem off1_eq : ∀ u : Fin 14, k0_off1 (BitVec.ofNat 32 (114 + u.val)) = kO (112 + u.val + 2) := by decide +kernel
theorem off2_eq : ∀ u : Fin 14, k0_off2 (BitVec.ofNat 32 (114 + u.val)) = qO (112 + u.val + 2) := by decide +kernel
theorem off3_eq : ∀ u : Fin 15, k0_off3 (BitVec.ofNat 32 (113 + u.val)) = tO (112 + u.val + 1) := by decide +kernel
theorem off9_eq : ∀ u : Fin 16, k0_off9 (BitVec.ofNat 32 (112 + u.val)) = tO (112 + u.val) := by decide +kernel
theorem off10_eq : ∀ u : Fin 16, k0_off10 (BitVec.ofNat 32 (112 + u.val)) = vO (112 + u.val) := by decide +kernel
theorem off11_eq : ∀ u : Fin 16, k0_off11 (BitVec.ofNat 32 (112 + u.val)) = oO (112 + u.val) := by decide +kernel
theorem off1_0 : k0_off1 0#32 = kO 0 := by decide +kernel
theorem off1_1 : k0_off1 1#32 = kO 1 := by decide +kernel
theorem off2_0 : k0_off2 0#32 = qO 0 := by decide +kernel
theorem off2_1 : k0_off2 1#32 = qO 1 := by decide +kernel
theorem off3_0 : k0_off3 0#32 = tO 0 := by decide +kernel
theorem off5_eq : ∀ k : Fin k0_t1_loop.trips, ∀ u : Fin 16, k0_off5 k (BitVec.ofNat 32 u.val) = vO (16 * k.val + u.val) := by decide +kernel
theorem off7_eq : ∀ k : Fin k0_t1_loop.trips, ∀ u : Fin 16, k0_off7 k (BitVec.ofNat 32 u.val) = kO (16 * k.val + u.val + 2) := by decide +kernel

variable (𝒱 : Variants) (c : Dev nD) (bd : Option 𝒱.V) (E : Set ℕ)
variable (arg2 : Memref sig .tc .vmem S1x1x256x8192 .bf16) (arg3 : Memref sig .tc .vmem S1x1x8192x256 .bf16) (arg4 : Memref sig .tc .vmem S1x1x144x8192 .bf16) (arg5 : Memref sig .tc .vmem S1x8192x128 .f32) (arg6 : Memref sig .tc .vmem S2x1024x512 .f32) (arg7 : Memref sig .tc .vmem S2x1024x512 .bf16) (harg7 : arg7.IsWhole) (arg8 : Memref sig .tc .vmem S1x8192 .f32) (arg9 : Memref sig .tc .vmem S144x8192 .f32)
variable (q : Vec F S1x1x256x8192 .bf16) (k : Vec F S1x1x8192x256 .bf16) (v : Vec F S1x1x144x8192 .bf16)

local notation "STATE" => St (F := F) c arg2 arg3 arg4 arg5 arg6 arg7 arg8 arg9 q k v

variable {α : Type} (σ : Mem F) (t : Nat)

/-! ## The stages at a pair -/

theorem wp_scoT (s : Fin 2) (hs : s = par t) {oK : Fin 4 → Nat} (eK : oK = kO t) {hK : ∀ a, oK a + S1x1x1024x256.size a ≤ S1x1x8192x256.size a}
    {oQ : Fin 4 → Nat} (eQ : oQ = qO t) {hQ : ∀ a, oQ a + S1x1x256x512.size a ≤ S1x1x256x8192.size a} {Φ : α → sProp 𝕄}
    {kk : PUnit → Prog (TpuEff nD τ sig (Elt F) Λ₀ .tc) α} :
    iprop(STATE σ ∗ (STATE (scoT q k t σ) -∗ wp frame (wpE defs₀ 𝒱 (c : Thread nD τ) bd) E (kk ⟨⟩) Φ))
      ⊢ wp frame (wpE defs₀ 𝒱 (c : Thread nD τ) bd) E (scoP (F := F) arg2 arg3 arg6 s oK hK oQ hQ >>= kk) Φ := by
  subst hs eK eQ; exact wp_sco 𝒱 c bd E arg2 arg3 arg4 arg5 arg6 arg7 arg8 arg9 q k v σ (par t)

theorem wp_expT (s : Fin 2) (hs : s = par t) {oM : Fin 2 → Nat} (eM : oM = tO t) {hM : ∀ a, oM a + S1x512.size a ≤ S1x8192.size a} {Φ : α → sProp 𝕄}
    {kk : FVec F S1x512 .f32 → Prog (TpuEff nD τ sig (Elt F) Λ₀ .tc) α} :
    iprop(STATE σ ∗ (STATE (expT t σ) -∗ wp frame (wpE defs₀ 𝒱 (c : Thread nD τ) bd) E (kk (expR t σ)) Φ))
      ⊢ wp frame (wpE defs₀ 𝒱 (c : Thread nD τ) bd) E (expP (F := F) arg6 arg7 harg7 arg8 s oM hM >>= kk) Φ := by
  subst hs eM; exact wp_exp 𝒱 c bd E arg2 arg3 arg4 arg5 arg6 arg7 harg7 arg8 arg9 q k v σ (par t)

theorem wp_accT (s : Fin 2) (hs : s = par t) (al : FVec F S1x512 .f32) {oA : Fin 2 → Nat} (eA : oA = tO t) {hA : ∀ a, oA a + S144x512.size a ≤ S144x8192.size a}
    {oV : Fin 4 → Nat} (eV : oV = vO t) {hV : ∀ a, oV a + S1x1x144x1024.size a ≤ S1x1x144x8192.size a} {Φ : α → sProp 𝕄}
    {kk : PUnit → Prog (TpuEff nD τ sig (Elt F) Λ₀ .tc) α} :
    iprop(STATE σ ∗ (STATE (accT v t al σ) -∗ wp frame (wpE defs₀ 𝒱 (c : Thread nD τ) bd) E (kk ⟨⟩) Φ))
      ⊢ wp frame (wpE defs₀ 𝒱 (c : Thread nD τ) bd) E (accP (F := F) arg4 arg7 arg9 s al oA hA oV hV >>= kk) Φ := by
  subst hs eA eV; exact wp_acc 𝒱 c bd E arg2 arg3 arg4 arg5 arg6 arg7 arg8 arg9 q k v σ (par t) al

theorem wp_outT (s : Fin 2) (hs : s = par t) (al : FVec F S1x512 .f32) {oA : Fin 2 → Nat} (eA : oA = tO t) {hA : ∀ a, oA a + S144x512.size a ≤ S144x8192.size a}
    {oV : Fin 4 → Nat} (eV : oV = vO t) {hV : ∀ a, oV a + S1x1x144x1024.size a ≤ S1x1x144x8192.size a}
    {oR : Fin 3 → Nat} (eR : oR = oO t) {hR : ∀ a, oR a + S1x512x128.size a ≤ S1x8192x128.size a} {Φ : α → sProp 𝕄}
    {kk : PUnit → Prog (TpuEff nD τ sig (Elt F) Λ₀ .tc) α} :
    iprop(STATE σ ∗ (STATE (outT v t al σ) -∗ wp frame (wpE defs₀ 𝒱 (c : Thread nD τ) bd) E (kk ⟨⟩) Φ))
      ⊢ wp frame (wpE defs₀ 𝒱 (c : Thread nD τ) bd) E (outP (F := F) arg4 arg5 arg7 arg9 s al oA hA oV hV oR hR >>= kk) Φ := by
  subst hs eA eV eR; exact wp_out 𝒱 c bd E arg2 arg3 arg4 arg5 arg6 arg7 arg8 arg9 q k v σ (par t) al

/-! ## The steps -/

/-- The buffers before step `t`, some contents that meet the invariant. -/
def At (t : Nat) (al : FVec F S1x512 .f32) : sProp 𝕄 := iprop(∃ σ : Mem F, ⌜Inv q k v t σ al⌝ ∗ STATE σ)

local notation "AT" => At (F := F) c arg2 arg3 arg4 arg5 arg6 arg7 arg8 arg9 q k v

/-- A step of the loop. -/
theorem wp_step (j : Fin k0_t1_loop.trips) (u : Fin 16) (al : FVec F S1x512 .f32) :
    AT (16 * j.val + u.val) al ⊢ wp frame (wpE defs₀ 𝒱 (c : Thread nD τ) bd) E (stepP arg2 arg3 arg4 arg6 arg7 harg7 arg8 arg9 j u al) (AT (16 * j.val + u.val + 1)) := by
  have hj : j.val < 7 := j.isLt
  have hu := u.isLt
  unfold At stepP
  iintro ⟨%σ, %h, H⟩
  iapply (wp_accT 𝒱 c bd E arg2 arg3 arg4 arg5 arg6 arg7 arg8 arg9 q k v σ (16 * j.val + u.val) _ (Fin.ext (by show u.val % 2 = (16 * j.val + u.val) % 2; omega)) al (k0_off4_eq j u) (off5_eq j u))
  isplitl [H]; · iexact H
  iintro H
  iapply (wp_expT 𝒱 c bd E arg2 arg3 arg4 arg5 arg6 arg7 harg7 arg8 arg9 q k v _ (16 * j.val + u.val + 1) _ (Fin.ext (by show (u.val + 1) % 2 = (16 * j.val + u.val + 1) % 2; omega)) (k0_off6_eq j u))
  isplitl [H]; · iexact H
  iintro H
  iapply (wp_scoT 𝒱 c bd E arg2 arg3 arg4 arg5 arg6 arg7 arg8 arg9 q k v _ (16 * j.val + u.val + 2) _ (Fin.ext (by show u.val % 2 = (16 * j.val + u.val + 2) % 2; omega)) (off7_eq j u) (k0_off8_eq j u))
  isplitl [H]; · iexact H
  iintro H
  rw [Prog.pure_eq_ret, wp_ret]
  imodintro
  iexists _
  isplitr
  rotate_left
  · iexact H
  · ipureintro; exact h.step (by omega)

/-- A step of the closing group. -/
theorem wp_close (u : Fin 14) (al : FVec F S1x512 .f32) :
    AT (112 + u.val) al ⊢ wp frame (wpE defs₀ 𝒱 (c : Thread nD τ) bd) E (closeP arg2 arg3 arg4 arg5 arg6 arg7 harg7 arg8 arg9 u al) (AT (112 + u.val + 1)) := by
  have hu := u.isLt
  have h15 : u.val < 15 := by omega
  have h16 : u.val < 16 := by omega
  unfold At closeP lastP
  iintro ⟨%σ, %h, H⟩
  iapply (wp_outT 𝒱 c bd E arg2 arg3 arg4 arg5 arg6 arg7 arg8 arg9 q k v σ (112 + u.val) _ (Fin.ext (by show u.val % 2 = (112 + u.val) % 2; omega)) al (off9_eq ⟨u.val, h16⟩) (off10_eq ⟨u.val, h16⟩) (off11_eq ⟨u.val, h16⟩))
  isplitl [H]; · iexact H
  iintro H
  iapply (wp_expT 𝒱 c bd E arg2 arg3 arg4 arg5 arg6 arg7 harg7 arg8 arg9 q k v _ (112 + u.val + 1) _ (Fin.ext (by show (u.val + 1) % 2 = (112 + u.val + 1) % 2; omega)) (off3_eq ⟨u.val, h15⟩))
  isplitl [H]; · iexact H
  iintro H
  iapply (wp_scoT 𝒱 c bd E arg2 arg3 arg4 arg5 arg6 arg7 arg8 arg9 q k v _ (112 + u.val + 2) _ (Fin.ext (by show u.val % 2 = (112 + u.val + 2) % 2; omega)) (off1_eq u) (off2_eq u))
  isplitl [H]; · iexact H
  iintro H
  rw [Prog.pure_eq_ret, wp_ret]
  imodintro
  iexists _
  isplitr
  rotate_left
  · iexact H
  · ipureintro; exact h.close (by omega) (by omega)

/-- A trip of the loop. -/
theorem wp_trip (j : Fin k0_t1_loop.trips) (al : FVec F S1x512 .f32) :
    AT (16 * j.val) al ⊢ wp frame (wpE defs₀ 𝒱 (c : Thread nD τ) bd) E (tripP arg2 arg3 arg4 arg6 arg7 harg7 arg8 arg9 j al) (AT (16 * (j.val + 1))) := by
  have e : ([0, 1, 2, 3, 4, 5, 6, 7, 8, 9, 10, 11, 12, 13, 14, 15] : List (Fin 16)) = (List.finRange 16).drop 0 := by decide
  unfold tripP
  rw [e]
  iintro H
  iapply (Scf.wp_forFrom frame (wpE defs₀ 𝒱 (c : Thread nD τ) bd) E (stepP arg2 arg3 arg4 arg6 arg7 harg7 arg8 arg9 j) (fun u al => AT (16 * j.val + u) al)
    (fun u al => wp_step 𝒱 c bd E arg2 arg3 arg4 arg5 arg6 arg7 harg7 arg8 arg9 q k v j u al) 0 (by decide) al)
  isplitl [H]
  · iexact H
  · iintro %al' H
    iexact H

/-- The body: every tile of the result is written. -/
theorem body_run : STATE σ ⊢ wp frame (wpE defs₀ 𝒱 (c : Thread nD τ) bd) E (bodyP arg2 arg3 arg4 arg5 arg6 arg7 harg7 arg8 arg9)
    (fun _ => iprop(∃ σ' : Mem F, ⌜∀ n < 16, tileO σ'.O n = outs q k v n⌝ ∗ STATE σ')) := by
  have e : ([0, 1, 2, 3, 4, 5, 6, 7, 8, 9, 10, 11, 12, 13] : List (Fin 14)) = (List.finRange 14).drop 0 := by decide
  unfold bodyP
  iintro H
  iapply (wp_ini 𝒱 c bd E arg2 arg3 arg4 arg5 arg6 arg7 arg8 arg9 q k v σ)
  isplitl [H]; · iexact H
  iintro H
  iapply (wp_scoT 𝒱 c bd E arg2 arg3 arg4 arg5 arg6 arg7 arg8 arg9 q k v (iniT σ) 0 _ rfl off1_0 off2_0)
  isplitl [H]; · iexact H
  iintro H
  iapply (wp_scoT 𝒱 c bd E arg2 arg3 arg4 arg5 arg6 arg7 arg8 arg9 q k v _ 1 _ rfl off1_1 off2_1)
  isplitl [H]; · iexact H
  iintro H
  iapply (wp_expT 𝒱 c bd E arg2 arg3 arg4 arg5 arg6 arg7 harg7 arg8 arg9 q k v _ 0 _ rfl off3_0)
  isplitl [H]; · iexact H
  iintro H
  iapply (Scf.wp_for_bind frame (wpE defs₀ 𝒱 (c : Thread nD τ) bd) E k0_t1_loop.lb k0_t1_loop.ub k0_t1_loop.st k0_t1_ok _ (tripP arg2 arg3 arg4 arg6 arg7 harg7 arg8 arg9)
    (fun j al => AT (16 * j) al) (fun j al => wp_trip 𝒱 c bd E arg2 arg3 arg4 arg5 arg6 arg7 harg7 arg8 arg9 q k v j al)) $$ [H]
  · unfold At
    iexists _
    isplitr
    rotate_left
    · iexact H
    · ipureintro; exact Inv.ini σ
  iintro %al H
  rw [wp_bind, e]
  iapply (Scf.wp_forFrom frame (wpE defs₀ 𝒱 (c : Thread nD τ) bd) E (closeP arg2 arg3 arg4 arg5 arg6 arg7 harg7 arg8 arg9) (fun u al => AT (112 + u) al)
    (fun u al => wp_close 𝒱 c bd E arg2 arg3 arg4 arg5 arg6 arg7 harg7 arg8 arg9 q k v u al) 0 (by decide) al)
  isplitl [H]
  · iexact H
  iintro %al' H
  unfold At
  icases H with ⟨%σ', %h, H⟩
  unfold lastP
  iapply (wp_outT 𝒱 c bd E arg2 arg3 arg4 arg5 arg6 arg7 arg8 arg9 q k v σ' 126 _ rfl al' (off9_eq 14) (off10_eq 14) (off11_eq 14))
  isplitl [H]; · iexact H
  iintro H
  iapply (wp_expT 𝒱 c bd E arg2 arg3 arg4 arg5 arg6 arg7 harg7 arg8 arg9 q k v _ 127 _ rfl (off3_eq 14))
  isplitl [H]; · iexact H
  iintro H
  rw [← Prog.bind_pure (outP _ _ _ _ _ _ _ _ _ _ _ _)]
  iapply (wp_outT 𝒱 c bd E arg2 arg3 arg4 arg5 arg6 arg7 arg8 arg9 q k v _ 127 _ rfl _ (off9_eq 15) (off10_eq 15) (off11_eq 15))
  isplitl [H]; · iexact H
  iintro H
  rw [Prog.pure_eq_ret, wp_ret]
  imodintro
  iexists _
  isplitr
  rotate_left
  · iexact H
  · ipureintro; exact h.last

end Cert.Proof.Attn

end
-- ==== Proof.Run.lean ====
/- THE LAUNCH. The pipeline's proof data — each point's result block is what the body's schedule leaves (`resO`) —, the body obligation, and
   @main's run, for any float values. -/
module

public import proofs.«01_k».proof.Proof.Body
public import proofs.«01_k».proof.Proof.Gen.KernelIdeal.Frame

@[expose] public section

set_option maxRecDepth 16384

noncomputable section

namespace Cert.Proof.Attn

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- An index of the result block within its tile. -/
def inTile (y : S1x8192x128.Idx) : S1x512x128.Idx :=
  fun | ⟨0, _⟩ => ⟨0, Nat.zero_lt_one⟩ | ⟨1, _⟩ => ⟨(y 1).val % 512, Nat.mod_lt _ (by decide)⟩ | ⟨2, _⟩ => ⟨(y 2).val, (y 2).isLt⟩

/-- The body's result block: tile by tile, the schedule's results. -/
def resO (q : Vec F S1x1x256x8192 .bf16) (k : Vec F S1x1x8192x256 .bf16) (v : Vec F S1x1x144x8192 .bf16) : Vec F S1x8192x128 .f32 :=
  fun y => outs q k v ((y 1).val / 512) (inTile y)

/-- A block whose every tile is the schedule's is the body's result block. -/
theorem eq_resO {q : Vec F S1x1x256x8192 .bf16} {k : Vec F S1x1x8192x256 .bf16} {v : Vec F S1x1x144x8192 .bf16} {x : Vec F S1x8192x128 .f32}
    (h : ∀ n < 16, tileO x n = outs q k v n) : x = resO q k v := by
  funext y
  have h1 : (y 1).val < 8192 := (y 1).isLt
  have h0 : (y 0).val < 1 := (y 0).isLt
  show x y = outs q k v ((y 1).val / 512) (inTile y)
  rw [← h _ (by omega)]
  show x y = x _
  refine congrArg x (funext fun a => Fin.ext ?_)
  fin_cases a
  · show (y 0).val = 0 + 1 * 0
    omega
  · show (y 1).val = 512 * ((y 1).val / 512 % 16) + 1 * ((y 1).val % 512)
    omega
  · show (y 2).val = 0 + 1 * (y 2).val
    omega

/-! ## The pipeline's proof data -/

variable (m : (ℓ : Loc nD τ sig) → Buf (Elt F) ℓ) (ρ : Dev nD → PrngReg)

/-- What the body leaves in the result's staging buffer at point `t`. -/
def outsAt (c : Dev nD) (t : Fin cfg0.N) : Vec F S1x8192x128 .f32 := resO (iblk m c 0 t) (iblk m c 1 t) (iblk m c 2 t)

/-- The arrays as the region finds them; after the body each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points: the scratch at something, the generator register at something. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

/-- The body at any staging memrefs and any scratch. -/
theorem kernelRun (c : Dev nD) (i : grid0.Coords) (arg2 : Memref sig .tc .vmem S1x1x256x8192 .bf16) (harg2 : arg2.IsWhole) (arg3 : Memref sig .tc .vmem S1x1x8192x256 .bf16) (harg3 : arg3.IsWhole) (arg4 : Memref sig .tc .vmem S1x1x144x8192 .bf16) (harg4 : arg4.IsWhole) (arg5 : Memref sig .tc .vmem S1x8192x128 .f32) (harg5 : arg5.IsWhole) (arg6 : Memref sig .tc .vmem S2x1024x512 .f32) (harg6 : arg6.IsWhole) (arg7 : Memref sig .tc .vmem S2x1024x512 .bf16) (harg7 : arg7.IsWhole) (arg8 : Memref sig .tc .vmem S1x8192 .f32) (harg8 : arg8.IsWhole) (arg9 : Memref sig .tc .vmem S144x8192 .f32) (harg9 : arg9.IsWhole)
    (q : Vec F S1x1x256x8192 .bf16) (k : Vec F S1x1x8192x256 .bf16) (v : Vec F S1x1x144x8192 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare q ∗ owns (c : Thread nD τ) arg3 fullShare k ∗ owns (c : Thread nD τ) arg4 fullShare v
            ∗ owns (c : Thread nD τ) arg5 fullShare (resO q k v) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) 𝒱₀ (c : Thread nD τ) none) Set.univ (cc0_latent_attention (F := F) i arg2 harg2 arg3 harg3 arg4 harg4 arg5 harg5 arg6 harg6 arg7 harg7 arg8 harg8 arg9 harg9) K := by
  rw [body_eq]
  iintro ⟨H2, H3, H4, ⟨%d5, H5⟩, ⟨%d6, H6⟩, ⟨%d7, H7⟩, ⟨%d8, H8⟩, ⟨%d9, H9⟩, HK⟩
  iapply (wp_wand_r frame (wpE (defs₀ (F := F)) 𝒱₀ (c : Thread nD τ) none) Set.univ)
  isplitl [H2 H3 H4 H5 H6 H7 H8 H9]
  · iapply (body_run 𝒱₀ c none Set.univ arg2 arg3 arg4 arg5 arg6 arg7 harg7 arg8 arg9 q k v (⟨d6, d7, d8, d9, d5⟩ : Mem F))
    unfold St
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_r ⟨%σ, %h, H⟩
    unfold St
    icases H with ⟨H2, H3, H4, H5, H6, H7, H8, H9⟩
    rw [eq_resO h]
    iapply HK
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9

/-- The pipeline's body obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl, PhiA0_eq]
  unfold outsAt
  iintro ⟨⟨⟨H6, H7, H8, H9⟩, Hg⟩, Ho, ⟨%d0, H2⟩, ⟨%d1, H3⟩, ⟨%d2, H4⟩, ⟨%d3, H5⟩⟩
  iapply (kernelRun c _ _ _ _ _ _ _ _ _ _ _ _ _ _ _ _ _ (iblk m c 0 t) (iblk m c 1 t) (iblk m c 2 t))
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [H9]; · iexact H9
  iintro ⟨H2, H3, H4, H5, H6, H7, H8, H9⟩
  isplitl [H6 H7 H8 H9 Hg]
  · isplitl [H6 H7 H8 H9]
    · isplitl [H6]; · iexact H6
      isplitl [H7]; · iexact H7
      isplitl [H8]; · iexact H8
      iexact H9
    · iexact Hg
  isplitl [Ho]; · iexact Ho
  isplitl [H2]; · iexact H2
  isplitl [H3]; · iexact H3
  isplitl [H4]; · iexact H4
  iexact H5

-- the launch theorem's implicit arguments are found by unifying its conclusion with this one
set_option backward.isDefEq.respectTransparency.types false in
/-- At the compiled mesh, for any float values, from any memory with zero counters: every weakly fair execution of @main terminates, every
    final state has the pipeline's arrays at what the proof data compute, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- @main runs, its argument arrays end unchanged, and every counter reads zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Proof.Attn

end
-- ==== Proof.Frames.lean ====
/- THE FRAMES. The kernel's run is written once, for any float values; the machine's program is the same text. The reference has no
   semaphore. -/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem

set_option maxHeartbeats 4000000 in
/-- The machine's body table and its idealization's are the same text. -/
theorem defs₀_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs := by
  unfold Cert.Kernel.defs Cert.KernelIdeal.defs
  rw [defs₀_eq]
  rfl

/-- The machine's program terminates without fault, leaves its arguments as they are and every counter at zero. -/
theorem frame_kernel : Cert.quiescent_Kernel (hKernel := Cert.Kernel.Gen.facts) := fun m ρ _ => by
  rw [defs_eq]
  exact Attn.frame_any (F := Bits) m ρ

/-- So does its idealization. -/
theorem frame_ideal : Cert.quiescent_KernelIdeal (hKernelIdeal := Cert.KernelIdeal.Gen.facts) := fun m ρ _ => Attn.frame_any (F := Ideal) m ρ

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) _⟩) (Cert.ReferenceIdeal.Value.run m ρ)

end Cert.Proof

end
-- ==== Proof.Softmax.lean ====
/- THE MATHEMATICS. A weighted sum kept chunk by chunk, rescaled whenever the running maximum moves, is the softmax-weighted sum: the
   maximum that is taken off cancels in the quotient. Scores are real numbers, values any extended reals. -/
module

public import Idealize.ShloMosaic.Lib.Pointwise
public import Idealize.ShloMosaic.Lib.IdealHost

@[expose] public section

noncomputable section

namespace Cert.Proof.Attn

open Idealize.ShloMosaic
open Finset (range)

/-- The softmax of the scores `t` over the first `N` positions. -/
def soft (t : ℕ → ℝ) (N i : ℕ) : ℝ := Real.exp (t i) / ∑ k ∈ range N, Real.exp (t k)

/-- The softmax-weighted sum of the values. -/
def mix (t : ℕ → ℝ) (V : ℕ → EReal) (N : ℕ) : EReal := ∑ i ∈ range N, V i * (soft t N i : EReal)

/-- A real number that is not negative distributes over a sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem exp2_sub (x M : ℝ) : Ideal.exp2 ((x : EReal) - (M : EReal)) = ((2 : ℝ) ^ (x - M) : ℝ) := by
  rw [← EReal.coe_sub]; rfl

theorem exp2_bot_sub (M : ℝ) : Ideal.exp2 ((⊥ : EReal) - (M : EReal)) = 0 := by
  rw [EReal.bot_sub]; rfl

/-- What is known after the first `N` positions: nothing seen yet, or the maximum so far is some real number and the sum is taken against it. -/
def Seen (σ : ℕ → ℝ) (V : ℕ → EReal) (N : ℕ) (m a : EReal) : Prop :=
  (N = 0 ∧ m = ⊥ ∧ a = 0) ∨ ∃ M : ℝ, m = M ∧ a = ∑ i ∈ range N, V i * (((2 : ℝ) ^ (σ i - M) : ℝ) : EReal)

/-- One chunk: the sum so far rescaled to the new maximum, the chunk's terms added. -/
theorem Seen.step {σ : ℕ → ℝ} {V : ℕ → EReal} {N : ℕ} {m a : EReal} (h : Seen σ V N m a) (L : ℕ) (M' : ℝ) :
    Seen σ V (N + L) (M' : EReal)
      (Ideal.exp2 (m - (M' : EReal)) * a + ∑ i : Fin L, V (N + i.val) * Ideal.exp2 ((σ (N + i.val) : EReal) - (M' : EReal))) := by
  refine Or.inr ⟨M', rfl, ?_⟩
  rw [Finset.sum_range_add, ← Fin.sum_univ_eq_sum_range (fun x => V (N + x) * (((2 : ℝ) ^ (σ (N + x) - M') : ℝ) : EReal))]
  congr 1
  · rcases h with ⟨rfl, rfl, rfl⟩ | ⟨M, rfl, rfl⟩
    · rw [exp2_bot_sub]; simp
    · rw [exp2_sub, coe_mul_sum _ (Real.rpow_nonneg (by norm_num) _)]
      refine Finset.sum_congr rfl fun i _ => ?_
      rw [mul_left_comm, ← EReal.coe_mul, ← Real.rpow_add (by norm_num)]
      congr 3; ring

/-- The weights against a maximum, divided by their sum, are the softmax. -/
theorem soft_shift (t : ℕ → ℝ) (T : ℝ) (N i : ℕ) :
    Real.exp (t i - T) * (∑ k ∈ range N, Real.exp (t k - T))⁻¹ = soft t N i := by
  have h : ∀ k, Real.exp (t k - T) = Real.exp (t k) * Real.exp (-T) := fun k => by rw [sub_eq_add_neg, Real.exp_add]
  simp only [h, ← Finset.sum_mul, soft]
  rw [mul_inv, div_eq_mul_inv]
  have := (Real.exp_pos (-T)).ne'
  field_simp

theorem two_rpow (x : ℝ) : (2 : ℝ) ^ x = Real.exp (Real.log 2 * x) := Real.rpow_def_of_pos (by norm_num) x

theorem sum_exp_pos {N : ℕ} (hN : 0 < N) (f : ℕ → ℝ) : 0 < ∑ k ∈ range N, Real.exp (f k) :=
  Finset.sum_pos (fun _ _ => Real.exp_pos _) ⟨0, Finset.mem_range.mpr hN⟩

theorem div_coe {x : EReal} {L : ℝ} (hL : 0 < L) : Ideal.div x (L : EReal) = ((L⁻¹ : ℝ) : EReal) * x := by
  unfold Ideal.div
  rw [if_neg (by simpa using hL.ne'), mul_comm, EReal.coe_inv]

/-- After all positions: the sum of the values divided by the sum of the ones is the softmax-weighted sum, at the natural scores. -/
theorem Seen.done {σ t : ℕ → ℝ} {V W : ℕ → EReal} {N : ℕ} (hN : 0 < N) {m a l : EReal} (ha : Seen σ V N m a) (hl : Seen σ W N m l)
    (hW : ∀ i < N, W i = 1) (ht : ∀ i < N, Real.log 2 * σ i = t i) : Ideal.div a l = mix t V N := by
  rcases ha with ⟨h, _⟩ | ⟨M, rfl, rfl⟩
  · omega
  rcases hl with ⟨h, _⟩ | ⟨M', hM, rfl⟩
  · omega
  obtain rfl : M = M' := EReal.coe_injective hM
  have e : ∀ i ∈ range N, (2 : ℝ) ^ (σ i - M) = Real.exp (t i - Real.log 2 * M) := fun i hi => by
    rw [two_rpow, mul_sub, ht i (Finset.mem_range.mp hi)]
  have hs : (∑ i ∈ range N, W i * (((2 : ℝ) ^ (σ i - M) : ℝ) : EReal)) = ((∑ i ∈ range N, Real.exp (t i - Real.log 2 * M) : ℝ) : EReal) := by
    rw [coe_sum]
    exact Finset.sum_congr rfl fun i hi => by rw [hW i (Finset.mem_range.mp hi), one_mul, e i hi]
  have hp := sum_exp_pos hN (fun k => t k - Real.log 2 * M)
  rw [hs, div_coe hp, coe_mul_sum _ (inv_nonneg.mpr hp.le)]
  refine Finset.sum_congr rfl fun i hi => ?_
  rw [mul_left_comm, ← EReal.coe_mul, e i hi, mul_comm (_⁻¹), soft_shift]

/-- A reference's weight: the exponential of the shifted score over the sum of all. -/
theorem soft_coe (t : ℕ → ℝ) (T : ℝ) {N : ℕ} (hN : 0 < N) (i : ℕ) :
    Ideal.div (Ideal.exp ((t i : EReal) - (T : EReal))) (∑ k : Fin N, Ideal.exp ((t k.val : EReal) - (T : EReal))) = (soft t N i : EReal) := by
  have e : ∀ k : ℕ, Ideal.exp ((t k : EReal) - (T : EReal)) = (Real.exp (t k - T) : EReal) := fun k => by rw [← EReal.coe_sub]; rfl
  simp only [e]
  rw [Fin.sum_univ_eq_sum_range (fun k => ((Real.exp (t k - T) : ℝ) : EReal)), ← coe_sum, div_coe (sum_exp_pos hN _), ← EReal.coe_mul, mul_comm, soft_shift]

/-- The greatest of finitely many real numbers, at least one, is a real number. -/
theorem fold_max_real {ι : Type} (s : Finset ι) (hs : s.Nonempty) (f : ι → EReal) (hf : ∀ i, ∃ r : ℝ, f i = r) :
    ∃ r : ℝ, s.fold max ⊥ f = r := by
  obtain ⟨i, _, h⟩ := Finset.exists_mem_eq_sup s hs f
  obtain ⟨r, hr⟩ := hf i
  exact ⟨r, (show s.fold max ⊥ f = s.sup f from rfl).trans (h.trans hr)⟩

end Cert.Proof.Attn

end
-- ==== Proof.Pay.lean ====
/- WHAT EACH STORE HOLDS, read at an index, over the extended reals. -/
module

public import proofs.«01_k».proof.Proof.Sched
public import proofs.«01_k».proof.Proof.Softmax
public import Idealize.ShloMosaic.Lib.ValueIdx

@[expose] public section

set_option maxRecDepth 16384

noncomputable section

namespace Cert.Proof.Attn

open Cert.KernelIdeal Cert.KernelIdeal.Gen
open Idealize.ShloMosaic Idealize.ShloMosaic.TcCoe

/-- The float word of −∞. -/
theorem ofBits_neg_inf : Ideal.ofBits .f32 0xFF800000#32 = ⊥ := by simp [Ideal.ofBits, Ideal.ieee]

/-- A block of scores: keys times queries. -/
theorem pay7_apply (k : Vec Ideal S1x1x1024x256 .bf16) (q : Vec Ideal S1x1x256x512 .bf16) (i : Fin 1024) (j : Fin 512) :
    k0_pay7 k q (ix3 0 i j) = ∑ d : Fin 256, k (ix4 0 0 i d) * q (ix4 0 0 d j) := by
  pointwise [k0_pay7]

theorem pay4_apply (mn : Vec Ideal S1x512 .f32) (s : Vec Ideal S1x1024x512 .f32) (i : Fin 1024) (j : Fin 512) :
    k0_pay4 mn s (ix3 0 i j) = Ideal.exp2 (s (ix3 0 i j) - mn (ix2 0 j)) := by
  pointwise [k0_pay4]
  rfl

theorem pay6_apply (m mn : Vec Ideal S1x512 .f32) (j : Fin 512) :
    k0_pay6 m mn (ix2 0 j) = Ideal.exp2 (m (ix2 0 j) - mn (ix2 0 j)) := by
  pointwise [k0_pay6]
  rfl

theorem pay5_eq (mn : Vec Ideal S1x512 .f32) (j : S1x512.Idx) : k0_pay5 (F := Ideal) mn j = mn j := by
  pointwise [k0_pay5]

theorem pay2_apply (al : Vec Ideal S1x512 .f32) (acc : Vec Ideal S144x512 .f32) (v : Vec Ideal S1x1x144x1024 .bf16) (p : Vec Ideal S1x1024x512 .bf16)
    (r : Fin 144) (j : Fin 512) :
    k0_pay2 al acc v p (ix2 r j) = al (ix2 0 j) * acc (ix2 r j) + ∑ i : Fin 1024, v (ix4 0 0 r i) * p (ix3 0 i j) := by
  pointwise [k0_pay2]

theorem pay118_apply (al : Vec Ideal S1x512 .f32) (acc : Vec Ideal S144x512 .f32) (v : Vec Ideal S1x1x144x1024 .bf16) (p : Vec Ideal S1x1024x512 .bf16)
    (e : Fin 128) (j : Fin 512) :
    k0_pay118 al acc v p (ix3 0 j e) = Ideal.div (k0_pay2 al acc v p (ix2 ⟨e.val, by omega⟩ j)) (k0_pay2 al acc v p (ix2 128 j)) := by
  pointwise [k0_pay118, k0_pay2]

theorem pay109_eq (j : S1x8192.Idx) : k0_pay109 (F := Ideal) j = ⊥ := by
  pointwise [k0_pay109]
  exact ofBits_neg_inf

theorem pay110_eq (j : S144x8192.Idx) : k0_pay110 (F := Ideal) j = 0 := by
  pointwise [k0_pay110]

/-- The running maximum's update, when the scores are real numbers and the maximum so far is one or −∞. -/
theorem pay3_real (m : Vec Ideal S1x512 .f32) (s : Vec Ideal S1x1024x512 .f32) (hs : ∀ i, ∃ r : ℝ, s i = r) (j)
    (hm : m j = ⊥ ∨ ∃ r : ℝ, m j = r) : ∃ r : ℝ, k0_pay3 m s j = r := by
  pointwise [k0_pay3]
  rw [ofBits_neg_inf]
  obtain ⟨x, hx⟩ := fold_max_real Finset.univ ⟨(0 : Fin 1024), Finset.mem_univ _⟩ _ fun x => hs (ix3 0 x (j 1))
  rw [hx]
  rcases hm with h | ⟨y, h⟩
  · exact ⟨x, by rw [h]; exact max_eq_right bot_le⟩
  · exact ⟨max y x, by rw [h]; exact (EReal.coe_strictMono.monotone.map_max (a := y) (b := x)).symm⟩

end Cert.Proof.Attn

end
-- ==== Proof.Block.lean ====
/- ONE HEAD. With real scores, the body's result block is the softmax-weighted sum of the values, whatever the values are. -/
module

public import proofs.«01_k».proof.Proof.Pay
public import proofs.«01_k».proof.Proof.Run

@[expose] public section

set_option maxRecDepth 16384

noncomputable section

namespace Cert.Proof.Attn

open Cert.KernelIdeal Cert.KernelIdeal.Gen
open Idealize.ShloMosaic Idealize.ShloMosaic.TcCoe Idealize.ShloMosaic.VecWindow

/-- Row `r` of a head's values, by position. -/
def valRow (v : Vec Ideal S1x1x144x8192 .bf16) (r : Fin 144) (i : ℕ) : EReal := if h : i < 8192 then v (ix4 0 0 r ⟨i, h⟩) else 0

/-- The head's scores are the real numbers `σ`: query `x` against key `i`, in powers of two. -/
def Scores (q : Vec Ideal S1x1x256x8192 .bf16) (k : Vec Ideal S1x1x8192x256 .bf16) (σ : ℕ → ℕ → ℝ) : Prop :=
  ∀ x i : Fin 8192, ∑ d : Fin 256, k (ix4 0 0 i d) * q (ix4 0 0 d x) = (σ x.val i.val : EReal)

section Block

variable {q : Vec Ideal S1x1x256x8192 .bf16} {k : Vec Ideal S1x1x8192x256 .bf16} {v : Vec Ideal S1x1x144x8192 .bf16} {σ : ℕ → ℕ → ℝ}

/-- Pair `16 c + n`'s scores. -/
theorem scs_apply (h : Scores q k σ) {c n : ℕ} (hc : c < 8) (hn : n < 16) (i : Fin 1024) (j : Fin 512) :
    scs q k (16 * c + n) (ix3 0 i j) = (σ (512 * n + j.val) (1024 * c + i.val) : EReal) := by
  have hi := i.isLt
  have hj := j.isLt
  unfold scs
  rw [pay7_apply]
  refine Eq.trans (Finset.sum_congr rfl fun d _ => ?_) (h ⟨512 * n + j.val, by omega⟩ ⟨1024 * c + i.val, by omega⟩)
  congr 1
  · refine congrArg k (funext fun a => Fin.ext ?_)
    match a with
    | ⟨0, _⟩ => rfl
    | ⟨1, _⟩ => rfl
    | ⟨2, _⟩ =>
      show 1024 * ((16 * c + n) / 16 % 8) + 1 * i.val = 1024 * c + i.val
      omega
    | ⟨3, _⟩ =>
      show 0 + 1 * d.val = d.val
      omega
  · refine congrArg q (funext fun a => Fin.ext ?_)
    match a with
    | ⟨0, _⟩ => rfl
    | ⟨1, _⟩ => rfl
    | ⟨2, _⟩ =>
      show 0 + 1 * d.val = d.val
      omega
    | ⟨3, _⟩ =>
      show 512 * ((16 * c + n) % 16) + 1 * j.val = 512 * n + j.val
      omega

theorem scs_real (h : Scores q k σ) {c n : ℕ} (hc : c < 8) (hn : n < 16) (y : S1x1024x512.Idx) : ∃ r : ℝ, scs q k (16 * c + n) y = r := by
  refine ⟨_, Eq.trans (congrArg _ ?_) (scs_apply h hc hn (y 1) (y 2))⟩
  funext a
  match a with
  | ⟨0, _⟩ => exact Subsingleton.elim (α := Fin 1) _ _
  | ⟨1, _⟩ => rfl
  | ⟨2, _⟩ => rfl

/-- Chunk `c`'s values. -/
theorem vls_apply {c n : ℕ} (hc : c < 8) (hn : n < 16) (r : Fin 144) (i : Fin 1024) :
    vls v (16 * c + n) (ix4 0 0 r i) = valRow v r (1024 * c + i.val) := by
  have hi := i.isLt
  unfold valRow
  rw [dif_pos (by omega)]
  refine congrArg v (funext fun a => Fin.ext ?_)
  match a with
  | ⟨0, _⟩ => rfl
  | ⟨1, _⟩ => rfl
  | ⟨2, _⟩ =>
    show 0 + 1 * r.val = r.val
    omega
  | ⟨3, _⟩ =>
    show 1024 * ((16 * c + n) / 16 % 8) + 1 * i.val = 1024 * c + i.val
    omega

/-- One chunk of one tile: from what is known before it to what is known after it. -/
theorem seen_step (h : Scores q k σ) {c n : ℕ} (hc : c < 8) (hn : n < 16) (r : Fin 144) (j : Fin 512)
    (ih : Seen (σ (512 * n + j.val)) (valRow v r) (1024 * c) (mxs q k n c (ix2 0 j)) (acs q k v n c (ix2 r j))) :
    Seen (σ (512 * n + j.val)) (valRow v r) (1024 * c + 1024) (mxn q k (16 * c + n) (ix2 0 j))
      (k0_pay2 (als q k (16 * c + n)) (acs q k v n c) (vls v (16 * c + n)) (wts q k (16 * c + n)) (ix2 r j)) := by
  have e1 : (16 * c + n) % 16 = n := by omega
  have e2 : (16 * c + n) / 16 = c := by omega
  have hm : mxs q k n c (ix2 0 j) = ⊥ ∨ ∃ r : ℝ, mxs q k n c (ix2 0 j) = r := by
    rcases ih with ⟨_, h, _⟩ | ⟨M, h, _⟩
    · exact .inl h
    · exact .inr ⟨M, h⟩
  obtain ⟨M', hM'⟩ : ∃ r : ℝ, mxn q k (16 * c + n) (ix2 0 j) = r := by
    unfold mxn
    rw [e1, e2]
    exact pay3_real _ _ (scs_real h hc hn) _ hm
  rw [pay2_apply]
  unfold als wts
  rw [pay6_apply, e1, e2, hM']
  have hs : ∀ i : Fin 1024, vls v (16 * c + n) (ix4 0 0 r i) * k0_pay4 (mxn q k (16 * c + n)) (scs q k (16 * c + n)) (ix3 0 i j)
      = valRow v r (1024 * c + i.val) * Ideal.exp2 ((σ (512 * n + j.val) (1024 * c + i.val) : EReal) - (M' : EReal)) := fun i => by
    rw [vls_apply hc hn, pay4_apply, scs_apply h hc hn, hM']
  rw [Finset.sum_congr rfl fun i _ => hs i]
  exact ih.step 1024 M'

/-- Before chunk `c`, tile `n`'s maximum and accumulator hold what the first `1024 c` keys give. -/
theorem seen (h : Scores q k σ) {n : ℕ} (hn : n < 16) (r : Fin 144) (j : Fin 512) :
    ∀ c : ℕ, c < 8 → Seen (σ (512 * n + j.val)) (valRow v r) (1024 * c) (mxs q k n c (ix2 0 j)) (acs q k v n c (ix2 r j))
  | 0, _ => Or.inl ⟨rfl, pay109_eq ((Rect.unit (s := S1x8192) (tO n) S1x512.size (tM_inb n)).emb (ix2 0 j)),
      pay110_eq ((Rect.unit (s := S144x8192) (tO n) S144x512.size (tA_inb n)).emb (ix2 r j))⟩
  | c + 1, hc => by
    have hs := seen_step (v := v) h (by omega : c < 8) hn r j (seen h hn r j c (by omega))
    have e1 : (16 * c + n) % 16 = n := by omega
    have e2 : (16 * c + n) / 16 = c := by omega
    have em : mxs q k n (c + 1) (ix2 0 j) = mxn q k (16 * c + n) (ix2 0 j) := by
      show k0_pay5 (F := Ideal) (k0_pay3 (mxs q k n c) (scs q k (16 * c + n))) (ix2 0 j) = _
      rw [pay5_eq]
      unfold mxn
      rw [e1, e2]
    rw [em]
    exact hs

/-- Tile `n`'s result at query `j` and feature `e`. -/
theorem outs_apply (h : Scores q k σ) (h1 : ∀ i : Fin 8192, v (ix4 0 0 128 i) = 1) {t : ℕ → ℕ → ℝ} (ht : ∀ x i, Real.log 2 * σ x i = t x i)
    {n : ℕ} (hn : n < 16) (j : Fin 512) (e : Fin 128) :
    outs q k v n (ix3 0 j e) = mix (t (512 * n + j.val)) (valRow v ⟨e.val, by omega⟩) 8192 := by
  unfold outs
  rw [pay118_apply]
  refine Seen.done (by decide) (seen_step h (by decide : 7 < 8) hn _ j (seen h hn _ j 7 (by decide)))
    (seen_step h (by decide : 7 < 8) hn _ j (seen h hn _ j 7 (by decide))) (fun i hi => ?_) (fun i _ => ht _ i)
  unfold valRow
  rw [dif_pos hi]
  exact h1 _

/-- The body's result block at query `x` and feature `e`. -/
theorem resO_apply (h : Scores q k σ) (h1 : ∀ i : Fin 8192, v (ix4 0 0 128 i) = 1) {t : ℕ → ℕ → ℝ} (ht : ∀ x i, Real.log 2 * σ x i = t x i)
    (x : Fin 8192) (e : Fin 128) : resO q k v (ix3 0 x e) = mix (t x.val) (valRow v ⟨e.val, by omega⟩) 8192 := by
  have hx := x.isLt
  have h2 := outs_apply h h1 ht (show x.val / 512 < 16 by omega) ⟨x.val % 512, by omega⟩ e
  rw [show 512 * (x.val / 512) + x.val % 512 = x.val by omega] at h2
  refine Eq.trans (congrArg (outs q k v (x.val / 512)) (funext fun a => ?_)) h2
  match a with
  | ⟨0, _⟩ => rfl
  | ⟨1, _⟩ => rfl
  | ⟨2, _⟩ => rfl

end Block

end Cert.Proof.Attn

end
-- ==== Proof.Target.lean ====
/- WHAT BOTH PROGRAMS COMPUTE. The attention as one function of its five arguments: the softmax of the real scores, mixing the values. -/
module

public import proofs.«01_k».proof.Proof.Block

@[expose] public section

noncomputable section

namespace Cert.Proof.Attn

open Cert.KernelIdeal
open Idealize.ShloMosaic

/-- Every entry of the array is a real number. -/
def AllReal {s : Shape} (A : Vec Ideal s .f32) : Prop := ∀ j, ∃ r : ℝ, A j = (r : EReal)

theorem AllReal.eq {s : Shape} {A : Vec Ideal s .f32} (h : AllReal A) (j : s.Idx) : A j = ((A j : EReal).toReal : EReal) := by
  obtain ⟨r, e⟩ := h j
  rw [e, EReal.toReal_coe]

theorem ofBits_two : Ideal.ofBits .f32 0x40000000#32 = ((2 : ℝ) : EReal) := by
  simp [Ideal.ofBits, Ideal.ieee]
  rw [← EReal.coe_mul]
  norm_num

/-- The scale of the scores, as the real number its word stands for. -/
def scale : ℝ := (Ideal.ofBits .f32 0x3D93CD3A#32).toReal

theorem scale_eq : Ideal.ofBits .f32 0x3D93CD3A#32 = (scale : EReal) := by
  have : ∃ r : ℝ, Ideal.ofBits .f32 0x3D93CD3A#32 = (r : EReal) := by
    simp [Ideal.ofBits, Ideal.ieee]
    exact ⟨_, rfl⟩
  obtain ⟨r, e⟩ := this
  rw [scale, e, EReal.toReal_coe]

/-- The factor on the queries: the scale over the natural logarithm of two. -/
def kap : EReal := Ideal.div (Ideal.ofBits .f32 0x3D93CD3A#32) (Ideal.log (Ideal.ofBits .f32 0x40000000#32))

theorem kap_eq : kap = ((scale / Real.log 2 : ℝ) : EReal) := by
  have h2 : (0 : ℝ) < Real.log 2 := Real.log_pos (by norm_num)
  have e : Ideal.log ((2 : ℝ) : EReal) = (Real.log 2 : EReal) := if_neg (by norm_num : ¬ (2 : ℝ) ≤ 0)
  rw [kap, ofBits_two, scale_eq, e, div_coe h2, ← EReal.coe_mul, div_eq_inv_mul]

/-- A position of the sequence. -/
def pos (i : ℕ) : Fin 8192 := Fin.ofNat 8192 i

theorem pos_val (i : Fin 8192) : pos i.val = i := Fin.ext (Nat.mod_eq_of_lt i.isLt)

variable (qn : Vec Ideal S6x8192x8x128 .f32) (qr : Vec Ideal S6x8192x8x64 .f32) (kn : Vec Ideal S6x8192x8x128 .f32)
  (kr : Vec Ideal S6x8192x64 .f32) (v : Vec Ideal S6x8192x8x128 .f32)

/-- Head `h` of sequence `b`: the score of query `x` against key `i`. -/
def score (b : Fin 6) (h : Fin 8) (x i : ℕ) : ℝ :=
  scale * (∑ d : Fin 128, (qn (ix4 b (pos x) h d) : EReal).toReal * (kn (ix4 b (pos i) h d) : EReal).toReal
    + ∑ d : Fin 64, (qr (ix4 b (pos x) h d) : EReal).toReal * (kr (ix3 b (pos i) d) : EReal).toReal)

/-- Column `e` of head `h` of the attention's result, at position `x` of sequence `b`. -/
def attn (b : Fin 6) (h : Fin 8) (x : ℕ) (e : Fin 128) : EReal :=
  mix (score qn qr kn kr b h x) (fun i => v (ix4 b (pos i) h e)) 8192

/-- The result, the heads side by side. -/
def attnO : Vec Ideal S6x8192x1024 .f32 := fun j =>
  attn qn qr kn kr v (j 0) ⟨(j 2).val / 128, Nat.div_lt_of_lt_mul (j 2).isLt⟩ (j 1).val ⟨(j 2).val % 128, Nat.mod_lt _ (by decide)⟩

theorem attnO_apply (b : Fin 6) (x : Fin 8192) (h : Fin 8) (e : Fin 128) (y : Fin 1024) (hy : y.val = 128 * h.val + e.val) :
    attnO qn qr kn kr v (ix3 b x y) = attn qn qr kn kr v b h x.val e := by
  have h1 : (⟨y.val / 128, Nat.div_lt_of_lt_mul y.isLt⟩ : Fin 8) = h := Fin.ext (by simp only; omega)
  have h2 : (⟨y.val % 128, Nat.mod_lt _ (by decide)⟩ : Fin 128) = e := Fin.ext (by simp only; omega)
  show attn qn qr kn kr v b ⟨y.val / 128, _⟩ x.val ⟨y.val % 128, _⟩ = _
  rw [h1, h2]

/-- A sum over the 256 columns: the 128 of the first part, then twice 64. -/
theorem sum_split (f : Fin 256 → EReal) :
    ∑ d, f d = ∑ d : Fin 128, f ⟨d.val, by omega⟩ + (∑ d : Fin 64, f ⟨128 + d.val, by omega⟩ + ∑ d : Fin 64, f ⟨192 + d.val, by omega⟩) := by
  refine (Fin.sum_univ_add (a := 128) (b := 128) f).trans (congrArg₂ (· + ·) rfl ?_)
  refine (Fin.sum_univ_add (a := 64) (b := 64) fun d => f (Fin.natAdd 128 d)).trans (congrArg₂ (· + ·) rfl ?_)
  exact Finset.sum_congr rfl fun d _ => congrArg f (Fin.ext (by simp only [Fin.val_natAdd]; omega))

variable {qn qr kn kr}

/-- The two parts of a score, the queries carrying the factor of the scale over the logarithm of two. -/
theorem parts (hqn : AllReal qn) (hqr : AllReal qr) (hkn : AllReal kn) (hkr : AllReal kr) (b : Fin 6) (h : Fin 8) (x i : Fin 8192) :
    (∑ d : Fin 128, (kn (ix4 b i h d) : EReal) * (qn (ix4 b x h d) * kap) + ∑ d : Fin 64, (kr (ix3 b i d) : EReal) * (qr (ix4 b x h d) * kap))
      = ((score qn qr kn kr b h x.val i.val / Real.log 2 : ℝ) : EReal) := by
  have e1 : ∀ d : Fin 128, (kn (ix4 b i h d) : EReal) * (qn (ix4 b x h d) * kap)
      = (((kn (ix4 b i h d) : EReal).toReal * ((qn (ix4 b x h d) : EReal).toReal * (scale / Real.log 2)) : ℝ) : EReal) := fun d => by
    rw [EReal.coe_mul, EReal.coe_mul, ← kap_eq, ← hkn.eq, ← hqn.eq]
  have e2 : ∀ d : Fin 64, (kr (ix3 b i d) : EReal) * (qr (ix4 b x h d) * kap)
      = (((kr (ix3 b i d) : EReal).toReal * ((qr (ix4 b x h d) : EReal).toReal * (scale / Real.log 2)) : ℝ) : EReal) := fun d => by
    rw [EReal.coe_mul, EReal.coe_mul, ← kap_eq, ← hkr.eq, ← hqr.eq]
  rw [Finset.sum_congr rfl fun d _ => e1 d, Finset.sum_congr rfl fun d _ => e2 d, ← coe_sum, ← coe_sum, ← EReal.coe_add]
  refine congrArg _ ?_
  simp only [score, pos_val]
  rw [mul_add, add_div, mul_div_right_comm, mul_div_right_comm, Finset.mul_sum, Finset.mul_sum]
  refine congrArg₂ (· + ·) ?_ ?_ <;> exact Finset.sum_congr rfl fun d _ => by ring

end Cert.Proof.Attn

end
-- ==== Proof.Entry.lean ====
/- WHAT THE CALL IS GIVEN. A head's queries, keys and values as blocks of the arrays that the host code prepares, read in terms of the
   arguments. -/
module

public import proofs.«01_k».proof.Proof.Target
public import proofs.«01_k».proof.Proof.Run
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Attn

open Cert.KernelIdeal Cert.KernelIdeal.Gen
open Idealize.ShloMosaic Idealize.ShloMosaic.TcCoe

variable (m : (ℓ : Loc nD τ sig) → Buf (Elt Ideal) ℓ) (c : Dev nD)

/-- Grid point `t` is sequence `t / 8`, head `t % 8`. -/
theorem idx : ∀ t : Fin cfg0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, 0, t.val % 8] :=
  (by decide +kernel : ∀ t : Fin grid0.N, _)

/-- The five arguments. -/
abbrev qnA : Vec Ideal S6x8192x8x128 .f32 := m ((c : Thread nD τ).loc main_arg0)
abbrev qrA : Vec Ideal S6x8192x8x64 .f32 := m ((c : Thread nD τ).loc main_arg1)
abbrev knA : Vec Ideal S6x8192x8x128 .f32 := m ((c : Thread nD τ).loc main_arg2)
abbrev krA : Vec Ideal S6x8192x64 .f32 := m ((c : Thread nD τ).loc main_arg3)
abbrev vA : Vec Ideal S6x8192x8x128 .f32 := m ((c : Thread nD τ).loc main_arg4)

/-- Whether a head is even, as the host code tells it. -/
theorem even_head : ∀ h : Fin 8, IntOp.cmpi CmpIPredicate.eq (IntOp.remsi ArithUnit.host (BitVec.ofNat 32 h.val) 2#32) 0#32
    = if h.val % 2 = 0 then 1#1 else 0#1 := by decide +kernel

/-- The queries: the plain part, then the rotated part in the slot of the head's parity. -/
theorem q_entry (b : Fin 6) (h : Fin 8) (d : Fin 256) (x : Fin 8192) :
    V m c main_v18 (ix4 b h d x) = (if h1 : d.val < 128 then (qnA m c (ix4 b x h ⟨d.val, h1⟩) : EReal) * kap
      else if h2 : d.val - 128 < 64 then (if h.val % 2 = 0 then (qrA m c (ix4 b x h ⟨d.val - 128, h2⟩) : EReal) * kap else 0)
      else (if h.val % 2 = 0 then 0 else (qrA m c (ix4 b x h ⟨d.val - 128 - 64, by omega⟩) : EReal) * kap) : EReal) := by
  show StableHlo.after hostOps0 (fun b => m (c, b)) (Proc.devRef .tc main_v18) _ = _
  after_reads_simp
  pointwise
  after_reads_simp
  pointwise
  rw [even_head h]
  by_cases hh : h.val % 2 = 0
  · rw [if_pos hh]; simp only [if_pos hh]; rfl
  · rw [if_neg hh]; simp only [if_neg hh]; rfl

/-- The keys: the plain part, then the shared rotated part in both slots. -/
theorem k_entry (b : Fin 6) (h : Fin 8) (d : Fin 256) (x : Fin 8192) :
    V m c main_v23 (ix4 b h x d) = (if h1 : d.val < 128 then (knA m c (ix4 b x h ⟨d.val, h1⟩) : EReal)
      else if h2 : d.val - 128 < 64 then krA m c (ix3 b x ⟨d.val - 128, h2⟩) else krA m c (ix3 b x ⟨d.val - 128 - 64, by omega⟩) : EReal) := by
  show StableHlo.after hostOps0 (fun b => m (c, b)) (Proc.devRef .tc main_v23) _ = _
  after_reads_simp
  pointwise
  after_reads_simp
  pointwise

/-- The values, with rows of ones after them. -/
theorem v_entry (b : Fin 6) (h : Fin 8) (d : Fin 144) (x : Fin 8192) :
    V m c main_v27 (ix4 b h d x) = (if h1 : d.val < 128 then (vA m c (ix4 b x h ⟨d.val, h1⟩) : EReal) else 1 : EReal) := by
  entry_read
  pointwise

section Point

variable (t : Fin cfg0.N) (b : Fin 6) (h : Fin 8) (hb : b.val = t.val / 8) (hh : h.val = t.val % 8)
include hb hh

theorem blk0 (d : Fin 256) (x : Fin 8192) : iblk m c 0 t (ix4 0 0 d x) = V m c main_v18 (ix4 b h d x) := by
  obtain ⟨e0, e1, e2, e3⟩ := idx t
  blk_ext [iblk, e0]

theorem blk1 (d : Fin 256) (x : Fin 8192) : iblk m c 1 t (ix4 0 0 x d) = V m c main_v23 (ix4 b h x d) := by
  obtain ⟨e0, e1, e2, e3⟩ := idx t
  blk_ext [iblk, e1]

theorem blk2 (d : Fin 144) (x : Fin 8192) : iblk m c 2 t (ix4 0 0 d x) = V m c main_v27 (ix4 b h d x) := by
  obtain ⟨e0, e1, e2, e3⟩ := idx t
  blk_ext [iblk, e2]

/-- A grid point's scores, in powers of two, are the head's scores over the logarithm of two. -/
theorem point_scores (hqn : AllReal (qnA m c)) (hqr : AllReal (qrA m c)) (hkn : AllReal (knA m c)) (hkr : AllReal (krA m c)) :
    Scores (iblk m c 0 t) (iblk m c 1 t) (fun x i => score (qnA m c) (qrA m c) (knA m c) (krA m c) b h x i / Real.log 2) := by
  intro x i
  refine (Finset.sum_congr rfl fun d _ => congrArg₂ (HMul.hMul : EReal → EReal → EReal) (blk1 m c t b h hb hh d i) (blk0 m c t b h hb hh d x)).trans ?_
  rw [sum_split, ← parts hqn hqr hkn hkr]
  refine congrArg₂ (· + ·) (Finset.sum_congr rfl fun d _ => ?_) ?_
  · rw [k_entry, q_entry, dif_pos d.isLt, dif_pos d.isLt]
  · have s1 : ∀ d : Fin 64, V m c main_v23 (ix4 b h i (⟨128 + d.val, by omega⟩ : Fin 256)) = krA m c (ix3 b i d) := fun d => by
      rw [k_entry, dif_neg (by simp only; omega), dif_pos (by simp only; omega)]
      exact congrArg (fun d => krA m c (ix3 b i d)) (Fin.ext (by simp only; omega))
    have s2 : ∀ d : Fin 64, V m c main_v23 (ix4 b h i (⟨192 + d.val, by omega⟩ : Fin 256)) = krA m c (ix3 b i d) := fun d => by
      rw [k_entry, dif_neg (by simp only; omega), dif_neg (by simp only; omega)]
      exact congrArg (fun d => krA m c (ix3 b i d)) (Fin.ext (by simp only; omega))
    have s3 : ∀ d : Fin 64, V m c main_v18 (ix4 b h (⟨128 + d.val, by omega⟩ : Fin 256) x)
        = (if h.val % 2 = 0 then (qrA m c (ix4 b x h d) : EReal) * kap else 0 : EReal) := fun d => by
      rw [q_entry, dif_neg (by simp only; omega), dif_pos (by simp only; omega)]
      exact congrArg (fun d => (if h.val % 2 = 0 then (qrA m c (ix4 b x h d) : EReal) * kap else 0 : EReal)) (Fin.ext (by simp only; omega))
    have s4 : ∀ d : Fin 64, V m c main_v18 (ix4 b h (⟨192 + d.val, by omega⟩ : Fin 256) x)
        = (if h.val % 2 = 0 then 0 else (qrA m c (ix4 b x h d) : EReal) * kap : EReal) := fun d => by
      rw [q_entry, dif_neg (by simp only; omega), dif_neg (by simp only; omega)]
      exact congrArg (fun d => (if h.val % 2 = 0 then 0 else (qrA m c (ix4 b x h d) : EReal) * kap : EReal)) (Fin.ext (by simp only; omega))
    have e3 := Finset.sum_congr (rfl : (Finset.univ : Finset (Fin 64)) = Finset.univ) fun d _ => congrArg₂ (HMul.hMul : EReal → EReal → EReal) (s1 d) (s3 d)
    have e4 := Finset.sum_congr (rfl : (Finset.univ : Finset (Fin 64)) = Finset.univ) fun d _ => congrArg₂ (HMul.hMul : EReal → EReal → EReal) (s2 d) (s4 d)
    refine (congrArg₂ (HAdd.hAdd : EReal → EReal → EReal) e3 e4).trans ?_
    by_cases hp : h.val % 2 = 0
    · simp only [if_pos hp, mul_zero, Finset.sum_const_zero, add_zero]
    · simp only [if_neg hp, mul_zero, Finset.sum_const_zero, zero_add]

/-- What a grid point leaves in its block of the result. -/
theorem point_result (hqn : AllReal (qnA m c)) (hqr : AllReal (qrA m c)) (hkn : AllReal (knA m c)) (hkr : AllReal (krA m c))
    (x : Fin 8192) (e : Fin 128) :
    outsAt m c t (ix3 0 x e) = attn (qnA m c) (qrA m c) (knA m c) (krA m c) (vA m c) b h x.val e := by
  have h2 : Real.log 2 ≠ 0 := (Real.log_pos (by norm_num)).ne'
  refine (resO_apply (point_scores m c t b h hb hh hqn hqr hkn hkr) (fun i => ?_) (fun x i => mul_div_cancel₀ _ h2) x e).trans ?_
  · rw [blk2 m c t b h hb hh, v_entry, dif_neg (by decide)]
  · unfold attn mix
    refine Finset.sum_congr rfl fun i hi => congrArg₂ (HMul.hMul : EReal → EReal → EReal) ?_ rfl
    have hi' := Finset.mem_range.mp hi
    rw [valRow, dif_pos hi', blk2 m c t b h hb hh, v_entry, dif_pos e.isLt]
    exact congrArg (fun i => vA m c (ix4 b i h e)) (pos_val ⟨i, hi'⟩).symm

end Point

/-- The result array. -/
theorem result (hqn : AllReal (qnA m c)) (hqr : AllReal (qrA m c)) (hkn : AllReal (knA m c)) (hkr : AllReal (krA m c)) :
    (dats m 0 c).arrAt 3 cfg0.N = attnO (qnA m c) (qrA m c) (knA m c) (krA m c) (vA m c) := by
  refine (dats m 0 c).arrAt_eq_of_covers 3 _ (by decide +kernel) fun t hf y => ?_
  obtain ⟨e0, e1, e2, e3⟩ := idx t
  have ht : t.val < 48 := t.isLt
  blk_simp
  rw [after0_3]
  have ey : y = ix3 (0 : Fin 1) (y 1 : Fin 8192) (y 2 : Fin 128) := by
    funext a
    match a with
    | ⟨0, _⟩ => exact Subsingleton.elim (α := Fin 1) _ _
    | ⟨1, _⟩ => rfl
    | ⟨2, _⟩ => rfl
  have y2 : (y 2 : Fin 128).val < 128 := (y 2 : Fin 128).isLt
  have ee : (win0_3.blk t).view.emb y = ix3 (⟨t.val / 8, by omega⟩ : Fin 6) (y 1 : Fin 8192) (⟨128 * (t.val % 8) + (y 2 : Fin 128).val, by omega⟩ : Fin 1024) := by
    funext a
    apply Fin.ext
    match a with
    | ⟨0, _⟩ => blk_simp [e3]
    | ⟨1, _⟩ => blk_simp [e3]; rfl
    | ⟨2, _⟩ => blk_simp [e3]; exact congrArg (· + (y 2 : Fin 128).val) (Nat.mul_comm _ _)
  refine (congrArg _ ey).trans ((point_result m c t ⟨t.val / 8, by omega⟩ ⟨t.val % 8, by omega⟩ rfl rfl hqn hqr hkn hkr (y 1) (y 2)).trans ?_)
  exact (attnO_apply _ _ _ _ _ _ (y 1) ⟨t.val % 8, by omega⟩ (y 2) _ rfl).symm.trans (congrArg (attnO _ _ _ _ _) ee).symm

end Cert.Proof.Attn

end
-- ==== Proof.Reference.lean ====
/- WHAT THE REFERENCE COMPUTES. Its result, read at an index, is the same function of the arguments. -/
module

public import proofs.«01_k».proof.Proof.Target
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen Cert.Proof.Attn
open Idealize.ShloMosaic Idealize.ShloMosaic.TcCoe

variable {F : FTy → Type} [FloatOps F]
  (qn : FVec F S6x8192x8x128 .f32) (qr : FVec F S6x8192x8x64 .f32) (kn : FVec F S6x8192x8x128 .f32)
  (kr : FVec F S6x8192x64 .f32) (v : FVec F S6x8192x8x128 .f32)

/-- The scores, scaled. -/
def scs : FVec F S6x8x8192x8192 .f32 :=
  mulf (addf (Host.dotGeneral dot_S6x8192x8x128_S6x8192x8x128_S6x8x8192x8192_3_3_1_1_02_02 none qn kn)
    (transpose S6x8x8192x8192 [0, 3, 2, 1] (Host.dotGeneral dot_S6x8192x64_S6x8192x8x64_S6x8192x8192x8_2_3_1_12_0_0 none kr qr) transposes_S6x8192x8192x8_S6x8x8192x8192_0_3_2_1))
    (broadcastInDim S6x8x8192x8192 ![] bcast_S_S6x8x8192x8192 (constant S_ .f32 0x3D93CD3A#32))

/-- The largest score of a row. -/
def mxs : FVec F S6x8x8192 .f32 :=
  maximumf (broadcastInDim S6x8x8192 ![] bcast_S_S6x8x8192 (constant S_ .f32 0xFF800000#32))
    (Host.reduce FloatOps.maximumf (scs qn qr kn kr) (constant S_ .f32 0xFF800000#32) reducesTo_S6x8x8192x8192_S6x8x8192_d3 h_S_)

/-- The exponentials of the scores less the row's largest. -/
def exps : FVec F S6x8x8192x8192 .f32 :=
  Host.exp (subf (scs qn qr kn kr) (broadcastInDim S6x8x8192x8192 ![0, 1, 2, 3] bcast_S6x8x8192x1_S6x8x8192x8192_0_1_2_3
    (broadcastInDim S6x8x8192x1 ![0, 1, 2] bcast_S6x8x8192_S6x8x8192x1_0_1_2 (mxs qn qr kn kr))))

/-- The exponentials over their row sum. -/
def wts : FVec F S6x8x8192x8192 .f32 :=
  Host.divf (exps qn qr kn kr) (broadcastInDim S6x8x8192x8192 ![0, 1, 2, 3] bcast_S6x8x8192x1_S6x8x8192x8192_0_1_2_3
    (broadcastInDim S6x8x8192x1 ![0, 1, 2] bcast_S6x8x8192_S6x8x8192x1_0_1_2
      (Host.reduceAdd (exps qn qr kn kr) (constant S_ .f32 0x00000000#32) reducesTo_S6x8x8192x8192_S6x8x8192_d3 h_S_)))

/-- The values mixed by the weights, the heads side by side. -/
def res : FVec F S6x8192x1024 .f32 :=
  shapeCast _ (transpose S6x8192x8x128 [0, 3, 1, 2] (Host.dotGeneral dot_S6x8192x8x128_S6x8x8192x8192_S6x8x128x8192_1_3_3_2_02_01 none v (wts qn qr kn kr))
    transposes_S6x8x128x8192_S6x8192x8x128_0_3_1_2) shapeCasts_S6x8192x8x128_S6x8192x1024

section Ideal

/-- The largest of an axis of real numbers, from minus infinity, is a real number. -/
theorem reduce_max_real {s t u : Shape} {a : Fin s.rank} (x : FVec Ideal s .f32) (hx : AllReal x) (h' : s.ReducesTo [a] t) (h : s.Reduces [a] t)
    (init : FVec Ideal u .f32) (hu : 0 < u.numel) (hi : init (Shape.Idx.first hu) = (⊥ : EReal)) (ha : 0 < s.size a) (j : t.Idx) :
    ∃ r : ℝ, Host.reduce FloatOps.maximumf x init h' hu j = (r : EReal) := by
  rw [Host.reduce_eq_fold_single FloatOps.maximumf x init h' h hu j, hi]
  exact fold_max_real Finset.univ ⟨⟨0, ha⟩, Finset.mem_univ _⟩ _ fun k => hx _

/-- The larger of minus infinity and an entry is the entry. -/
theorem max_entry {s : Shape} (h : S_.BroadcastsInDim s (![] : Fin 0 → Fin s.rank)) (w : BitVec 32) (hw : Ideal.ofBits .f32 w = ⊥) (X : FVec Ideal s .f32) (j : s.Idx) :
    maximumf (broadcastInDim s ![] h (constant S_ .f32 w)) X j = (X j : EReal) := by
  have e : maximumf (broadcastInDim s ![] h (constant S_ .f32 w)) X j = max (Ideal.ofBits .f32 w) (X j) := rfl
  rw [e, hw]
  exact max_bot_left _

/-- The scores' last axis is the one reduced. -/
theorem reduces : S6x8x8192x8192.Reduces [3] S6x8x8192 := by decide

/-- The largest of a row of real numbers is a real number. -/
theorem reduce_real (x : FVec Ideal S6x8x8192x8192 .f32) (hx : AllReal x) (j : S6x8x8192.Idx) :
    ∃ r : ℝ, Host.reduce FloatOps.maximumf x (constant S_ .f32 0xFF800000#32) reducesTo_S6x8x8192x8192_S6x8x8192_d3 h_S_ j = (r : EReal) :=
  reduce_max_real x hx reducesTo_S6x8x8192x8192_S6x8x8192_d3 reduces (constant S_ .f32 0xFF800000#32) h_S_ ofBits_neg_inf
    (show 0 < 8192 from Nat.succ_pos _) j

variable {qn : FVec Ideal S6x8192x8x128 .f32} {qr : FVec Ideal S6x8192x8x64 .f32} {kn : FVec Ideal S6x8192x8x128 .f32}
  {kr : FVec Ideal S6x8192x64 .f32} (hqn : AllReal qn) (hqr : AllReal qr) (hkn : AllReal kn) (hkr : AllReal kr)

theorem exps_apply (b : Fin 6) (h : Fin 8) (x i : Fin 8192) :
    exps qn qr kn kr (ix4 b h x i) = Ideal.exp ((scs qn qr kn kr (ix4 b h x i) : EReal) - mxs qn qr kn kr (ix3 b h x)) := by
  pointwise [exps]

include hqn hqr hkn hkr

theorem scs_apply (b : Fin 6) (h : Fin 8) (x i : Fin 8192) :
    scs qn qr kn kr (ix4 b h x i) = (score qn qr kn kr b h x.val i.val : EReal) := by
  pointwise [scs]
  have e1 : ∀ d : Fin 128, (qn (ix4 b x h d) : EReal) * kn (ix4 b i h d)
      = (((qn (ix4 b x h d) : EReal).toReal * (kn (ix4 b i h d) : EReal).toReal : ℝ) : EReal) := fun d => by
    rw [EReal.coe_mul, ← hkn.eq, ← hqn.eq]
  have e2 : ∀ d : Fin 64, (kr (ix3 b i d) : EReal) * qr (ix4 b x h d)
      = (((qr (ix4 b x h d) : EReal).toReal * (kr (ix3 b i d) : EReal).toReal : ℝ) : EReal) := fun d => by
    rw [EReal.coe_mul, ← hkr.eq, ← hqr.eq, mul_comm]
  refine (congrArg₂ (HMul.hMul : EReal → EReal → EReal) (congrArg₂ (HAdd.hAdd : EReal → EReal → EReal)
    (Finset.sum_congr rfl fun d _ => e1 d) (Finset.sum_congr rfl fun d _ => e2 d)) scale_eq).trans ?_
  rw [← coe_sum, ← coe_sum, ← EReal.coe_add, ← EReal.coe_mul, mul_comm]
  simp only [score, pos_val]

theorem scs_real : AllReal (scs qn qr kn kr) := fun j => by
  rw [show j = ix4 (j 0 : Fin 6) (j 1 : Fin 8) (j 2 : Fin 8192) (j 3 : Fin 8192) from funext fun a => match a with
    | ⟨0, _⟩ => rfl
    | ⟨1, _⟩ => rfl
    | ⟨2, _⟩ => rfl
    | ⟨3, _⟩ => rfl]
  exact ⟨_, scs_apply hqn hqr hkn hkr _ _ _ _⟩

theorem mxs_real (b : Fin 6) (h : Fin 8) (x : Fin 8192) : ∃ r : ℝ, mxs qn qr kn kr (ix3 b h x) = (r : EReal) := by
  obtain ⟨r, e⟩ := reduce_real (scs qn qr kn kr) (scs_real hqn hqr hkn hkr) (ix3 b h x)
  exact ⟨r, (max_entry bcast_S_S6x8x8192 _ ofBits_neg_inf _ _).trans e⟩

theorem wts_apply (b : Fin 6) (h : Fin 8) (x i : Fin 8192) :
    wts qn qr kn kr (ix4 b h x i) = (soft (score qn qr kn kr b h x.val) 8192 i.val : EReal) := by
  obtain ⟨r, e⟩ := mxs_real hqn hqr hkn hkr b h x
  have e1 : ∀ i : Fin 8192, exps qn qr kn kr (ix4 b h x i) = Ideal.exp ((score qn qr kn kr b h x.val i.val : EReal) - (r : EReal)) := fun i => by
    rw [exps_apply, scs_apply hqn hqr hkn hkr, e]
  pointwise [wts]
  refine (congrArg₂ Ideal.div (e1 i) (Finset.sum_congr rfl fun k _ => e1 k)).trans ?_
  exact soft_coe _ r (by decide) i.val

theorem res_eq (v : FVec Ideal S6x8192x8x128 .f32) : res qn qr kn kr v = attnO qn qr kn kr v := by
  funext j
  pointwise [res]
  unfold attnO attn mix
  rw [← Fin.sum_univ_eq_sum_range (fun i => (v (ix4 (j 0) (pos i) _ _) : EReal) * (soft (score qn qr kn kr (j 0) _ (j 1).val) 8192 i : EReal))]
  refine Finset.sum_congr rfl fun i _ => congrArg₂ (HMul.hMul : EReal → EReal → EReal) ?_ (wts_apply hqn hqr hkn hkr _ _ _ _)
  rw [pos_val]

end Ideal

/-- The reference runs, ends with this result, and leaves its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = res (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.Proof.Ref

end
-- ==== Proof.Values.lean ====
/- THE TWO RESULTS AGREE, from arguments whose queries and keys are real numbers. -/
module

public import proofs.«01_k».proof.Proof.Frames
public import proofs.«01_k».proof.Proof.Entry
public import proofs.«01_k».proof.Proof.Reference

@[expose] public section

noncomputable section

namespace Cert.Proof

open Cert.KernelIdeal Cert.KernelIdeal.Gen Cert.Proof.Attn
open Idealize.ShloMosaic Idealize.ShloMosaic.TcCoe Idealize.SL.Sem

/-- The precondition's facts about shapes. -/
theorem facts_pre : Cert.Pre_scores_finite.Facts := ⟨by decide, by decide, by decide⟩

/-- An array whose entries are all below infinity in absolute value is an array of real numbers. -/
theorem real_of_lt {s : Shape} {A B : FVec Ideal s .f32} (hB : ∀ j, (B j : EReal) = Ideal.ofBits .f32 0x7F800000#32)
    (h : cmpf .olt (Host.absf A) B = fun _ => 1#1) : AllReal A := fun j => by
  have h1 : BitVec.ofBool (decide (max (A j : EReal) (-(A j : EReal)) < B j)) = 1#1 := congrFun h j
  have hi : Ideal.ofBits .f32 0x7F800000#32 = ⊤ := by simp [Ideal.ofBits, Ideal.ieee]
  rw [hB, hi] at h1
  have h2 : max (A j : EReal) (-(A j : EReal)) < ⊤ := by
    by_contra hc
    rw [decide_eq_false hc] at h1
    exact absurd h1 (by decide)
  obtain ⟨h3, h4⟩ := max_lt_iff.mp h2
  refine ⟨(A j : EReal).toReal, (EReal.coe_toReal h3.ne fun hb => ?_).symm⟩
  rw [hb, EReal.neg_bot] at h4
  exact lt_irrefl _ h4

/-- What the precondition says: the queries and the keys are real numbers. -/
theorem reals {m : (ℓ : Loc nD τ sig) → Buf (Elt Ideal) ℓ} (h : Cert.Pre_KernelIdeal_scores_finite (hPre_scores_finite := facts_pre) m) (c : Dev nD) :
    AllReal (qnA m c) ∧ AllReal (qrA m c) ∧ AllReal (knA m c) ∧ AllReal (krA m c) := by
  obtain ⟨h0, h1, h2, h3⟩ := h c
  exact ⟨real_of_lt (fun _ => rfl) h0, real_of_lt (fun _ => rfl) h1, real_of_lt (fun _ => rfl) h2, real_of_lt (fun _ => rfl) h3⟩

/-- The kernel's run: its result is the attention of its arguments, which it leaves. -/
theorem run_value (m : (ℓ : Loc nD τ sig) → Buf (Elt Ideal) ℓ) (ρ : Dev nD → PrngReg)
    (h : ∀ c, AllReal (qnA m c) ∧ AllReal (qrA m c) ∧ AllReal (knA m c) ∧ AllReal (krA m c)) :
    θ_run defs (onTc (τ := τ) (main (F := Ideal))) ⟨m, fun _ => 0, ρ⟩ fun r => ∀ c : Dev nD,
      r.2.mem ((c.tc : Thread nD τ).loc main_v28) = attnO (qnA m c) (qrA m c) (knA m c) (krA m c) (vA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c => ⟨((hr.1 c).1 3).trans (result m c (h c).1 (h c).2.1 (h c).2.2.1 (h c).2.2.2),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c)⟩) (run_main m ρ)

/-- The kernel and the reference, from the same arguments, end with the same result. -/
theorem equal : Cert.algebraic_KernelIdeal_ReferenceIdeal_pre_scores_finite (hKernelIdeal := Cert.KernelIdeal.Gen.facts)
    (hReferenceIdeal := Cert.ReferenceIdeal.Gen.facts) (hPre_scores_finite := facts_pre) := by
  intro m ρ m' ρ' hp he
  have hr := reals hp
  refine ⟨fun c => attnO (qnA m c) (qrA m c) (knA m c) (krA m c) (vA m c), run_value m ρ hr, ?_⟩
  refine (θ_run _ _ _).mono (fun r h c => ⟨(h c).1.trans ?_, (h c).2⟩) (Ref.run m' ρ')
  obtain ⟨e0, e1, e2, e3, e4⟩ := he c
  rw [e0, e1, e2, e3, e4]
  exact Ref.res_eq (hr c).1 (hr c).2.1 (hr c).2.2.1 (hr c).2.2.2 _

end Cert.Proof

end
-- ==== Proof.FfnRow.lean ====
/- THE FEED-FORWARD HALF STEP OF A ROW, as a function of the row and the parameters. -/
module

public import Idealize.ShloMosaic.Lib.Pointwise

@[expose] public section

set_option maxRecDepth 16384

noncomputable section

namespace Cert.Proof.Ffn

open Idealize.ShloMosaic

/-- A row over the root of its mean square, times a gain. -/
def norm (f g : Fin 1024 → EReal) (k : Fin 1024) : EReal :=
  f k * Ideal.rsqrt (Ideal.div (∑ j, f j * f j) (Ideal.ofBits .f32 0x44800000#32) + Ideal.ofBits .f32 0x358637BD#32) * g k

section Row

variable (x shift scale gate gain : Fin 1024 → EReal) (Wg Wu : Fin 1024 → Fin 2816 → EReal) (D : Fin 2816 → Fin 1024 → EReal)
  (gainO : Fin 1024 → EReal)

/-- The row, normalised and modulated. -/
def modulated (k : Fin 1024) : EReal := norm x gain k * (1 + scale k) + shift k

/-- The modulated row through one half of the first weights. -/
def wide (W : Fin 1024 → Fin 2816 → EReal) (k : Fin 2816) : EReal := ∑ j, modulated x shift scale gain j * W j k

/-- The gate times its logistic function, times the other half. -/
def gated (k : Fin 2816) : EReal :=
  wide x shift scale gain Wg k * Ideal.div 1 (1 + Ideal.exp (0 - wide x shift scale gain Wg k)) * wide x shift scale gain Wu k

/-- Back to the row's width. -/
def narrow (k : Fin 1024) : EReal := ∑ j, gated x shift scale gain Wg Wu j * D j k

/-- The half step: the row and half its gated, normalised image. -/
def step (k : Fin 1024) : EReal :=
  x k + Ideal.ofBits .f32 0x3F000000#32 * gate k * norm (narrow x shift scale gain Wg Wu D) gainO k

end Row

/-- The half step of every row of the prompt: row `r` is of sequence `r / 8192`, whose modulation has the shift, the scale and the gate as its
    rows 6, 7 and 8. -/
def ffnO (x : Vec Ideal ⟨2, ![49152, 1024]⟩ .f32) (md : Vec Ideal ⟨3, ![6, 9, 1024]⟩ .f32) (np : Vec Ideal ⟨2, ![1, 1024]⟩ .f32)
    (W : Vec Ideal ⟨2, ![1024, 5632]⟩ .f32) (D : Vec Ideal ⟨2, ![2816, 1024]⟩ .f32) (no : Vec Ideal ⟨2, ![1, 1024]⟩ .f32) :
    Vec Ideal ⟨2, ![32768, 1024]⟩ .f32 := fun j =>
  have b : Fin 6 := ⟨(j 0).val / 8192, by have := (j 0).isLt; simp only [Matrix.cons_val_zero] at this; omega⟩
  step (fun k => x (ix2 ⟨(j 0).val, by have := (j 0).isLt; simp only [Matrix.cons_val_zero] at this; omega⟩ k))
    (fun k => md (ix3 b 6 k)) (fun k => md (ix3 b 7 k)) (fun k => md (ix3 b 8 k)) (fun k => np (ix2 0 k))
    (fun j k => W (ix2 j ⟨k.val, by omega⟩)) (fun j k => W (ix2 j ⟨2816 + k.val, by omega⟩)) (fun j k => D (ix2 j k)) (fun k => no (ix2 0 k)) (j 1)

end Cert.Proof.Ffn

end
-- ==== Proof.Ffn.lean ====
/- THE FEED-FORWARD CALL. A grid point leaves the half step of its rows in its block of the result, and the result array is the half step of every
   row. -/
module

public import proofs.«01_k».proof.Proof.FfnRow
public import proofs.«01_k».proof.Proof.Gen.FfnKernelIdeal.Value
public import Idealize.ShloMosaic.Lib.Pipeline.ValueKit
public import Idealize.ShloMosaic.Lib.StableHlo.RunRead

@[expose] public section

set_option maxRecDepth 16384

noncomputable section

namespace Cert.Proof.Ffn

open Cert.FfnKernelIdeal Cert.FfnKernelIdeal.Gen
open Idealize.ShloMosaic Idealize.ShloMosaic.TcCoe

section Tile

variable {F : FTy → Type} [FloatOps F]
  (v0 v2 v4 : Vec F S1x1x1024 .f32) (v6 : Vec F S256x1024 .f32) (v7 : Vec F S1x1024 .f32)
  (v27 v30 : Vec F S1024x2816 .bf16) (v43 : Vec F S2816x1024 .bf16) (v48 : Vec F S1x1024 .f32)

/-- The gated rows of a tile. -/
def hid : FVec F S256x2816 .bf16 :=
  have g := k0_pay6 v0 v2 v6 v7 v27
  have one := broadcast S256x2816 (Scalar.ofBits .f32 0x3F800000#32 : F .f32)
  truncf .bf16 (mulf (mulf g (divf one (addf one (exp (k0_pay8 v0 v2 v6 v7 v27))))) (k0_pay7 v0 v2 v6 v7 v30)) bitsLt_bf16_f32

/-- The same, back to the rows' width. -/
def down : FVec F S256x1024 .f32 :=
  matmul dot_S256x2816_S2816x1024_S256x1024_1_0_0_1_n_n none (hid v0 v2 v6 v7 v27 v30)
    (shapeCast S2816x1024 v43 shapeCasts_S2816x1024_S2816x1024) (constant S256x1024 .f32 0x00000000#32)

/-- A tile of 256 rows of the result. -/
def tile : FVec F S256x1024 .f32 :=
  addf v6 (mulf (broadcastTo S256x1024 (k0_pay12 (k0_pay4 v4)) broadcasts_S1x1024_S256x1024)
    (mulf (mulf (down v0 v2 v6 v7 v27 v30 v43) (broadcastTo S256x1024 (rsqrt (k0_pay10 (down v0 v2 v6 v7 v27 v30 v43))) broadcasts_S256x1_S256x1024))
      (broadcastTo S256x1024 v48 broadcasts_S1x1024_S256x1024)))

/-- The four tiles of a point are cut at different places by the generated names, and are one function. -/
theorem tile0 : k0_pay9 (k0_pay4 v4) v6 (k0_pay6 v0 v2 v6 v7 v27) (k0_pay7 v0 v2 v6 v7 v30) (k0_pay8 v0 v2 v6 v7 v27) v43 v48
    = tile v0 v2 v4 v6 v7 v27 v30 v43 v48 := rfl

theorem tile1 : k0_pay14 v6 (k0_pay11 (k0_pay2 v0) (k0_pay3 v2) v6 v7 (k0_pay10 v6) v27 v30 v43) (k0_pay12 (k0_pay4 v4)) v48
    (k0_pay13 (k0_pay2 v0) (k0_pay3 v2) v6 v7 (k0_pay10 v6) v27 v30 v43) = tile v0 v2 v4 v6 v7 v27 v30 v43 v48 := rfl

theorem tile2 : k0_pay19 (k0_pay4 v4) v6 (k0_pay16 (k0_pay2 v0) (k0_pay3 v2) v6 v7 v27) (k0_pay17 (k0_pay2 v0) (k0_pay3 v2) v6 v7 v30)
    (k0_pay18 (k0_pay2 v0) (k0_pay3 v2) v6 v7 v27) v43 v48 = tile v0 v2 v4 v6 v7 v27 v30 v43 v48 := rfl

theorem tile3 : k0_pay1 v6 (k0_pay22 (k0_pay4 v4)) (k0_pay23 (k0_pay2 v0) (k0_pay3 v2) (k0_pay20 v6) (k0_pay21 v7) v27 v30 v43) (k0_pay24 v48)
    = tile v0 v2 v4 v6 v7 v27 v30 v43 v48 := rfl

end Tile

section Ideal

variable (v0 v2 v4 : Vec Ideal S1x1x1024 .f32) (v6 : Vec Ideal S256x1024 .f32) (v7 : Vec Ideal S1x1024 .f32)
  (v27 v30 : Vec Ideal S1024x2816 .bf16) (v43 : Vec Ideal S2816x1024 .bf16) (v48 : Vec Ideal S1x1024 .f32)

theorem modulated_apply (i : Fin 256) (k : Fin 1024) : k0_pay5 v0 v2 v6 v7 (ix2 i k)
    = modulated (fun k => v6 (ix2 i k)) (fun k => v0 (ix3 0 0 k)) (fun k => v2 (ix3 0 0 k)) (fun k => v7 (ix2 0 k)) k := by
  pointwise [k0_pay5, k0_pay2, k0_pay3]
  rfl

theorem wide_apply (i : Fin 256) (k : Fin 2816) : k0_pay6 v0 v2 v6 v7 v27 (ix2 i k)
    = wide (fun k => v6 (ix2 i k)) (fun k => v0 (ix3 0 0 k)) (fun k => v2 (ix3 0 0 k)) (fun k => v7 (ix2 0 k)) (fun j k => v27 (ix2 j k)) k := by
  pointwise [k0_pay6]
  exact Finset.sum_congr rfl fun j _ => congrArg₂ (HMul.hMul : EReal → EReal → EReal) (modulated_apply v0 v2 v6 v7 i j) rfl

theorem gated_apply (i : Fin 256) (k : Fin 2816) : hid v0 v2 v6 v7 v27 v30 (ix2 i k)
    = gated (fun k => v6 (ix2 i k)) (fun k => v0 (ix3 0 0 k)) (fun k => v2 (ix3 0 0 k)) (fun k => v7 (ix2 0 k)) (fun j k => v27 (ix2 j k))
      (fun j k => v30 (ix2 j k)) k := by
  pointwise [hid, k0_pay8]
  have eg := wide_apply v0 v2 v6 v7 v27 i k
  have eu : k0_pay7 v0 v2 v6 v7 v30 (ix2 i k) = _ := wide_apply v0 v2 v6 v7 v30 i k
  rw [eg, eu]
  rfl

theorem narrow_apply (i : Fin 256) (k : Fin 1024) : down v0 v2 v6 v7 v27 v30 v43 (ix2 i k)
    = narrow (fun k => v6 (ix2 i k)) (fun k => v0 (ix3 0 0 k)) (fun k => v2 (ix3 0 0 k)) (fun k => v7 (ix2 0 k)) (fun j k => v27 (ix2 j k))
      (fun j k => v30 (ix2 j k)) (fun j k => v43 (ix2 j k)) k := by
  pointwise [down]
  exact Finset.sum_congr rfl fun j _ => congrArg₂ (HMul.hMul : EReal → EReal → EReal) (gated_apply v0 v2 v6 v7 v27 v30 i j) rfl

theorem tile_apply (i : Fin 256) (k : Fin 1024) : tile v0 v2 v4 v6 v7 v27 v30 v43 v48 (ix2 i k)
    = step (fun k => v6 (ix2 i k)) (fun k => v0 (ix3 0 0 k)) (fun k => v2 (ix3 0 0 k)) (fun k => v4 (ix3 0 0 k)) (fun k => v7 (ix2 0 k))
      (fun j k => v27 (ix2 j k)) (fun j k => v30 (ix2 j k)) (fun j k => v43 (ix2 j k)) (fun k => v48 (ix2 0 k)) k := by
  pointwise [tile, k0_pay12, k0_pay4, k0_pay10]
  simp only [narrow_apply]
  rfl

/-- What a grid point leaves in its block of the result. -/
theorem out_apply (x0 : Vec Ideal S1024x1024 .f32) (x1 : Vec Ideal S1x9x1024 .f32) (x2 : Vec Ideal S1x1024 .f32) (x3 : Vec Ideal S1024x5632 .bf16)
    (x4 : Vec Ideal S2816x1024 .bf16) (x5 : Vec Ideal S1x1024 .f32) (y : S1024x1024.Idx) :
    out0_6 x0 x1 x2 x3 x4 x5 y = step (fun k => x0 (ix2 (y 0) k)) (fun k => x1 (ix3 0 6 k)) (fun k => x1 (ix3 0 7 k)) (fun k => x1 (ix3 0 8 k))
      (fun k => x2 (ix2 0 k)) (fun j k => x3 (ix2 j ⟨k.val, by omega⟩)) (fun j k => x3 (ix2 j ⟨2816 + k.val, by omega⟩)) (fun j k => x4 (ix2 j k))
      (fun k => x5 (ix2 0 k)) (y 1) := by
  canon_tiles x h
  case' piece0 => refine (congrFun (tile3 (F := Ideal) _ _ _ _ _ _ _ _ _) x).trans ?_
  case' piece1 => refine (congrFun (tile2 (F := Ideal) _ _ _ _ _ _ _ _ _) x).trans ?_
  case' piece2 => refine (congrFun (tile1 (F := Ideal) _ _ _ _ _ _ _ _ _) x).trans ?_
  case' piece3 => refine (congrFun (tile0 (F := Ideal) _ _ _ _ _ _ _ _ _) x).trans ?_
  all_goals
    have hx : x = ix2 (x 0 : Fin 256) (x 1 : Fin 1024) := funext fun a => match a with
      | ⟨0, _⟩ => rfl
      | ⟨1, _⟩ => rfl
    refine (congrArg _ hx).trans ((tile_apply _ _ _ _ _ _ _ _ _ _ _).trans ?_)
    congr 1
    all_goals first
      | exact Fin.ext h1.symm
      | (funext j l; pointwise; blk_ext; done)
      | (funext j; pointwise; blk_ext; done)

end Ideal

section Array

variable (m : (ℓ : Loc nD τ sig) → Buf (Elt Ideal) ℓ) (c : Dev nD)

/-- Grid point `t` has rows `1024 t` to `1024 t + 1023`, of sequence `t / 8`. -/
theorem idx : ∀ t : Fin cfg0.N, win0_0.index t = ![t.val, 0] ∧ win0_1.index t = ![t.val / 8, 0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The six arguments. -/
abbrev xA : Vec Ideal S49152x1024 .f32 := m ((c : Thread nD τ).loc main_arg0)
abbrev modA : Vec Ideal S6x9x1024 .f32 := m ((c : Thread nD τ).loc main_arg1)
abbrev npA : Vec Ideal S1x1024 .f32 := m ((c : Thread nD τ).loc main_arg2)
abbrev guA : Vec Ideal S1024x5632 .f32 := m ((c : Thread nD τ).loc main_arg3)
abbrev downA : Vec Ideal S2816x1024 .f32 := m ((c : Thread nD τ).loc main_arg4)
abbrev noA : Vec Ideal S1x1024 .f32 := m ((c : Thread nD τ).loc main_arg5)

/-- The weights that the call is given are the arguments, rounded, which is the identity here. -/
theorem gu_entry (i : Fin 1024) (k : Fin 5632) : V m c main_v0 (ix2 i k) = (guA m c (ix2 i k) : EReal) := by
  entry_read
  pointwise

theorem down_entry (i : Fin 2816) (k : Fin 1024) : V m c main_v1 (ix2 i k) = (downA m c (ix2 i k) : EReal) := by
  entry_read
  pointwise

/-- The result array. -/
theorem result : (dats m 0 c).arrAt 6 cfg0.N = ffnO (xA m c) (modA m c) (npA m c) (guA m c) (downA m c) (noA m c) := by
  refine (dats m 0 c).arrAt_eq_of_covers 6 _ (by decide +kernel) fun t hf y => ?_
  obtain ⟨e0, e1, e2, e3, e4, e5, e6⟩ := idx t
  have ht : t.val < 32 := t.isLt
  blk_simp
  rw [after0_6]
  refine (out_apply _ _ _ _ _ _ y).trans ?_
  unfold ffnO
  congr 1
  case e_x => funext k; blk_point [iblk, V, idx t]
  case e_shift => funext k; blk_point [iblk, V, idx t]
  case e_scale => funext k; blk_point [iblk, V, idx t]
  case e_gate => funext k; blk_point [iblk, V, idx t]
  case e_gain => funext k; blk_point [iblk, V, idx t]
  case e_gainO => funext k; blk_point [iblk, V, idx t]
  case e_Wg =>
    funext j k
    refine Eq.trans ?_ (gu_entry m c _ _)
    blk_ext [iblk, e3]
  case e_Wu =>
    funext j k
    refine Eq.trans ?_ (gu_entry m c _ _)
    blk_ext [iblk, e3]
  case e_D =>
    funext j k
    refine Eq.trans ?_ (down_entry m c _ _)
    blk_ext [iblk, e4]
  case e_k =>
    refine Fin.ext ?_
    blk_simp [e6]

end Array

end Cert.Proof.Ffn

end
-- ==== Proof.FfnReference.lean ====
/- WHAT THE FEED-FORWARD REFERENCE COMPUTES. Its result is the half step of every row. -/
module

public import proofs.«01_k».proof.Proof.FfnRow
public import proofs.«01_k».proof.Proof.Gen.FfnReferenceIdeal.Run
public import Idealize.ShloMosaic.Lib.Pipeline.ValueKit

@[expose] public section

set_option maxRecDepth 16384

noncomputable section

namespace Cert.Proof.Ffn.Ref

open Cert.FfnReferenceIdeal Cert.FfnReferenceIdeal.Gen
open Idealize.ShloMosaic Idealize.ShloMosaic.TcCoe

variable {F : FTy → Type} [FloatOps F]
  (x : FVec F S49152x1024 .f32) (md : FVec F S6x9x1024 .f32) (np : FVec F S1x1024 .f32) (W : FVec F S1024x5632 .f32) (D : FVec F S2816x1024 .f32)
  (no : FVec F S1x1024 .f32)

/-- The rows of the prompt, by sequence. -/
def rows : FVec F S4x8192x1024 .f32 :=
  extractStridedSlice S4x8192x1024 ![0, 0, 0] (shapeCast _ x shapeCasts_S49152x1024_S6x8192x1024) slices_S6x8192x1024_S4x8192x1024_0_0_0

/-- The modulation of its sequences. -/
def mods : FVec F S4x9x1x1024 .f32 :=
  broadcastInDim S4x9x1x1024 ![0, 1, 3] bcast_S4x9x1024_S4x9x1x1024_0_1_3 (extractStridedSlice S4x9x1024 ![0, 0, 0] md slices_S6x9x1024_S4x9x1024_0_0_0)

def shifts : FVec F S4x1x1024 .f32 :=
  shapeCast _ (extractStridedSlice S4x1x1x1024 ![0, 6, 0, 0] (mods md) slices_S4x9x1x1024_S4x1x1x1024_0_6_0_0) shapeCasts_S4x1x1x1024_S4x1x1024

def scales : FVec F S4x1x1024 .f32 :=
  shapeCast _ (extractStridedSlice S4x1x1x1024 ![0, 7, 0, 0] (mods md) slices_S4x9x1x1024_S4x1x1x1024_0_7_0_0) shapeCasts_S4x1x1x1024_S4x1x1024

def gates : FVec F S4x1x1024 .f32 :=
  shapeCast _ (extractStridedSlice S4x1x1x1024 ![0, 8, 0, 0] (mods md) slices_S4x9x1x1024_S4x1x1x1024_0_8_0_0) shapeCasts_S4x1x1x1024_S4x1x1024

/-- Rows over the root of their mean square, times a gain. -/
def norms (y : FVec F S4x8192x1024 .f32) (g : FVec F S1x1024 .f32) : FVec F S4x8192x1024 .f32 :=
  mulf (mulf y (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf y y) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The rows, normalised and modulated. -/
def ins : FVec F S4x8192x1024 .f32 :=
  addf (mulf (norms (rows x) np) (broadcastInDim S4x8192x1024 ![0, 1, 2] bcast_S4x1x1024_S4x8192x1024_0_1_2
    (addf (broadcastInDim S4x1x1024 ![] bcast_S_S4x1x1024 (constant S_ .f32 0x3F800000#32)) (scales md))))
    (broadcastInDim S4x8192x1024 ![0, 1, 2] bcast_S4x1x1024_S4x8192x1024_0_1_2 (shifts md))

/-- Through the first weights. -/
def wides : FVec F S4x8192x5632 .f32 :=
  Host.dotGeneral dot_S4x8192x1024_S1024x5632_S4x8192x5632_2_0_01_1_n_n none (ins x md np) W

def gateHalf : FVec F S4x8192x2816 .f32 :=
  extractStridedSlice S4x8192x2816 ![0, 0, 0] (wides x md np W) slices_S4x8192x5632_S4x8192x2816_0_0_0

/-- The gate times its logistic function, times the other half. -/
def gateds : FVec F S4x8192x2816 .f32 :=
  mulf (mulf (gateHalf x md np W) (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf (gateHalf x md np W))))))
    (extractStridedSlice S4x8192x2816 ![0, 0, 2816] (wides x md np W) slices_S4x8192x5632_S4x8192x2816_0_0_2816)

/-- Back to the rows' width. -/
def narrows : FVec F S4x8192x1024 .f32 :=
  Host.dotGeneral dot_S4x8192x2816_S2816x1024_S4x8192x1024_2_0_01_1_n_n none (gateds x md np W) D

/-- The half step. -/
def outs : FVec F S4x8192x1024 .f32 :=
  addf (rows x) (mulf (broadcastInDim S4x8192x1024 ![0, 1, 2] bcast_S4x1x1024_S4x8192x1024_0_1_2
    (mulf (broadcastInDim S4x1x1024 ![] bcast_S_S4x1x1024 (constant S_ .f32 0x3F000000#32)) (gates md)))
    (norms (narrows x md np W D) no))

/-- The same, its rows in one axis. -/
def res : FVec F S32768x1024 .f32 := shapeCast _ (outs x md np W D no) shapeCasts_S4x8192x1024_S32768x1024

section Ideal

variable (x : FVec Ideal S49152x1024 .f32) (md : FVec Ideal S6x9x1024 .f32) (np : FVec Ideal S1x1024 .f32) (W : FVec Ideal S1024x5632 .f32)
  (D : FVec Ideal S2816x1024 .f32) (no : FVec Ideal S1x1024 .f32) (b : Fin 4) (i : Fin 8192)

theorem norms_apply (y : FVec Ideal S4x8192x1024 .f32) (k : Fin 1024) :
    norms y np (ix3 b i k) = norm (fun k => y (ix3 b i k)) (fun k => np (ix2 0 k)) k := by
  pointwise [norms]
  rfl

/-- A row of the prompt and its modulation. -/
abbrev row (k : Fin 1024) : EReal := x (ix2 ⟨b.val * 8192 + i.val, by omega⟩ k)
abbrev modRow (r : Fin 9) (k : Fin 1024) : EReal := md (ix3 ⟨b.val, by omega⟩ r k)

theorem rows_apply (k : Fin 1024) : rows x (ix3 b i k) = row x b i k := by
  pointwise [rows]
  blk_ext

theorem shifts_apply (k : Fin 1024) : shifts md (ix3 b 0 k) = modRow md b 6 k := by
  pointwise [shifts, mods]
  blk_ext

theorem scales_apply (k : Fin 1024) : scales md (ix3 b 0 k) = modRow md b 7 k := by
  pointwise [scales, mods]
  blk_ext

theorem gates_apply (k : Fin 1024) : gates md (ix3 b 0 k) = modRow md b 8 k := by
  pointwise [gates, mods]
  blk_ext

theorem ins_apply (k : Fin 1024) :
    ins x md np (ix3 b i k) = modulated (row x b i) (modRow md b 6) (modRow md b 7) (fun k => np (ix2 0 k)) k := by
  pointwise [ins]
  simp only [norms_apply, rows_apply, shifts_apply, scales_apply]
  rfl

theorem wides_apply (k : Fin 5632) : wides x md np W (ix3 b i k)
    = ∑ j, modulated (row x b i) (modRow md b 6) (modRow md b 7) (fun k => np (ix2 0 k)) j * (W (ix2 j k) : EReal) := by
  pointwise [wides]
  exact Finset.sum_congr rfl fun j _ => congrArg₂ (HMul.hMul : EReal → EReal → EReal) (ins_apply x md np b i j) rfl

theorem gateds_apply (k : Fin 2816) : gateds x md np W (ix3 b i k)
    = gated (row x b i) (modRow md b 6) (modRow md b 7) (fun k => np (ix2 0 k)) (fun j k => W (ix2 j ⟨k.val, by omega⟩))
      (fun j k => W (ix2 j ⟨2816 + k.val, by omega⟩)) k := by
  pointwise [gateds, gateHalf]
  simp only [wides_apply]
  simp only [gated, wide, zero_sub]

theorem narrows_apply (k : Fin 1024) : narrows x md np W D (ix3 b i k)
    = narrow (row x b i) (modRow md b 6) (modRow md b 7) (fun k => np (ix2 0 k)) (fun j k => W (ix2 j ⟨k.val, by omega⟩))
      (fun j k => W (ix2 j ⟨2816 + k.val, by omega⟩)) (fun j k => D (ix2 j k)) k := by
  pointwise [narrows]
  exact Finset.sum_congr rfl fun j _ => congrArg₂ (HMul.hMul : EReal → EReal → EReal) (gateds_apply x md np W b i j) rfl

theorem outs_apply (k : Fin 1024) : outs x md np W D no (ix3 b i k)
    = step (row x b i) (modRow md b 6) (modRow md b 7) (modRow md b 8) (fun k => np (ix2 0 k)) (fun j k => W (ix2 j ⟨k.val, by omega⟩))
      (fun j k => W (ix2 j ⟨2816 + k.val, by omega⟩)) (fun j k => D (ix2 j k)) (fun k => no (ix2 0 k)) k := by
  pointwise [outs]
  simp only [rows_apply, gates_apply, norms_apply, narrows_apply]
  rfl

theorem res_eq : res x md np W D no = ffnO x md np W D no := by
  funext j
  pointwise [res]
  refine (outs_apply x md np W D no _ _ _).trans ?_
  unfold ffnO row modRow
  congr 1
  exact funext fun k => congrArg (fun r => x (ix2 r k)) (Fin.ext (Nat.div_add_mod' _ _))

end Ideal

/-- The reference runs, ends with this result, and leaves its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = res (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.FfnReferenceIdeal.Value.run m ρ

end Cert.Proof.Ffn.Ref

end
-- ==== Proof.FfnValues.lean ====
/- THE FEED-FORWARD CALL'S CLAIMS. The kernel, its idealization and the reference run and leave their arguments; the kernel and the reference end
   with the same result. -/
module

public import proofs.«01_k».proof.Defs
public import proofs.«01_k».proof.Proof.Ffn
public import proofs.«01_k».proof.Proof.FfnReference
public import proofs.«01_k».proof.Proof.Gen.FfnKernel.Frame
public import Idealize.ShloMosaic.Lib.Claim

@[expose] public section

set_option maxRecDepth 16384

noncomputable section

namespace Cert.Proof.Ffn

open Idealize.ShloMosaic Idealize.SL.Sem

/-- The machine's program terminates without fault, leaves its arguments as they are and every counter at zero. -/
theorem frame_kernel : Cert.quiescent_FfnKernel (hFfnKernel := Cert.FfnKernel.Gen.facts) := fun m ρ _ => Cert.FfnKernel.Gen.frame m ρ

/-- So does its idealization. -/
theorem frame_ideal : Cert.quiescent_FfnKernelIdeal (hFfnKernelIdeal := Cert.FfnKernelIdeal.Gen.facts) :=
  fun m ρ _ => Cert.FfnKernelIdeal.Gen.frame m ρ

/-- So does the reference. -/
theorem frame_reference : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) _⟩)
    (Cert.FfnReferenceIdeal.Value.run m ρ)

/-- The kernel and the reference, from the same arguments, end with the same result. -/
theorem equal : Cert.algebraic_FfnKernelIdeal_FfnReferenceIdeal (hFfnKernelIdeal := Cert.FfnKernelIdeal.Gen.facts)
    (hFfnReferenceIdeal := Cert.FfnReferenceIdeal.Gen.facts) := by
  intro m ρ m' ρ' _ he
  refine ⟨fun c => ffnO (xA m c) (modA m c) (npA m c) (guA m c) (downA m c) (noA m c), ?_, ?_⟩
  · exact (θ_run _ _ _).mono (fun r h c => ⟨(h c).1.trans (result m c), (h c).2⟩) (Cert.FfnKernelIdeal.Value.run_blocks m ρ)
  · refine (θ_run _ _ _).mono (fun r h c => ⟨(h c).1.trans ?_, (h c).2⟩) (Ref.run m' ρ')
    obtain ⟨e0, e1, e2, e3, e4, e5⟩ := he c
    rw [e0, e1, e2, e3, e4, e5]
    exact Ref.res_eq _ _ _ _ _ _

end Cert.Proof.Ffn

end
-- ==== Proof.PostRow.lean ====
/- THE CALL `mixer_post` OF A ROW, as a function of the row, the pooled channels of the rows about it, and the parameters. -/
module

public import proofs.«01_k».proof.Proof.FfnRow
public import proofs.«01_k».proof.Proof.Softmax
public import Idealize.ShloMosaic.Lib.WordArith

@[expose] public section

set_option maxRecDepth 16384

noncomputable section

namespace Cert.Proof.Post

open Idealize.ShloMosaic
open Cert.Proof.Ffn (norm modulated)
open Idealize.ShloMosaic.WordArith

/-! ## Windows of a sequence of 8192 rows -/

/-- The sum over the rows within `hw` of row `I`: the `hw` before it, itself and the `hw - 1` after it, cut to the sequence. -/
def win (hw : ℕ) (u : ℕ → EReal) (I : ℕ) : EReal := ∑ s ∈ Finset.Ico (I - hw) (min (I + hw) 8192), u s

/-- The number of those rows. -/
def cnt (hw I : ℕ) : EReal := (((min (I + hw) 8192 - (I - hw) : ℕ) : ℝ) : EReal)

/-- Half the window of each group of channels. -/
def half (g : Fin 4) : ℕ := ![1, 2, 4, 8] g

theorem half_cases (g : Fin 4) : half g = 1 ∨ half g = 2 ∨ half g = 4 ∨ half g = 8 := by
  revert g
  decide

/-- The mean over the window less the row. -/
def pool (g : Fin 4) (u : ℕ → EReal) (I : ℕ) : EReal := Ideal.div (win (half g) u I) (cnt (half g) I) - u I

/-- The rows with eight rows of nothing before them and after them. -/
def padded (u : ℕ → EReal) (n : ℕ) : EReal := if 8 ≤ n ∧ n < 8200 then u (n - 8) else 0

/-- A window summed over the padded rows. -/
theorem sum_padded (u : ℕ → EReal) (hw I : ℕ) (hh : hw ≤ 8) :
    ∑ d ∈ Finset.range (2 * hw), padded u (I + 8 - hw + d) = win hw u I := by
  have e : ∑ d ∈ Finset.range (2 * hw), padded u (I + 8 - hw + d) = ∑ n ∈ Finset.Ico (I + 8 - hw) (I + 8 + hw), padded u n := by
    rw [Finset.sum_Ico_eq_sum_range, show I + 8 + hw - (I + 8 - hw) = 2 * hw by omega]
  rw [e, win]
  have e2 : ∑ s ∈ Finset.Ico (I - hw) (min (I + hw) 8192), u s
      = ∑ n ∈ Finset.Ico (I - hw + 8) (min (I + hw) 8192 + 8), padded u n := by
    rw [← Finset.sum_Ico_add' (fun n => padded u n) (I - hw) (min (I + hw) 8192) 8]
    refine Finset.sum_congr rfl fun s hs => ?_
    have hs' := Finset.mem_Ico.mp hs
    have h1 := hs'.2
    rw [lt_min_iff] at h1
    exact ((if_pos ⟨by omega, by omega⟩ : padded u (s + 8) = u (s + 8 - 8)).trans (by rw [Nat.add_sub_cancel])).symm
  rw [e2]
  refine (Finset.sum_subset (fun n hn => ?_) fun n hn hn' => ?_).symm
  · rw [Finset.mem_Ico] at hn ⊢
    omega
  · rw [Finset.mem_Ico] at hn hn'
    exact if_neg (by omega)

/-- A window twice as wide is two windows side by side. -/
theorem sum_double (E : ℕ → EReal) (w r : ℕ) (hw : 2 * w ≤ r) :
    (∑ d ∈ Finset.range (2 * w), E (r - w - w + d)) + ∑ d ∈ Finset.range (2 * w), E (r + w - w + d)
      = ∑ d ∈ Finset.range (2 * (2 * w)), E (r - 2 * w + d) := by
  rw [show 2 * (2 * w) = 2 * w + 2 * w by omega, Finset.sum_range_add]
  refine congrArg₂ (· + ·) (Finset.sum_congr rfl fun d _ => ?_) (Finset.sum_congr rfl fun d _ => ?_)
  · exact congrArg E (by omega)
  · exact congrArg E (by omega)

/-- A window of real numbers is the difference of two running sums. -/
theorem sub_prefix (u : ℕ → EReal) (hu : ∀ s, ∃ r : ℝ, u s = (r : EReal)) (hw I : ℕ) (hI : I < 8192) :
    (∑ s ∈ Finset.range (min (I + hw) 8192), u s) - ∑ s ∈ Finset.range (I - hw), u s = win hw u I := by
  choose f hf using hu
  have e : ∀ S : Finset ℕ, ∑ s ∈ S, u s = ((∑ s ∈ S, f s : ℝ) : EReal) := fun S => by
    rw [Attn.coe_sum]
    exact Finset.sum_congr rfl fun s _ => hf s
  rw [win, e, e, e, ← EReal.coe_sub, Finset.sum_Ico_eq_sub _ (by omega)]

/-! ## The bounds of a window, as words -/

theorem toInt_word (n : ℕ) (h : n < 2 ^ 31) : (BitVec.ofNat 32 n).toInt = n := toInt_ofNat_small n h

theorem toInt_hi (I h : ℕ) (hI : I < 8192) (hh : h ≤ 8) :
    (IntOp.addi (BitVec.ofNat 32 I) (BitVec.ofNat 32 h)).toInt = (I + h : ℕ) := by
  show (BitVec.ofNat 32 I + BitVec.ofNat 32 h).toInt = _
  rw [toInt_add_of_bounds _ _ (by rw [toInt_word _ (by omega), toInt_word _ (by omega)]; omega)
    (by rw [toInt_word _ (by omega), toInt_word _ (by omega)]; omega), toInt_word _ (by omega), toInt_word _ (by omega)]
  omega

theorem toInt_lo (I h : ℕ) (hI : I < 8192) (hh : h ≤ 8) :
    (IntOp.subi (BitVec.ofNat 32 I) (BitVec.ofNat 32 h)).toInt = (I : ℤ) - h := by
  show (BitVec.ofNat 32 I - BitVec.ofNat 32 h).toInt = _
  rw [toInt_sub_of_bounds _ _ (by rw [toInt_word _ (by omega), toInt_word _ (by omega)]; omega)
    (by rw [toInt_word _ (by omega), toInt_word _ (by omega)]; omega), toInt_word _ (by omega), toInt_word _ (by omega)]

theorem toInt_max (x y : BitVec 32) : (IntOp.maxsi x y).toInt = max x.toInt y.toInt := by
  unfold IntOp.maxsi
  rw [BitVec.slt_eq_decide]
  split <;> rename_i h <;> simp only [decide_eq_true_eq] at h <;> omega

theorem toInt_min (x y : BitVec 32) : (IntOp.minsi x y).toInt = min x.toInt y.toInt := by
  unfold IntOp.minsi
  rw [BitVec.slt_eq_decide]
  split <;> rename_i h <;> simp only [decide_eq_true_eq] at h <;> omega

/-- A word with a natural number's value is that number's word. -/
theorem word_eq (x : BitVec 32) (n : ℕ) (h : n < 2 ^ 31) (e : x.toInt = n) : x = BitVec.ofNat 32 n :=
  BitVec.eq_of_toInt_eq (e.trans (toInt_word n h).symm)

/-- The end of the window, as the kernel cuts it. -/
theorem hi_word (I h : ℕ) (hI : I < 8192) (hh : h ≤ 8) :
    IntOp.minsi (IntOp.addi (BitVec.ofNat 32 I) (BitVec.ofNat 32 h)) 8192#32 = BitVec.ofNat 32 (min (I + h) 8192) :=
  word_eq _ _ (by omega) (by rw [toInt_min, toInt_hi I h hI hh, show (8192#32 : BitVec 32).toInt = 8192 from rfl]; omega)

/-- Its start. -/
theorem lo_word (I h : ℕ) (hI : I < 8192) (hh : h ≤ 8) :
    IntOp.maxsi (IntOp.subi (BitVec.ofNat 32 I) (BitVec.ofNat 32 h)) 0#32 = BitVec.ofNat 32 (I - h) :=
  word_eq _ _ (by omega) (by rw [toInt_max, toInt_lo I h hI hh, show (0#32 : BitVec 32).toInt = 0 from rfl]; omega)

/-- The end, as the reference cuts it. -/
theorem hi_clip (I h : ℕ) (hI : I < 8192) (hh : h ≤ 8) :
    IntOp.minsi 8192#32 (IntOp.maxsi 0#32 (IntOp.addi (BitVec.ofNat 32 I) (BitVec.ofNat 32 h))) = BitVec.ofNat 32 (min (I + h) 8192) :=
  word_eq _ _ (by omega) (by
    rw [toInt_min, toInt_max, toInt_hi I h hI hh, show (8192#32 : BitVec 32).toInt = 8192 from rfl, show (0#32 : BitVec 32).toInt = 0 from rfl]; omega)

/-- The start. -/
theorem lo_clip (I h : ℕ) (hI : I < 8192) (hh : h ≤ 8) :
    IntOp.minsi 8192#32 (IntOp.maxsi 0#32 (IntOp.subi (BitVec.ofNat 32 I) (BitVec.ofNat 32 h))) = BitVec.ofNat 32 (I - h) :=
  word_eq _ _ (by omega) (by
    rw [toInt_min, toInt_max, toInt_lo I h hI hh, show (8192#32 : BitVec 32).toInt = 8192 from rfl, show (0#32 : BitVec 32).toInt = 0 from rfl]; omega)

/-- Their difference counts the window. -/
theorem cnt_word (I h : ℕ) (hI : I < 8192) (hh : h ≤ 8) :
    (((IntOp.subi (BitVec.ofNat 32 (min (I + h) 8192)) (BitVec.ofNat 32 (I - h))).toInt : ℝ) : EReal) = cnt h I := by
  have e : (IntOp.subi (BitVec.ofNat 32 (min (I + h) 8192)) (BitVec.ofNat 32 (I - h))).toInt = (min (I + h) 8192 - (I - h) : ℕ) := by
    show (BitVec.ofNat 32 (min (I + h) 8192) - BitVec.ofNat 32 (I - h)).toInt = _
    rw [toInt_sub_of_bounds _ _ (by rw [toInt_word _ (by omega), toInt_word _ (by omega)]; omega)
      (by rw [toInt_word _ (by omega), toInt_word _ (by omega)]; omega), toInt_word _ (by omega), toInt_word _ (by omega)]
    omega
  rw [e, cnt, Int.cast_natCast]

/-! ## A row -/

/-- A channel's group, and its place in the group. -/
def grp (k : Fin 1024) : Fin 4 := ⟨k.val / 256, by omega⟩
def lane (k : Fin 1024) : Fin 256 := ⟨k.val % 256, by omega⟩

/-- A group's channel. -/
def chan (g : Fin 4) (c : Fin 256) : Fin 1024 := ⟨256 * g.val + c.val, by omega⟩

/-- The row's channels, from the normalised and modulated row. -/
def chans (x shift scale gain : Fin 1024 → EReal) (Wu : Fin 1024 → Fin 1024 → EReal) (k : Fin 1024) : EReal :=
  ∑ j, modulated x shift scale gain j * Wu j k

section Row

variable (x shift scale gate gain : Fin 1024 → EReal) (P : Fin 4 → Fin 256 → EReal) (Wg : Fin 1024 → Fin 2048 → EReal)
  (Wp : Fin 4 → Fin 256 → Fin 256 → EReal) (ps o : Fin 1024 → EReal) (Wo : Fin 1024 → Fin 1024 → EReal) (gainO : Fin 1024 → EReal)

/-- The pooled channels, mixed within their group and scaled. -/
def mixed (k : Fin 1024) : EReal := (∑ c, P (grp k) c * Wp (grp k) c (lane k)) * ps k

/-- The gates: the logistic function of the modulated row through its weights. -/
def gates (k : Fin 2048) : EReal := Ideal.div 1 (1 + Ideal.exp (0 - ∑ j, modulated x shift scale gain j * Wg j k))

/-- The gated sum of the attention's channels and the mixed ones. -/
def merged (k : Fin 1024) : EReal :=
  gates x shift scale gain Wg ⟨k.val, by omega⟩ * o k + gates x shift scale gain Wg ⟨1024 + k.val, by omega⟩ * mixed P Wp ps k

/-- The row and its gated, normalised image. -/
def post (k : Fin 1024) : EReal :=
  x k + gate k * norm (fun k => ∑ j, merged x shift scale gain P Wg Wp ps o j * Wo j k) gainO k

/-- Equal arguments leave equal rows. -/
theorem post_congr {x' shift' scale' gate' gain' : Fin 1024 → EReal} {P' : Fin 4 → Fin 256 → EReal} {Wg' : Fin 1024 → Fin 2048 → EReal}
    {Wp' : Fin 4 → Fin 256 → Fin 256 → EReal} {ps' o' : Fin 1024 → EReal} {Wo' : Fin 1024 → Fin 1024 → EReal} {gainO' : Fin 1024 → EReal}
    {k k' : Fin 1024} (hx : x = x') (hs : shift = shift') (hc : scale = scale') (hg : gate = gate') (hn : gain = gain') (hP : P = P') (hG : Wg = Wg')
    (hW : Wp = Wp') (hp : ps = ps') (ho : o = o') (hO : Wo = Wo') (hN : gainO = gainO') (hk : k = k') :
    post x shift scale gate gain P Wg Wp ps o Wo gainO k = post x' shift' scale' gate' gain' P' Wg' Wp' ps' o' Wo' gainO' k' := by
  subst hx hs hc hg hn hP hG hW hp ho hO hN hk
  rfl

end Row

/-! ## Real rows -/

theorem real_sum {n : ℕ} {f : Fin n → EReal} (h : ∀ j, ∃ r : ℝ, f j = (r : EReal)) : ∃ r : ℝ, ∑ j, f j = (r : EReal) := by
  choose g hg using h
  exact ⟨∑ j, g j, by rw [Attn.coe_sum]; exact Finset.sum_congr rfl fun j _ => hg j⟩

theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

theorem real_add {a b : EReal} (ha : ∃ r : ℝ, a = (r : EReal)) (hb : ∃ r : ℝ, b = (r : EReal)) : ∃ r : ℝ, a + b = (r : EReal) := by
  obtain ⟨r, rfl⟩ := ha
  obtain ⟨s, rfl⟩ := hb
  exact ⟨r + s, (EReal.coe_add r s).symm⟩

theorem word_1024 : Ideal.ofBits .f32 0x44800000#32 = ((1024 : ℝ) : EReal) := by
  simp [Ideal.ofBits, Ideal.ieee, -EReal.coe_mul]
  norm_num

theorem word_eps : ∃ e : ℝ, 0 < e ∧ Ideal.ofBits .f32 0x358637BD#32 = (e : EReal) := by
  simp [Ideal.ofBits, Ideal.ieee, -EReal.coe_mul]

/-- The norm of a row by a real gain is real: its mean square is not negative, and the root is taken of more than that; where the row holds an
    infinity, the root is infinite and the row is divided away to nothing. -/
theorem real_norm (f : Fin 1024 → EReal) {g : Fin 1024 → EReal} (hg : ∀ j, ∃ r : ℝ, g j = (r : EReal)) (k : Fin 1024) :
    ∃ r : ℝ, norm f g k = (r : EReal) := by
  obtain ⟨e, he, hw⟩ := word_eps
  by_cases hf : ∀ j, ∃ r : ℝ, f j = (r : EReal)
  · have hr : ∃ r : ℝ, Ideal.rsqrt (Ideal.div (∑ j, f j * f j) (Ideal.ofBits .f32 0x44800000#32) + Ideal.ofBits .f32 0x358637BD#32) = (r : EReal) := by
      choose a ha using hf
      have hs : ∑ j, f j * f j = ((∑ j, a j * a j : ℝ) : EReal) := by
        rw [Attn.coe_sum]
        exact Finset.sum_congr rfl fun j _ => by rw [ha j, EReal.coe_mul]
      have hp : 0 < (∑ j, a j * a j) * (1 / 1024) + e :=
        add_pos_of_nonneg_of_pos (mul_nonneg (Finset.sum_nonneg fun j _ => mul_self_nonneg _) (by norm_num)) he
      rw [hs, word_1024, Ideal.div_coe (by norm_num), hw, ← EReal.coe_mul, ← EReal.coe_add, Ideal.rsqrt_coe, if_neg hp.not_gt, if_neg hp.ne']
      exact ⟨_, rfl⟩
    exact real_mul (real_mul (hf k) hr) (hg k)
  · obtain ⟨j, hj⟩ := not_forall.mp hf
    have hj2 : f j * f j = ⊤ := by
      generalize f j = x at hj
      induction x with
      | bot => exact EReal.bot_mul_bot
      | coe r => exact absurd ⟨r, rfl⟩ hj
      | top => exact EReal.top_mul_top
    have h0 : ∀ x : EReal, 0 ≤ x * x := fun x => by
      induction x with
      | bot => rw [EReal.bot_mul_bot]; exact le_top
      | coe r => rw [← EReal.coe_mul]; exact EReal.coe_nonneg.mpr (mul_self_nonneg r)
      | top => rw [EReal.top_mul_top]; exact le_top
    have hs : ∑ i, f i * f i = (⊤ : EReal) :=
      top_le_iff.mp (hj2.ge.trans (Finset.single_le_sum (f := fun i => f i * f i) (fun i _ => h0 (f i)) (Finset.mem_univ j)))
    unfold Ffn.norm
    rw [hs, word_1024, Ideal.div_coe (by norm_num), hw, EReal.top_mul_coe_of_pos (by norm_num), EReal.top_add_coe, Ideal.rsqrt_top, mul_zero, zero_mul]
    exact ⟨0, rfl⟩

/-- A channel along a sequence: real at every row, or the same infinity at every row. -/
def Steady (f : ℕ → EReal) : Prop := (∀ s, ∃ r : ℝ, f s = (r : EReal)) ∨ (∀ s, f s = ⊤) ∨ ∀ s, f s = ⊥

theorem steady_add {f h : ℕ → EReal} (hf : Steady f) (hh : Steady h) : Steady fun s => f s + h s := by
  rcases hf with hf | hf | hf
  · rcases hh with hh | hh | hh
    · exact .inl fun s => real_add (hf s) (hh s)
    · refine .inr (.inl fun s => ?_)
      obtain ⟨r, hr⟩ := hf s
      dsimp only
      rw [hh s, hr, EReal.coe_add_top]
    · exact .inr (.inr fun s => by dsimp only; rw [hh s, EReal.add_bot])
  · rcases hh with hh | hh | hh
    · refine .inr (.inl fun s => ?_)
      obtain ⟨r, hr⟩ := hh s
      dsimp only
      rw [hf s, hr, EReal.top_add_coe]
    · exact .inr (.inl fun s => by dsimp only; rw [hf s, hh s, EReal.top_add_top])
    · exact .inr (.inr fun s => by dsimp only; rw [hh s, EReal.add_bot])
  · exact .inr (.inr fun s => by dsimp only; rw [hf s, EReal.bot_add])

theorem steady_const (v : EReal) : Steady fun _ => v := by
  induction v with
  | bot => exact .inr (.inr fun _ => rfl)
  | coe r => exact .inl fun _ => ⟨r, rfl⟩
  | top => exact .inr (.inl fun _ => rfl)

theorem steady_mul {f : ℕ → EReal} (hf : Steady f) {w : EReal} (hw : ∃ r : ℝ, w = (r : EReal)) : Steady fun s => f s * w := by
  rcases hf with hf | hf | hf
  · exact .inl fun s => real_mul (hf s) hw
  all_goals simp only [hf]; exact steady_const _

theorem steady_sum {n : ℕ} {f : Fin n → ℕ → EReal} (hf : ∀ j, Steady (f j)) : Steady fun s => ∑ j, f j s := by
  have h : ∀ S : Finset (Fin n), Steady fun s => ∑ j ∈ S, f j s := fun S => by
    induction S using Finset.cons_induction with
    | empty => exact .inl fun s => ⟨0, Finset.sum_empty⟩
    | cons j S hj ih => simp only [Finset.sum_cons]; exact steady_add (hf j) ih
  exact h _

/-- A channel is steady whatever the rows and the shift: with a real scale, gain and weights, only the shift can make it infinite, and the shift
    is that of every row. -/
theorem steady_chans (x : ℕ → Fin 1024 → EReal) (shift : Fin 1024 → EReal) {scale gain : Fin 1024 → EReal} {Wu : Fin 1024 → Fin 1024 → EReal}
    (hc : ∀ j, ∃ r : ℝ, scale j = (r : EReal)) (hg : ∀ j, ∃ r : ℝ, gain j = (r : EReal))
    (hW : ∀ j k, ∃ r : ℝ, Wu j k = (r : EReal)) (k : Fin 1024) : Steady fun s => chans (x s) shift scale gain Wu k :=
  steady_sum fun j => steady_mul (steady_add (.inl fun s => real_mul (real_norm (x s) hg j) (real_add ⟨1, rfl⟩ (hc j))) (steady_const (shift j))) (hW j k)

/-! ## Every row -/

section All

variable (x o : Vec Ideal ⟨2, ![49152, 1024]⟩ .f32) (md : Vec Ideal ⟨3, ![6, 9, 1024]⟩ .f32) (np : Vec Ideal ⟨2, ![1, 1024]⟩ .f32)
  (W : Vec Ideal ⟨2, ![1024, 3520]⟩ .f32) (Wp : Vec Ideal ⟨3, ![4, 256, 256]⟩ .f32) (ps : Vec Ideal ⟨2, ![1, 1024]⟩ .f32)
  (Wo : Vec Ideal ⟨2, ![1024, 1024]⟩ .f32) (no : Vec Ideal ⟨2, ![1, 1024]⟩ .f32)

/-- Channel `k` of row `s` of sequence `b`: the channels are columns 448 to 1471 of the first weights. -/
def chanOf (b : Fin 6) (k : Fin 1024) (s : ℕ) : EReal :=
  chans (fun k => x (ix2 (Fin.ofNat 49152 (b.val * 8192 + s)) k)) (fun k => md (ix3 b 3 k)) (fun k => md (ix3 b 4 k)) (fun k => np (ix2 0 k))
    (fun j k => W (ix2 j ⟨448 + k.val, by omega⟩)) k

/-- The result at row `s` of sequence `b`, whose modulation has the shift, the scale and the gate as its rows 3, 4 and 5; the gates are columns
    1472 on of the first weights. -/
def postAt (b : Fin 6) (s : Fin 8192) (k : Fin 1024) : EReal :=
  post (fun k => x (ix2 ⟨b.val * 8192 + s.val, by omega⟩ k)) (fun k => md (ix3 b 3 k)) (fun k => md (ix3 b 4 k)) (fun k => md (ix3 b 5 k))
    (fun k => np (ix2 0 k)) (fun g c => pool g (chanOf x md np W b (chan g c)) s.val) (fun j k => W (ix2 j ⟨1472 + k.val, by omega⟩))
    (fun g c d => Wp (ix3 g c d)) (fun k => ps (ix2 0 k)) (fun k => o (ix2 ⟨b.val * 8192 + s.val, by omega⟩ k)) (fun j k => Wo (ix2 j k))
    (fun k => no (ix2 0 k)) k

/-- The result: row `r` is row `r mod 8192` of sequence `r / 8192`. -/
def postO : Vec Ideal ⟨2, ![49152, 1024]⟩ .f32 := fun j =>
  postAt x o md np W Wp ps Wo no ⟨(j 0).val / 8192, by have := (j 0).isLt; simp only [Matrix.cons_val_zero] at this; omega⟩
    ⟨(j 0).val % 8192, by omega⟩ (j 1)

end All

end Cert.Proof.Post

end
-- ==== Proof.PostTile.lean ====
/- THE TILES OF THE CALL `mixer_post`. The four tiles of 256 rows that a grid point leaves are one function of the point's blocks. -/
module

public import proofs.«01_k».proof.Proof.PostRow
public import proofs.«01_k».proof.Proof.Gen.PostKernelIdeal.Value
public import Idealize.ShloMosaic.Lib.Pipeline.ValueKit

@[expose] public section

set_option maxRecDepth 16384

noncomputable section

namespace Cert.Proof.Post

open Cert.PostKernelIdeal Cert.PostKernelIdeal.Gen
open Idealize.ShloMosaic Idealize.ShloMosaic.TcCoe

section Tile

variable {F : FTy → Type} [FloatOps F]

/-! ## The channels of a point's rows, its eight rows before and its eight rows after -/

/-- Eight rows, normalised and modulated. -/
def edge (sh sc : Vec F S1x1x1024 .f32) (g : Vec F S1x1024 .f32) (v : Vec F S8x1024 .f32) : FVec F S8x1024 .f32 :=
  addf (mulf (mulf (mulf v (broadcastTo S8x1024 (rsqrt (addf (divf (shapeCast S8x1 (multiReduction .add [1] S8 (mulf v v) 0x00000000#32
    reduces_S8x1024_S8 (.inl rfl) rfl) shapeCasts_S8_S8x1) (broadcast S8x1 (Scalar.ofBits .f32 0x44800000#32 : F .f32)))
    (broadcast S8x1 (Scalar.ofBits .f32 0x358637BD#32 : F .f32)))) broadcasts_S8x1_S8x1024)) (broadcastTo S8x1024 g broadcasts_S1x1024_S8x1024))
    (broadcastTo S8x1024 (addf (broadcast S1x1024 (Scalar.ofBits .f32 0x3F800000#32 : F .f32)) (k0_pay3 sc)) broadcasts_S1x1024_S8x1024))
    (broadcastTo S8x1024 (k0_pay2 sh) broadcasts_S1x1024_S8x1024)

/-- The channels of all of them. -/
def ext (sh sc : Vec F S1x1x1024 .f32) (g : Vec F S1x1024 .f32) (x : Vec F S1024x1024 .f32) (p n : Vec F S8x1024 .f32) (Wu : Vec F S1024x1024 .bf16) :
    FVec F S1040x1024 .f32 :=
  matmul dot_S1040x1024_S1024x1024_S1040x1024_1_0_0_1_n_n none
    (truncf .bf16 (concatenate S1040x1024 0 [⟨S8x1024, edge sh sc g p⟩, ⟨S1024x1024, k0_pay5 sh sc g x⟩, ⟨S8x1024, edge sh sc g n⟩]
      concatenates_S8x1024_S1024x1024_S8x1024_S1040x1024_d0) bitsLt_bf16_f32)
    (shapeCast S1024x1024 Wu shapeCasts_S1024x1024_S1024x1024) (constant S1040x1024 .f32 0x00000000#32)

theorem ext_eq (sh sc : Vec F S1x1x1024 .f32) (g : Vec F S1x1024 .f32) (x : Vec F S1024x1024 .f32) (p n : Vec F S8x1024 .f32)
    (Wu : Vec F S1024x1024 .bf16) :
    k0_pay7 (k0_pay2 sh) (k0_pay3 sc) g (k0_pay5 sh sc g x) p n Wu = ext sh sc g x p n Wu := rfl

/-- The same, with zeros for the rows that lie outside the sequence. -/
def cut (j : BitVec 32) (E : FVec F S1040x1024 .f32) : FVec F S1040x1024 .f32 := k0_pay8 j E (iota .tc S1040x1 32 [0] iota_S1040x1_d0_w32)

/-! ## A tile's pooled channels -/

/-- The positions of a tile's rows in their sequence. -/
def posn (j r : BitVec 32) : IVec S256x1 32 :=
  addi (broadcast S256x1 (Scalar.addi (Scalar.muli j 1024#32) r)) (iota .tc S256x1 32 [0] iota_S256x1_d0_w32)

/-- The number of rows in the window of each. -/
def count (h : BitVec 32) (t : IVec S256x1 32) : FVec F S256x1 .f32 :=
  sitofp .f32 (subi (minsi (addi t (broadcast S256x1 h)) (broadcast S256x1 8192#32)) (maxsi (subi t (broadcast S256x1 h)) (broadcast S256x1 0#32)))

/-- Each row and the one before it. -/
def pair (e : FVec F S272x256 .f32) : FVec F S272x256 .f32 := addf e (dynamicRotate 0 1#32 none e rotates_S272x256_d0)

/-- A window twice as wide. -/
def grow (a b : BitVec 32) (w : FVec F S272x256 .f32) : FVec F S272x256 .f32 :=
  addf (dynamicRotate 0 a none w rotates_S272x256_d0) (dynamicRotate 0 b none w rotates_S272x256_d0)

/-- The window's mean less the row, through the group's weights. -/
def mix (h : BitVec 32) (t : IVec S256x1 32) (e w : FVec F S272x256 .f32) (Wp : Vec F S1x256x256 .bf16) : FVec F S256x256 .f32 :=
  matmul dot_S256x256_S256x256_S256x256_1_0_0_1_n_n none
    (truncf .bf16 (subf (divf (extractStridedSlice S256x256 ![8, 0] w slices_S272x256_o8_0_S256x256)
      (broadcastTo S256x256 (count h t) broadcasts_S256x1_S256x256))
      (extractStridedSlice S256x256 ![8, 0] e slices_S272x256_o8_0_S256x256)) bitsLt_bf16_f32)
    (shapeCast S256x256 Wp shapeCasts_S1x256x256_S256x256) (constant S256x256 .f32 0x00000000#32)

def grp0 (s : FVec F S272x1024 .f32) : FVec F S272x256 .f32 := extractStridedSlice S272x256 ![0, 0] s slices_S272x1024_o0_0_S272x256
def grp1 (s : FVec F S272x1024 .f32) : FVec F S272x256 .f32 := extractStridedSlice S272x256 ![0, 256] s slices_S272x1024_o0_256_S272x256
def grp2 (s : FVec F S272x1024 .f32) : FVec F S272x256 .f32 := extractStridedSlice S272x256 ![0, 512] s slices_S272x1024_o0_512_S272x256
def grp3 (s : FVec F S272x1024 .f32) : FVec F S272x256 .f32 := extractStridedSlice S272x256 ![0, 768] s slices_S272x1024_o0_768_S272x256

/-- The four groups, mixed and scaled. -/
def mixedT (t : IVec S256x1 32) (s : FVec F S272x1024 .f32) (W0 W1 W2 W3 : Vec F S1x256x256 .bf16) (ps : Vec F S1x1024 .f32) : FVec F S256x1024 .f32 :=
  mulf (concatenate S256x1024 1
    [⟨S256x256, mix 1#32 t (grp0 s) (pair (grp0 s)) W0⟩,
     ⟨S256x256, mix 2#32 t (grp1 s) (grow 1#32 271#32 (pair (grp1 s))) W1⟩,
     ⟨S256x256, mix 4#32 t (grp2 s) (grow 2#32 270#32 (grow 1#32 271#32 (pair (grp2 s)))) W2⟩,
     ⟨S256x256, mix 8#32 t (grp3 s) (grow 4#32 268#32 (grow 2#32 270#32 (grow 1#32 271#32 (pair (grp3 s))))) W3⟩]
    concatenates_S256x256_S256x256_S256x256_S256x256_S256x1024_d1) (broadcastTo S256x1024 ps broadcasts_S1x1024_S256x1024)

/-! ## A tile of the result -/

/-- The gates of a tile's rows. -/
def gatesT (h : FVec F S256x1024 .bf16) (Wg : Vec F S1024x2048 .bf16) : FVec F S256x2048 .f32 :=
  divf (broadcast S256x2048 (Scalar.ofBits .f32 0x3F800000#32 : F .f32)) (addf (broadcast S256x2048 (Scalar.ofBits .f32 0x3F800000#32 : F .f32))
    (exp (subf (broadcast S256x2048 (Scalar.ofBits .f32 0x00000000#32 : F .f32))
      (matmul dot_S256x1024_S1024x2048_S256x2048_1_0_0_1_n_n none h (shapeCast S1024x2048 Wg shapeCasts_S1024x2048_S1024x2048)
        (constant S256x2048 .f32 0x00000000#32)))))

/-- The gated sum, through the output weights. -/
def projT (G : FVec F S256x2048 .f32) (o : Vec F S256x1024 .f32) (M : FVec F S256x1024 .f32) (Wo : Vec F S1024x1024 .bf16) : FVec F S256x1024 .f32 :=
  matmul dot_S256x1024_S1024x1024_S256x1024_1_0_0_1_n_n none
    (truncf .bf16 (addf (mulf (extractStridedSlice S256x1024 ![0, 0] G slices_S256x2048_o0_0_S256x1024) o)
      (mulf (extractStridedSlice S256x1024 ![0, 1024] G slices_S256x2048_o0_1024_S256x1024) M)) bitsLt_bf16_f32)
    (shapeCast S1024x1024 Wo shapeCasts_S1024x1024_S1024x1024) (constant S256x1024 .f32 0x00000000#32)

/-- The rows and their gated, normalised images. -/
def tile (x : FVec F S256x1024 .f32) (gt : Vec F S1x1x1024 .f32) (m : FVec F S256x1024 .f32) (no : Vec F S1x1024 .f32) : FVec F S256x1024 .f32 :=
  addf x (mulf (broadcastTo S256x1024 (k0_pay4 gt) broadcasts_S1x1024_S256x1024) (mulf (mulf m (broadcastTo S256x1024
    (rsqrt (addf (divf (shapeCast S256x1 (multiReduction .add [1] S256 (mulf m m) 0x00000000#32 reduces_S256x1024_S256 (.inl rfl) rfl)
      shapeCasts_S256_S256x1) (broadcast S256x1 (Scalar.ofBits .f32 0x44800000#32 : F .f32)))
      (broadcast S256x1 (Scalar.ofBits .f32 0x358637BD#32 : F .f32)))) broadcasts_S256x1_S256x1024))
    (broadcastTo S256x1024 no broadcasts_S1x1024_S256x1024)))

/-- A point's place in its sequence, as the body computes it. -/
def place (i : ℕ) : BitVec 32 :=
  Scalar.select (Scalar.andi (Scalar.xori (Scalar.cmpi .slt (Scalar.remsi (BitVec.ofNat 32 i) (Scalar.select (Scalar.cmpi .eq 8#32 0#32) 1#32 8#32)) 0#32)
    (Scalar.cmpi .slt (Scalar.select (Scalar.cmpi .eq 8#32 0#32) 1#32 8#32) 0#32))
    (Scalar.cmpi .ne (Scalar.remsi (BitVec.ofNat 32 i) (Scalar.select (Scalar.cmpi .eq 8#32 0#32) 1#32 8#32)) 0#32))
    (Scalar.addi (Scalar.remsi (BitVec.ofNat 32 i) (Scalar.select (Scalar.cmpi .eq 8#32 0#32) 1#32 8#32)) (Scalar.select (Scalar.cmpi .eq 8#32 0#32) 1#32 8#32))
    (Scalar.remsi (BitVec.ofNat 32 i) (Scalar.select (Scalar.cmpi .eq 8#32 0#32) 1#32 8#32))

section Out

variable (j : BitVec 32) (x0 : Vec F S1024x1024 .f32) (x1 x2 : Vec F S8x1024 .f32) (x4 : Vec F S1x9x1024 .f32) (x5 : Vec F S1x1024 .f32)
  (x6 : Vec F S1024x1024 .bf16) (x7 : Vec F S1024x2048 .bf16) (x8 : Vec F S4x256x256 .bf16) (x9 : Vec F S1x1024 .f32) (x10 : Vec F S1024x1024 .bf16)
  (x11 : Vec F S1x1024 .f32)

/-- The point's channels. -/
def chansT : FVec F S1040x1024 .f32 :=
  cut j (ext (View.ld x4 r0_0) (View.ld x4 r0_1) (View.ld x5 r0_3) (View.ld x0 r0_4) (View.ld x1 r0_5) (View.ld x2 r0_5) (View.ld x6 r0_4))

/-- A tile, from the cuts of its rows: `xs` of the block's rows, `hs` of the normalised ones, `us` of the channels, `o` of the attention's. -/
def piece (r : BitVec 32) (xs : FVec F S256x1024 .f32) (hs : FVec F S256x1024 .bf16) (us : FVec F S272x1024 .f32) (o : Vec F S256x1024 .f32) :
    FVec F S256x1024 .f32 :=
  tile xs (View.ld x4 r0_2)
    (projT (gatesT hs (View.ld x7 r0_10)) o
      (mixedT (posn j r) us (View.ld x8 r0_6) (View.ld x8 r0_7) (View.ld x8 r0_8) (View.ld x8 r0_9) (View.ld x9 r0_3)) (View.ld x10 r0_4))
    (View.ld x11 r0_3)

/-- The block's rows. -/
def rowsT : FVec F S1024x1024 .f32 := View.ld x0 r0_4

/-- The block's rows, normalised and modulated. -/
def normT : FVec F S1024x1024 .bf16 := k0_pay6 (k0_pay5 (View.ld x4 r0_0) (View.ld x4 r0_1) (View.ld x5 r0_3) (View.ld x0 r0_4))

end Out

/-- What a grid point leaves: its four tiles. -/
theorem out_eq (i : grid0.Coords) (x0 : Vec F S1024x1024 .f32) (x1 x2 : Vec F S8x1024 .f32) (x3 : Vec F S1024x1024 .f32) (x4 : Vec F S1x9x1024 .f32)
    (x5 : Vec F S1x1024 .f32) (x6 : Vec F S1024x1024 .bf16) (x7 : Vec F S1024x2048 .bf16) (x8 : Vec F S4x256x256 .bf16) (x9 : Vec F S1x1024 .f32)
    (x10 : Vec F S1024x1024 .bf16) (x11 : Vec F S1x1024 .f32) :
    out0_12 i x0 x1 x2 x3 x4 x5 x6 x7 x8 x9 x10 x11 = View.canon [
      ⟨r0_14, piece (place (i 0).val) x4 x7 x8 x9 x10 x11 768#32
        (extractStridedSlice S256x1024 ![768, 0] (rowsT x0) slices_S1024x1024_o768_0_S256x1024)
        (extractStridedSlice S256x1024 ![768, 0] (normT x0 x4 x5) slices_S1024x1024_o768_0_S256x1024)
        (extractStridedSlice S272x1024 ![768, 0] (chansT (place (i 0).val) x0 x1 x2 x4 x5 x6) slices_S1040x1024_o768_0_S272x1024) (View.ld x3 r0_14)⟩,
      ⟨r0_13, piece (place (i 0).val) x4 x7 x8 x9 x10 x11 512#32
        (extractStridedSlice S256x1024 ![512, 0] (rowsT x0) slices_S1024x1024_o512_0_S256x1024)
        (extractStridedSlice S256x1024 ![512, 0] (normT x0 x4 x5) slices_S1024x1024_o512_0_S256x1024)
        (extractStridedSlice S272x1024 ![512, 0] (chansT (place (i 0).val) x0 x1 x2 x4 x5 x6) slices_S1040x1024_o512_0_S272x1024) (View.ld x3 r0_13)⟩,
      ⟨r0_12, piece (place (i 0).val) x4 x7 x8 x9 x10 x11 256#32
        (extractStridedSlice S256x1024 ![256, 0] (rowsT x0) slices_S1024x1024_o256_0_S256x1024)
        (extractStridedSlice S256x1024 ![256, 0] (normT x0 x4 x5) slices_S1024x1024_o256_0_S256x1024)
        (extractStridedSlice S272x1024 ![256, 0] (chansT (place (i 0).val) x0 x1 x2 x4 x5 x6) slices_S1040x1024_o256_0_S272x1024) (View.ld x3 r0_12)⟩,
      ⟨r0_11, piece (place (i 0).val) x4 x7 x8 x9 x10 x11 0#32
        (extractStridedSlice S256x1024 ![0, 0] (rowsT x0) slices_S1024x1024_o0_0_S256x1024)
        (extractStridedSlice S256x1024 ![0, 0] (normT x0 x4 x5) slices_S1024x1024_o0_0_S256x1024)
        (extractStridedSlice S272x1024 ![0, 0] (chansT (place (i 0).val) x0 x1 x2 x4 x5 x6) slices_S1040x1024_o0_0_S272x1024) (View.ld x3 r0_11)⟩] := rfl

end Tile

end Cert.Proof.Post

end
-- ==== Proof.Post.lean ====
/- THE CALL `mixer_post`. A grid point leaves its rows of the result in its block, and the result array has every row. -/
module

public import proofs.«01_k».proof.Proof.PostTile
public import Idealize.ShloMosaic.Lib.StableHlo.RunRead

@[expose] public section

set_option maxRecDepth 16384

noncomputable section

namespace Cert.Proof.Post

open Cert.PostKernelIdeal Cert.PostKernelIdeal.Gen
open Cert.Proof.Ffn (norm modulated)
open Idealize.ShloMosaic Idealize.ShloMosaic.TcCoe

section Channels

variable (sh sc : Vec Ideal S1x1x1024 .f32) (g : Vec Ideal S1x1024 .f32) (x : Vec Ideal S1024x1024 .f32) (p n : Vec Ideal S8x1024 .f32)
  (Wu : Vec Ideal S1024x1024 .bf16)

theorem rows_apply (i : Fin 1024) (k : Fin 1024) : k0_pay5 sh sc g x (ix2 i k)
    = modulated (fun k => x (ix2 i k)) (fun k => sh (ix3 0 0 k)) (fun k => sc (ix3 0 0 k)) (fun k => g (ix2 0 k)) k := by
  pointwise [k0_pay5, k0_pay2, k0_pay3]
  rfl

theorem edge_apply (v : Vec Ideal S8x1024 .f32) (i : Fin 8) (k : Fin 1024) : edge sh sc g v (ix2 i k)
    = modulated (fun k => v (ix2 i k)) (fun k => sh (ix3 0 0 k)) (fun k => sc (ix3 0 0 k)) (fun k => g (ix2 0 k)) k := by
  pointwise [edge, k0_pay2, k0_pay3]
  rfl

/-- The block's rows, after the eight before it and before the eight after it. -/
def rowAt (r : Fin 1040) (k : Fin 1024) : EReal :=
  if _ : r.val < 8 then p (ix2 ⟨r.val, by omega⟩ k) else if _ : r.val < 1032 then x (ix2 ⟨r.val - 8, by omega⟩ k) else n (ix2 ⟨r.val - 1032, by omega⟩ k)

theorem ext_apply (r : Fin 1040) (k : Fin 1024) : ext sh sc g x p n Wu (ix2 r k)
    = chans (rowAt x p n r) (fun k => sh (ix3 0 0 k)) (fun k => sc (ix3 0 0 k)) (fun k => g (ix2 0 k)) (fun j k => Wu (ix2 j k)) k := by
  pointwise [ext]
  refine Finset.sum_congr rfl fun j _ => congrArg₂ (HMul.hMul : EReal → EReal → EReal) ?_ rfl
  by_cases h8 : r.val < 8
  · have e : rowAt x p n r = fun k => p (ix2 ⟨r.val, h8⟩ k) := funext fun k => dif_pos h8
    rw [e]
    exact (dif_pos h8).trans (edge_apply sh sc g p _ j)
  · refine (dif_neg h8).trans ?_
    by_cases hx : r.val < 1032
    · have e : rowAt x p n r = fun k => x (ix2 ⟨r.val - 8, by omega⟩ k) := funext fun k => (dif_neg h8).trans (dif_pos hx)
      rw [e]
      exact (dif_pos (by omega)).trans (rows_apply sh sc g x _ j)
    · have e : rowAt x p n r = fun k => n (ix2 ⟨r.val - 8 - 1024, by omega⟩ k) := funext fun k => (dif_neg h8).trans ((dif_neg hx).trans
        (congrArg (fun a => n (ix2 a k)) (Fin.ext (by show r.val - 1032 = r.val - 8 - 1024; omega))))
      rw [e]
      exact (dif_neg (by omega)).trans (edge_apply sh sc g n _ j)

/-- A row outside the sequence: one of the first eight of a sequence's first point, or of the last eight of its last. -/
theorem cut_word : ∀ (J : Fin 8) (r : Fin 1040),
    IntOp.ori (IntOp.andi (Scalar.cmpi CmpIPredicate.eq (BitVec.ofNat 32 J.val) 0#32) (IntOp.cmpi CmpIPredicate.slt (BitVec.ofNat 32 r.val) 8#32))
      (IntOp.andi (Scalar.cmpi CmpIPredicate.eq (BitVec.ofNat 32 J.val) 7#32) (IntOp.cmpi CmpIPredicate.sge (BitVec.ofNat 32 r.val) 1032#32))
    = if (J.val = 0 ∧ r.val < 8) ∨ (J.val = 7 ∧ 1032 ≤ r.val) then 1#1 else 0#1 := by
  decide +kernel

theorem cut_apply (J : Fin 8) (E : FVec Ideal S1040x1024 .f32) (r : Fin 1040) (k : Fin 1024) : cut (BitVec.ofNat 32 J.val) E (ix2 r k)
    = if (J.val = 0 ∧ r.val < 8) ∨ (J.val = 7 ∧ 1032 ≤ r.val) then (0 : EReal) else E (ix2 r k) := by
  pointwise [cut, k0_pay8]
  rw [cut_word]
  split <;> rfl

end Channels

/-! ## Windows -/

section Windows

variable (w : FVec Ideal S272x256 .f32) (E : ℕ → EReal) (c : Fin 256)

theorem pair_apply (he : ∀ r : Fin 272, w (ix2 r c) = E r.val) (r : Fin 272) (h : 1 ≤ r.val) :
    pair w (ix2 r c) = ∑ d ∈ Finset.range (2 * 1), E (r.val - 1 + d) := by
  pointwise [pair]
  refine (congrArg₂ (HAdd.hAdd : EReal → EReal → EReal) (he _) (he _)).trans ?_
  rw [Finset.sum_range_succ, Finset.sum_range_one, add_comm]
  exact congrArg₂ (HAdd.hAdd : EReal → EReal → EReal) (congrArg E (by dsimp only; omega)) (congrArg E (by omega))

theorem grow_1 (he : ∀ r : Fin 272, 1 ≤ r.val → r.val + 1 ≤ 272 → w (ix2 r c) = ∑ d ∈ Finset.range (2 * 1), E (r.val - 1 + d)) (r : Fin 272)
    (h : 2 ≤ r.val) (h' : r.val + 2 ≤ 272) : grow 1#32 271#32 w (ix2 r c) = ∑ d ∈ Finset.range (2 * 2), E (r.val - 2 + d) := by
  have a : (r.val + 272 - 1) % 272 = r.val - 1 := by omega
  have b : (r.val + 272 - 271) % 272 = r.val + 1 := by omega
  pointwise [grow]
  refine (congrArg₂ (HAdd.hAdd : EReal → EReal → EReal) (he _ (by dsimp only; omega) (by dsimp only; omega))
    (he _ (by dsimp only; omega) (by dsimp only; omega))).trans ?_
  dsimp only
  rw [a, b]
  exact sum_double E 1 r.val h

theorem grow_2 (he : ∀ r : Fin 272, 2 ≤ r.val → r.val + 2 ≤ 272 → w (ix2 r c) = ∑ d ∈ Finset.range (2 * 2), E (r.val - 2 + d)) (r : Fin 272)
    (h : 4 ≤ r.val) (h' : r.val + 4 ≤ 272) : grow 2#32 270#32 w (ix2 r c) = ∑ d ∈ Finset.range (2 * 4), E (r.val - 4 + d) := by
  have a : (r.val + 272 - 2) % 272 = r.val - 2 := by omega
  have b : (r.val + 272 - 270) % 272 = r.val + 2 := by omega
  pointwise [grow]
  refine (congrArg₂ (HAdd.hAdd : EReal → EReal → EReal) (he _ (by dsimp only; omega) (by dsimp only; omega))
    (he _ (by dsimp only; omega) (by dsimp only; omega))).trans ?_
  dsimp only
  rw [a, b]
  exact sum_double E 2 r.val h

theorem grow_4 (he : ∀ r : Fin 272, 4 ≤ r.val → r.val + 4 ≤ 272 → w (ix2 r c) = ∑ d ∈ Finset.range (2 * 4), E (r.val - 4 + d)) (r : Fin 272)
    (h : 8 ≤ r.val) (h' : r.val + 8 ≤ 272) : grow 4#32 268#32 w (ix2 r c) = ∑ d ∈ Finset.range (2 * 8), E (r.val - 8 + d) := by
  have a : (r.val + 272 - 4) % 272 = r.val - 4 := by omega
  have b : (r.val + 272 - 268) % 272 = r.val + 4 := by omega
  pointwise [grow]
  refine (congrArg₂ (HAdd.hAdd : EReal → EReal → EReal) (he _ (by dsimp only; omega) (by dsimp only; omega))
    (he _ (by dsimp only; omega) (by dsimp only; omega))).trans ?_
  dsimp only
  rw [a, b]
  exact sum_double E 4 r.val h

end Windows

/-! ## A tile -/

section Mixed

variable (i : Fin 256) (B I : ℕ) (hI : I < 8192) (hB : I = B + i.val)

include hI hB

/-- A group's pooled channels through its weights. -/
theorem mix_apply (hw : ℕ) (hh : hw ≤ 8) (h : BitVec 32) (eh : h = BitVec.ofNat 32 hw) (t : IVec S256x1 32) (et : t (ix2 i 0) = BitVec.ofNat 32 I)
    (u : Fin 256 → ℕ → EReal) (e w : FVec Ideal S272x256 .f32) (he : ∀ (r : Fin 272) c, e (ix2 r c) = padded (u c) (B + r.val))
    (ew : ∀ (r : Fin 272) c, hw ≤ r.val → r.val + hw ≤ 272 → w (ix2 r c) = ∑ d ∈ Finset.range (2 * hw), padded (u c) (B + (r.val - hw + d)))
    (W : Vec Ideal S1x256x256 .bf16) (k : Fin 256) :
    mix h t e w W (ix2 i k) = ∑ c, (Ideal.div (win hw (u c) I) (cnt hw I) - u c I) * (W (ix3 0 c k) : EReal) := by
  subst eh
  pointwise [mix, count]
  rw [et, hi_word I hw hI hh, lo_word I hw hI hh]
  refine Finset.sum_congr rfl fun c _ => congrArg₂ (HMul.hMul : EReal → EReal → EReal) ?_ rfl
  rw [he, ew _ _ (by dsimp only; omega) (by dsimp only; omega)]
  refine congrArg₂ (HSub.hSub : EReal → EReal → EReal) (congrArg₂ Ideal.div ?_ (cnt_word I hw hI hh)) ?_
  · rw [← sum_padded (u c) hw I hh]
    exact Finset.sum_congr rfl fun d _ => congrArg (padded (u c)) (by dsimp only; omega)
  · refine (if_pos (by dsimp only; omega)).trans (congrArg (u c) (by dsimp only; omega))

theorem mixed_apply (t : IVec S256x1 32) (et : t (ix2 i 0) = BitVec.ofNat 32 I) (u : Fin 1024 → ℕ → EReal) (s : FVec Ideal S272x1024 .f32)
    (hs : ∀ (r : Fin 272) k, s (ix2 r k) = padded (u k) (B + r.val)) (W0 W1 W2 W3 : Vec Ideal S1x256x256 .bf16)
    (Wp : Fin 4 → Fin 256 → Fin 256 → EReal) (h0 : ∀ c d, W0 (ix3 0 c d) = Wp 0 c d) (h1 : ∀ c d, W1 (ix3 0 c d) = Wp 1 c d)
    (h2 : ∀ c d, W2 (ix3 0 c d) = Wp 2 c d) (h3 : ∀ c d, W3 (ix3 0 c d) = Wp 3 c d) (ps : Vec Ideal S1x1024 .f32) (k : Fin 1024) :
    mixedT t s W0 W1 W2 W3 ps (ix2 i k) = mixed (fun g c => pool g (u (chan g c)) I) Wp (fun k => ps (ix2 0 k)) k := by
  have e0 : ∀ (r : Fin 272) c, grp0 s (ix2 r c) = padded (u (chan 0 c)) (B + r.val) := fun r c => by
    pointwise [grp0]
    exact (hs _ _).trans (congrArg (fun a => padded (u a) (B + r.val)) (Fin.ext (by simp [chan])))
  have e1 : ∀ (r : Fin 272) c, grp1 s (ix2 r c) = padded (u (chan 1 c)) (B + r.val) := fun r c => by
    pointwise [grp1]
    exact (hs _ _).trans (congrArg (fun a => padded (u a) (B + r.val)) (Fin.ext (by simp [chan])))
  have e2 : ∀ (r : Fin 272) c, grp2 s (ix2 r c) = padded (u (chan 2 c)) (B + r.val) := fun r c => by
    pointwise [grp2]
    exact (hs _ _).trans (congrArg (fun a => padded (u a) (B + r.val)) (Fin.ext (by simp [chan])))
  have e3 : ∀ (r : Fin 272) c, grp3 s (ix2 r c) = padded (u (chan 3 c)) (B + r.val) := fun r c => by
    pointwise [grp3]
    exact (hs _ _).trans (congrArg (fun a => padded (u a) (B + r.val)) (Fin.ext (by simp [chan])))
  pointwise [mixedT]
  refine congrArg₂ (HMul.hMul : EReal → EReal → EReal) ?_ rfl
  have key : ∀ (g : Fin 4) (d : Fin 256) (W : Vec Ideal S1x256x256 .bf16) (hW : ∀ c d, W (ix3 0 c d) = Wp g c d) (hg : chan g d = k),
      ∑ c, (Ideal.div (win (half g) (u (chan g c)) I) (cnt (half g) I) - u (chan g c) I) * (W (ix3 0 c d) : EReal)
        = ∑ c, pool (grp k) (u (chan (grp k) c)) I * Wp (grp k) c (lane k) := fun g d W hW hg => by
    subst hg
    have hgr : grp (chan g d) = g := Fin.ext (by show (256 * g.val + d.val) / 256 = g.val; omega)
    have hla : lane (chan g d) = d := Fin.ext (by show (256 * g.val + d.val) % 256 = d.val; omega)
    rw [hgr, hla]
    exact Finset.sum_congr rfl fun c _ => congrArg₂ (HMul.hMul : EReal → EReal → EReal) rfl (hW c d)
  split
  · refine (mix_apply i B I hI hB 1 (by omega) _ rfl t et (fun c => u (chan 0 c)) _ _ e0
      (fun r c h _ => pair_apply _ (fun r => padded (u (chan 0 c)) (B + r)) c (fun r => e0 r c) r h) W0 _).trans (key 0 _ W0 h0 (Fin.ext ?_))
    simp [chan]
  split
  · refine (mix_apply i B I hI hB 2 (by omega) _ rfl t et (fun c => u (chan 1 c)) _ _ e1
      (fun r c h h' => grow_1 _ (fun r => padded (u (chan 1 c)) (B + r)) c
        (fun r h _ => pair_apply _ (fun r => padded (u (chan 1 c)) (B + r)) c (fun r => e1 r c) r h) r h h') W1 _).trans (key 1 _ W1 h1 (Fin.ext ?_))
    simp [chan]
    omega
  split
  · refine (mix_apply i B I hI hB 4 (by omega) _ rfl t et (fun c => u (chan 2 c)) _ _ e2
      (fun r c h h' => grow_2 _ (fun r => padded (u (chan 2 c)) (B + r)) c
        (fun r h h' => grow_1 _ (fun r => padded (u (chan 2 c)) (B + r)) c
          (fun r h _ => pair_apply _ (fun r => padded (u (chan 2 c)) (B + r)) c (fun r => e2 r c) r h) r h h') r h h') W2 _).trans
      (key 2 _ W2 h2 (Fin.ext ?_))
    simp [chan]
    omega
  · refine (mix_apply i B I hI hB 8 (by omega) _ rfl t et (fun c => u (chan 3 c)) _ _ e3
      (fun r c h h' => grow_4 _ (fun r => padded (u (chan 3 c)) (B + r)) c
        (fun r h h' => grow_2 _ (fun r => padded (u (chan 3 c)) (B + r)) c
          (fun r h h' => grow_1 _ (fun r => padded (u (chan 3 c)) (B + r)) c
            (fun r h _ => pair_apply _ (fun r => padded (u (chan 3 c)) (B + r)) c (fun r => e3 r c) r h) r h h') r h h') r h h') W3 _).trans
      (key 3 _ W3 h3 (Fin.ext ?_))
    simp [chan]
    omega

end Mixed

section Tile

variable (i : Fin 256)

theorem gates_apply (hs : FVec Ideal S256x1024 .bf16) (Wg : Vec Ideal S1024x2048 .bf16) (x shift scale gain : Fin 1024 → EReal)
    (h : ∀ j, hs (ix2 i j) = modulated x shift scale gain j) (k : Fin 2048) :
    gatesT hs Wg (ix2 i k) = gates x shift scale gain (fun j k => Wg (ix2 j k)) k := by
  pointwise [gatesT]
  simp only [h]
  rfl

theorem proj_apply (G : FVec Ideal S256x2048 .f32) (o : Vec Ideal S256x1024 .f32) (M : FVec Ideal S256x1024 .f32) (Wo : Vec Ideal S1024x1024 .bf16)
    (k : Fin 1024) : projT G o M Wo (ix2 i k) = ∑ j : Fin 1024, ((G (ix2 i ⟨j.val, by omega⟩) : EReal) * o (ix2 i j)
      + (G (ix2 i ⟨1024 + j.val, by omega⟩) : EReal) * M (ix2 i j)) * (Wo (ix2 j k) : EReal) := by
  pointwise [projT]

theorem tile_apply (x : FVec Ideal S256x1024 .f32) (gt : Vec Ideal S1x1x1024 .f32) (m : FVec Ideal S256x1024 .f32) (no : Vec Ideal S1x1024 .f32)
    (k : Fin 1024) : tile x gt m no (ix2 i k)
      = (x (ix2 i k) : EReal) + gt (ix3 0 0 k) * norm (fun k => m (ix2 i k)) (fun k => no (ix2 0 k)) k := by
  pointwise [tile, k0_pay4]
  rfl

theorem posn_word : ∀ (J : Fin 8) (q : Fin 4) (i : Fin 256),
    IntOp.addi (Scalar.addi (Scalar.muli (BitVec.ofNat 32 J.val) 1024#32) (BitVec.ofNat 32 (256 * q.val))) (BitVec.ofNat 32 i.val)
      = BitVec.ofNat 32 (J.val * 1024 + 256 * q.val + i.val) := by
  decide +kernel

section Piece

variable (J : Fin 8) (q : Fin 4) (x4 : Vec Ideal S1x9x1024 .f32) (x7 : Vec Ideal S1024x2048 .bf16) (x8 : Vec Ideal S4x256x256 .bf16)
  (x9 : Vec Ideal S1x1024 .f32) (x10 : Vec Ideal S1024x1024 .bf16) (x11 : Vec Ideal S1x1024 .f32)

/-- A tile of a point: tile `q` of point `J` of its sequence. -/
theorem piece_apply (w : BitVec 32) (ew : w = BitVec.ofNat 32 (256 * q.val)) (xs : FVec Ideal S256x1024 .f32) (hs : FVec Ideal S256x1024 .bf16) (us : FVec Ideal S272x1024 .f32) (o : Vec Ideal S256x1024 .f32)
    (shift scale gain xr : Fin 1024 → EReal) (hx : ∀ j, xs (ix2 i j) = xr j) (hh : ∀ j, hs (ix2 i j) = modulated xr shift scale gain j)
    (u : Fin 1024 → ℕ → EReal) (hu : ∀ (r : Fin 272) k, us (ix2 r k) = padded (u k) (J.val * 1024 + 256 * q.val + r.val)) (k : Fin 1024) :
    piece (BitVec.ofNat 32 J.val) x4 x7 x8 x9 x10 x11 w xs hs us o (ix2 i k)
      = post xr shift scale (fun k => x4 (ix3 0 5 k)) gain (fun g c => pool g (u (chan g c)) (J.val * 1024 + (256 * q.val + i.val)))
        (fun j k => x7 (ix2 j k)) (fun g c d => x8 (ix3 g c d)) (fun k => x9 (ix2 0 k)) (fun k => o (ix2 i k)) (fun j k => x10 (ix2 j k))
        (fun k => x11 (ix2 0 k)) k := by
  subst ew
  have hm := mixed_apply i (J.val * 1024 + 256 * q.val) (J.val * 1024 + (256 * q.val + i.val)) (by omega) (by omega)
    (posn (BitVec.ofNat 32 J.val) (BitVec.ofNat 32 (256 * q.val)))
    (by pointwise [posn]; rw [posn_word J q i]; exact congrArg (BitVec.ofNat 32) (by omega)) u us hu (View.ld x8 r0_6) (View.ld x8 r0_7)
    (View.ld x8 r0_8) (View.ld x8 r0_9) (fun g c d => x8 (ix3 g c d)) (fun c d => by pointwise; blk_ext) (fun c d => by pointwise; blk_ext)
    (fun c d => by pointwise; blk_ext) (fun c d => by pointwise; blk_ext) (View.ld x9 r0_3)
  refine (tile_apply i _ _ _ _ k).trans ?_
  unfold post
  refine congrArg₂ (HAdd.hAdd : EReal → EReal → EReal) (hx k) (congrArg₂ (HMul.hMul : EReal → EReal → EReal) (by pointwise; blk_ext) ?_)
  congr 1
  · funext k
    refine (proj_apply i _ _ _ _ _).trans (Finset.sum_congr rfl fun j _ => congrArg₂ (HMul.hMul : EReal → EReal → EReal) ?_ (by pointwise; blk_ext))
    rw [gates_apply i _ _ xr shift scale gain hh, gates_apply i _ _ xr shift scale gain hh, hm j]
    have eW : (fun j k => View.ld x7 r0_10 (ix2 j k) : Fin 1024 → Fin 2048 → EReal) = fun j k => x7 (ix2 j k) := by funext j k; pointwise; blk_ext
    have ep : (fun k => View.ld x9 r0_3 (ix2 0 k) : Fin 1024 → EReal) = fun k => x9 (ix2 0 k) := by funext k; pointwise; blk_ext
    unfold merged
    rw [← eW, ← ep]
  · funext k
    pointwise
    blk_ext

end Piece

end Tile

/-- What a grid point leaves in its block of the result. -/
theorem out_apply (i : grid0.Coords) (x0 : Vec Ideal S1024x1024 .f32) (x1 x2 : Vec Ideal S8x1024 .f32) (x3 : Vec Ideal S1024x1024 .f32)
    (x4 : Vec Ideal S1x9x1024 .f32) (x5 : Vec Ideal S1x1024 .f32) (x6 : Vec Ideal S1024x1024 .bf16) (x7 : Vec Ideal S1024x2048 .bf16)
    (x8 : Vec Ideal S4x256x256 .bf16) (x9 : Vec Ideal S1x1024 .f32) (x10 : Vec Ideal S1024x1024 .bf16) (x11 : Vec Ideal S1x1024 .f32)
    (J : Fin 8) (hp : place (i 0).val = BitVec.ofNat 32 J.val) (u : Fin 1024 → ℕ → EReal)
    (hu : ∀ (r : Fin 1040) k, chansT (BitVec.ofNat 32 J.val) x0 x1 x2 x4 x5 x6 (ix2 r k) = padded (u k) (J.val * 1024 + r.val)) (y : S1024x1024.Idx) :
    out0_12 i x0 x1 x2 x3 x4 x5 x6 x7 x8 x9 x10 x11 y = post (fun k => x0 (ix2 (y 0) k)) (fun k => x4 (ix3 0 3 k)) (fun k => x4 (ix3 0 4 k))
      (fun k => x4 (ix3 0 5 k)) (fun k => x5 (ix2 0 k)) (fun g c => pool g (u (chan g c)) (J.val * 1024 + (y 0).val)) (fun j k => x7 (ix2 j k))
      (fun g c d => x8 (ix3 g c d)) (fun k => x9 (ix2 0 k)) (fun k => x3 (ix2 (y 0) k)) (fun j k => x10 (ix2 j k)) (fun k => x11 (ix2 0 k)) (y 1) := by
  rw [out_eq, hp]
  canon_tiles x h
  all_goals
    have hx : x = ix2 (x 0 : Fin 256) (x 1 : Fin 1024) := funext fun a => match a with
      | ⟨0, _⟩ => rfl
      | ⟨1, _⟩ => rfl
  case' piece0 => refine (congrArg _ hx).trans ((piece_apply (x 0 : Fin 256) J 3 x4 x7 x8 x9 x10 x11 _ rfl _ _ _ _ (fun k => x4 (ix3 0 3 k))
    (fun k => x4 (ix3 0 4 k)) (fun k => x5 (ix2 0 k)) (fun k => x0 (ix2 (y 0) k)) ?_ ?_ u ?_ (x 1)).trans ?_)
  case' piece1 => refine (congrArg _ hx).trans ((piece_apply (x 0 : Fin 256) J 2 x4 x7 x8 x9 x10 x11 _ rfl _ _ _ _ (fun k => x4 (ix3 0 3 k))
    (fun k => x4 (ix3 0 4 k)) (fun k => x5 (ix2 0 k)) (fun k => x0 (ix2 (y 0) k)) ?_ ?_ u ?_ (x 1)).trans ?_)
  case' piece2 => refine (congrArg _ hx).trans ((piece_apply (x 0 : Fin 256) J 1 x4 x7 x8 x9 x10 x11 _ rfl _ _ _ _ (fun k => x4 (ix3 0 3 k))
    (fun k => x4 (ix3 0 4 k)) (fun k => x5 (ix2 0 k)) (fun k => x0 (ix2 (y 0) k)) ?_ ?_ u ?_ (x 1)).trans ?_)
  case' piece3 => refine (congrArg _ hx).trans ((piece_apply (x 0 : Fin 256) J 0 x4 x7 x8 x9 x10 x11 _ rfl _ _ _ _ (fun k => x4 (ix3 0 3 k))
    (fun k => x4 (ix3 0 4 k)) (fun k => x5 (ix2 0 k)) (fun k => x0 (ix2 (y 0) k)) ?_ ?_ u ?_ (x 1)).trans ?_)
  all_goals first
    | (intro j; pointwise [rowsT]; blk_ext; done)
    | (intro j
       pointwise [normT, k0_pay6]
       refine (rows_apply _ _ _ _ _ j).trans ?_
       congr 1
       all_goals (funext l; pointwise; blk_ext; done))
    | (intro r k
       pointwise
       exact (hu _ k).trans (congrArg (padded (u k)) (by first | rfl | (dsimp only; omega))))
    | (refine post_congr _ _ _ _ _ _ _ _ _ _ _ _ rfl rfl rfl rfl rfl ?_ rfl rfl rfl ?_ rfl rfl (Fin.ext h1.symm)
       · funext g c
         exact congrArg (pool g (u (chan g c))) (by simp only [h0, Fin.isValue, Fin.coe_ofNat_eq_mod] <;> omega)
       · funext k; pointwise; blk_ext)

section Array

variable (m : (ℓ : Loc nD τ sig) → Buf (Elt Ideal) ℓ) (c : Dev nD)

/-- Grid point `t` has rows `1024 t` to `1024 t + 1023`, of sequence `t / 8`, with the eight rows before them and the eight after. -/
theorem idx : ∀ t : Fin cfg0.N, win0_0.index t = ![t.val, 0] ∧ win0_1.index t = ![128 * t.val - 1, 0]
    ∧ win0_2.index t = ![min (128 * (t.val + 1)) 6143, 0] ∧ win0_3.index t = ![t.val, 0] ∧ win0_4.index t = ![t.val / 8, 0, 0]
    ∧ win0_5.index t = ![0, 0] ∧ win0_6.index t = ![0, 0] ∧ win0_7.index t = ![0, 0] ∧ win0_8.index t = ![0, 0, 0] ∧ win0_9.index t = ![0, 0]
    ∧ win0_10.index t = ![0, 0] ∧ win0_11.index t = ![0, 0] ∧ win0_12.index t = ![t.val, 0] :=
  (by decide +kernel : ∀ t : Fin grid0.N, _)

theorem place_eq : ∀ t : Fin cfg0.N, place (grid0.coords t 0).val = BitVec.ofNat 32 (t.val % 8) :=
  (by decide +kernel : ∀ t : Fin grid0.N, _)

/-- The nine arguments. -/
abbrev xA : Vec Ideal S49152x1024 .f32 := m ((c : Thread nD τ).loc main_arg0)
abbrev oA : Vec Ideal S49152x1024 .f32 := m ((c : Thread nD τ).loc main_arg1)
abbrev modA : Vec Ideal S6x9x1024 .f32 := m ((c : Thread nD τ).loc main_arg2)
abbrev npA : Vec Ideal S1x1024 .f32 := m ((c : Thread nD τ).loc main_arg3)
abbrev winA : Vec Ideal S1024x3520 .f32 := m ((c : Thread nD τ).loc main_arg4)
abbrev wpA : Vec Ideal S4x256x256 .f32 := m ((c : Thread nD τ).loc main_arg5)
abbrev psA : Vec Ideal S1x1024 .f32 := m ((c : Thread nD τ).loc main_arg6)
abbrev woA : Vec Ideal S1024x1024 .f32 := m ((c : Thread nD τ).loc main_arg7)
abbrev noA : Vec Ideal S1x1024 .f32 := m ((c : Thread nD τ).loc main_arg8)

/-- The weights that the call is given are the arguments or columns of them, rounded, which is the identity here. -/
theorem u_entry (i : Fin 1024) (k : Fin 1024) : V m c main_v1 (ix2 i k) = (winA m c (ix2 i ⟨448 + k.val, by omega⟩) : EReal) := by
  entry_read
  pointwise

theorem gate_entry (i : Fin 1024) (k : Fin 2048) : V m c main_v3 (ix2 i k) = (winA m c (ix2 i ⟨1472 + k.val, by omega⟩) : EReal) := by
  entry_read
  pointwise

theorem pool_entry (g : Fin 4) (i k : Fin 256) : V m c main_v4 (ix3 g i k) = (wpA m c (ix3 g i k) : EReal) := by
  entry_read
  pointwise

theorem wout_entry (i k : Fin 1024) : V m c main_v5 (ix2 i k) = (woA m c (ix2 i k) : EReal) := by
  entry_read
  pointwise

theorem seq_lt (t : Fin cfg0.N) : t.val < 48 := t.isLt

/-- The channels of a point's rows and of the rows about them are those of its sequence, and nothing outside it. -/
theorem chans_at (t : Fin cfg0.N) (r : Fin 1040) (k : Fin 1024) :
    chansT (BitVec.ofNat 32 (t.val % 8)) (iblk m c 0 t) (iblk m c 1 t) (iblk m c 2 t) (iblk m c 4 t) (iblk m c 5 t) (iblk m c 6 t) (ix2 r k)
      = padded (chanOf (xA m c) (modA m c) (npA m c) (winA m c) ⟨t.val / 8, by have := seq_lt t; omega⟩ k) (t.val % 8 * 1024 + r.val) := by
  obtain ⟨e0, e1, e2, e3, e4, e5, e6, e7, e8, e9, e10, e11, e12⟩ := idx t
  have ht := seq_lt t
  unfold chansT
  refine (cut_apply ⟨t.val % 8, by omega⟩ _ r k).trans ?_
  dsimp only
  unfold padded
  by_cases ho : (t.val % 8 = 0 ∧ r.val < 8) ∨ (t.val % 8 = 7 ∧ 1032 ≤ r.val)
  · rw [if_pos ho, if_neg (by omega)]
  · rw [if_neg ho, if_pos (by omega), ext_apply]
    unfold chanOf
    congr 1
    · funext l
      unfold rowAt
      split
      · blk_point [iblk, V, idx t]
        simp only [Fin.val_ofNat]
        omega
      · split
        · blk_point [iblk, V, idx t]
          simp only [Fin.val_ofNat]
          omega
        · blk_point [iblk, V, idx t]
          simp only [Fin.val_ofNat]
          omega
    · funext l; blk_point [iblk, V, idx t]
    · funext l; blk_point [iblk, V, idx t]
    · funext l; blk_point [iblk, V, idx t]
    · funext j l
      refine Eq.trans ?_ (u_entry m c _ _)
      pointwise
      blk_ext [iblk, e6]

/-- The result array. -/
theorem result : (dats m 0 c).arrAt 12 cfg0.N
    = postO (xA m c) (oA m c) (modA m c) (npA m c) (winA m c) (wpA m c) (psA m c) (woA m c) (noA m c) := by
  refine (dats m 0 c).arrAt_eq_of_covers 12 _ (by decide +kernel) fun t hf y => ?_
  obtain ⟨e0, e1, e2, e3, e4, e5, e6, e7, e8, e9, e10, e11, e12⟩ := idx t
  have ht : t.val < 48 := t.isLt
  blk_simp
  rw [after0_12]
  refine (out_apply _ _ _ _ _ _ _ _ _ _ _ _ _ ⟨t.val % 8, by omega⟩ (place_eq t) _ (chans_at m c t) y).trans ?_
  unfold postO postAt
  have hr : ((win0_12.blk t).view.emb y 0).val = t.val * 1024 + (y 0).val := by blk_simp [e12]
  have hy : (y 0).val < 1024 := (y 0).isLt
  refine post_congr _ _ _ _ _ _ _ _ _ _ _ _ ?_ ?_ ?_ ?_ ?_ ?_ ?_ ?_ ?_ ?_ ?_ ?_ ?_
  case refine_1 => funext k; blk_point [iblk, V, idx t]
  case refine_2 => funext k; blk_point [iblk, V, idx t]
  case refine_3 => funext k; blk_point [iblk, V, idx t]
  case refine_4 => funext k; blk_point [iblk, V, idx t]
  case refine_5 => funext k; blk_point [iblk, V, idx t]
  case refine_6 =>
    funext g c'
    have h1 : (⟨t.val / 8, by omega⟩ : Fin 6) = ⟨((win0_12.blk t).view.emb y 0).val / 8192, by rw [hr]; omega⟩ :=
      Fin.ext (by show t.val / 8 = ((win0_12.blk t).view.emb y 0).val / 8192; rw [hr]; omega)
    have h2 : t.val % 8 * 1024 + (y 0).val = ((win0_12.blk t).view.emb y 0).val % 8192 := by rw [hr]; omega
    exact congrArg₂ (fun b I => pool g (chanOf (xA m c) (modA m c) (npA m c) (winA m c) b (chan g c')) I) h1 h2
  case refine_7 =>
    funext j k
    refine Eq.trans ?_ (gate_entry m c _ _)
    blk_ext [iblk, e7]
  case refine_8 =>
    funext g j k
    refine Eq.trans ?_ (pool_entry m c _ _ _)
    blk_ext [iblk, e8]
  case refine_9 => funext k; blk_point [iblk, V, idx t]
  case refine_10 => funext k; blk_point [iblk, V, idx t]
  case refine_11 =>
    funext j k
    refine Eq.trans ?_ (wout_entry m c _ _)
    blk_ext [iblk, e10]
  case refine_12 => funext k; blk_point [iblk, V, idx t]
  case refine_13 =>
    refine Fin.ext ?_
    blk_simp [e12]

end Array

end Cert.Proof.Post

end
-- ==== Proof.PostReference.lean ====
/- WHAT THE REFERENCE OF `mixer_post` COMPUTES. Its result is the same function of every row, where the scale, the gain and the weights of the
   pooled channels are real numbers. -/
module

public import proofs.«01_k».proof.Proof.PostRow
public import proofs.«01_k».proof.Proof.Target
public import proofs.«01_k».proof.Proof.Gen.PostReferenceIdeal.Run
public import Idealize.ShloMosaic.Lib.Pipeline.ValueKit

@[expose] public section

set_option maxRecDepth 16384

noncomputable section

namespace Cert.Proof.Post.Ref

open Cert.PostReferenceIdeal Cert.PostReferenceIdeal.Gen
open Cert.Proof.Ffn (norm modulated)
open Cert.Proof.Attn (AllReal)
open Idealize.ShloMosaic Idealize.ShloMosaic.TcCoe Idealize.SL.Sem

section Stages

variable {F : FTy → Type} [FloatOps F]
  (x o : FVec F S49152x1024 .f32) (md : FVec F S6x9x1024 .f32) (np : FVec F S1x1024 .f32) (W : FVec F S1024x3520 .f32) (Wp : FVec F S4x256x256 .f32)
  (ps : FVec F S1x1024 .f32) (Wo : FVec F S1024x1024 .f32) (no : FVec F S1x1024 .f32)

/-! ## The channels and the gates -/

/-- The rows, by sequence. -/
def rows : FVec F S6x8192x1024 .f32 := shapeCast _ x shapeCasts_S49152x1024_S6x8192x1024

/-- The modulation. -/
def mods : FVec F S6x9x1x1024 .f32 := broadcastInDim S6x9x1x1024 ![0, 1, 3] bcast_S6x9x1024_S6x9x1x1024_0_1_3 md

def shifts : FVec F S6x1x1024 .f32 :=
  shapeCast _ (extractStridedSlice S6x1x1x1024 ![0, 3, 0, 0] (mods md) slices_S6x9x1x1024_S6x1x1x1024_0_3_0_0) shapeCasts_S6x1x1x1024_S6x1x1024

def scales : FVec F S6x1x1024 .f32 :=
  shapeCast _ (extractStridedSlice S6x1x1x1024 ![0, 4, 0, 0] (mods md) slices_S6x9x1x1024_S6x1x1x1024_0_4_0_0) shapeCasts_S6x1x1x1024_S6x1x1024

def steps : FVec F S6x1x1024 .f32 :=
  shapeCast _ (extractStridedSlice S6x1x1x1024 ![0, 5, 0, 0] (mods md) slices_S6x9x1x1024_S6x1x1x1024_0_5_0_0) shapeCasts_S6x1x1x1024_S6x1x1024

/-- Rows over the root of their mean square, times a gain. -/
def norms (y : FVec F S6x8192x1024 .f32) (g : FVec F S1x1024 .f32) : FVec F S6x8192x1024 .f32 :=
  mulf (mulf y (broadcastInDim S6x8192x1024 ![0, 1, 2] bcast_S6x8192x1_S6x8192x1024_0_1_2 (Host.rsqrt (addf (Host.divf
    (broadcastInDim S6x8192x1 ![0, 1] bcast_S6x8192_S6x8192x1_0_1 (Host.reduceAdd (mulf y y) (constant S_ .f32 0x00000000#32) reducesTo_S6x8192x1024_S6x8192_d2 h_S_))
    (broadcastInDim S6x8192x1 ![] bcast_S_S6x8192x1 (constant S_ .f32 0x44800000#32)))
    (broadcastInDim S6x8192x1 ![] bcast_S_S6x8192x1 (constant S_ .f32 0x358637BD#32))))))
    (broadcastInDim S6x8192x1024 ![0, 1, 2] bcast_S1x1x1024_S6x8192x1024_0_1_2
      (broadcastInDim S1x1x1024 ![2] bcast_S1024_S1x1x1024_2 (shapeCast _ g shapeCasts_S1x1024_S1024)))

/-- The rows, normalised and modulated. -/
def ins : FVec F S6x8192x1024 .f32 :=
  addf (mulf (norms (rows x) np) (broadcastInDim S6x8192x1024 ![0, 1, 2] bcast_S6x1x1024_S6x8192x1024_0_1_2
    (addf (broadcastInDim S6x1x1024 ![] bcast_S_S6x1x1024 (constant S_ .f32 0x3F800000#32)) (scales md))))
    (broadcastInDim S6x8192x1024 ![0, 1, 2] bcast_S6x1x1024_S6x8192x1024_0_1_2 (shifts md))

/-- Through the first weights. -/
def wides : FVec F S6x8192x3520 .f32 :=
  Host.dotGeneral dot_S6x8192x1024_S1024x3520_S6x8192x3520_2_0_01_1_n_n none (ins x md np) W

/-- The channels to pool, by group. -/
def groups : FVec F S6x8192x4x256 .f32 :=
  shapeCast _ (extractStridedSlice S6x8192x1024 ![0, 0, 448] (wides x md np W) slices_S6x8192x3520_S6x8192x1024_0_0_448)
    shapeCasts_S6x8192x1024_S6x8192x4x256

/-- The gates. -/
def gatesR : FVec F S6x8192x2048 .f32 :=
  Host.divf (broadcastInDim S6x8192x2048 ![] bcast_S_S6x8192x2048 (constant S_ .f32 0x3F800000#32))
    (addf (broadcastInDim S6x8192x2048 ![] bcast_S_S6x8192x2048 (constant S_ .f32 0x3F800000#32)) (Host.exp (Host.negf
      (extractStridedSlice S6x8192x2048 ![0, 0, 1472] (wides x md np W) slices_S6x8192x3520_S6x8192x2048_0_0_1472))))

/-! ## The windows -/

/-- Half of each group's window. -/
def sizes : IVec S4 32 := fun i => lit0 (S4.rowMajor i)
def two : IVec S_ 32 := id (constantI S_ 32 2#32)
def halves : IVec S4 32 :=
  select (andi (cmpi .ne (signi sizes) (broadcastInDim S4 ![] bcast_S_S4 (signi two)))
    (cmpi .ne (Host.remsi sizes (broadcastInDim S4 ![] bcast_S_S4 two)) (broadcastInDim S4 ![] bcast_S_S4 (constantI S_ 32 0#32))))
    (subi (Host.divsi sizes (broadcastInDim S4 ![] bcast_S_S4 two)) (broadcastInDim S4 ![] bcast_S_S4 (constantI S_ 32 1#32)))
    (Host.divsi sizes (broadcastInDim S4 ![] bcast_S_S4 two))

/-- The rows' positions, and the halves, at every row and group. -/
def posns : IVec S8192x4 32 :=
  broadcastInDim S8192x4 ![0, 1] bcast_S8192x1_S8192x4_0_1 (broadcastInDim S8192x1 ![0] bcast_S8192_S8192x1_0 (iotaInDim S8192 32 0))
def spans : IVec S8192x4 32 := broadcastInDim S8192x4 ![0, 1] bcast_S1x4_S8192x4_0_1 (broadcastInDim S1x4 ![1] bcast_S4_S1x4_1 halves)

/-- Cut to the sequence. -/
def clip (t : IVec S8192x4 32) : IVec S8192x4 32 :=
  minsi (broadcastInDim S8192x4 ![] bcast_S_S8192x4 (id (constantI S_ 32 8192#32)))
    (maxsi (broadcastInDim S8192x4 ![] bcast_S_S8192x4 (id (constantI S_ 32 0#32))) t)

/-- Where each window starts and where it ends. -/
def los : IVec S8192x4 32 := clip (subi posns spans)
def his : IVec S8192x4 32 := clip (addi posns spans)

/-- A bound with the group it belongs to, each counted from the end if negative. -/
def starts (t : IVec S8192x4 32) : IVec S8192x4x2 32 :=
  concatenate S8192x4x2 2
    [⟨S8192x4x1, broadcastInDim S8192x4x1 ![0, 1] bcast_S8192x4_S8192x4x1_0_1
      (select (cmpi .slt t (broadcastInDim S8192x4 ![] bcast_S_S8192x4 (constantI S_ 32 0#32)))
        (addi t (broadcastInDim S8192x4 ![] bcast_S_S8192x4 (constantI S_ 32 8193#32))) t)⟩,
     ⟨S8192x4x1, broadcastInDim S8192x4x1 ![0, 1] bcast_S8192x4_S8192x4x1_0_1 (broadcastInDim S8192x4 ![0, 1] bcast_S1x4_S8192x4_0_1
      (select (cmpi .slt (broadcastInDim S1x4 ![1] bcast_S4_S1x4_1 (iotaInDim S4 32 0)) (broadcastInDim S1x4 ![] bcast_S_S1x4 (constantI S_ 32 0#32)))
        (addi (broadcastInDim S1x4 ![1] bcast_S4_S1x4_1 (iotaInDim S4 32 0)) (broadcastInDim S1x4 ![] bcast_S_S1x4 (constantI S_ 32 4#32)))
        (broadcastInDim S1x4 ![1] bcast_S4_S1x4_1 (iotaInDim S4 32 0))))⟩] concatenates_S8192x4x1_S8192x4x1_S8192x4x2_d2

/-- The running sums. -/
def running (u : FVec F S6x8192x4x256 .f32) : FVec F S6x8192x4x256 .f32 :=
  Host.reduceWindowAdd ![1, 8192, 1, 1] ![1, 1, 1, 1] ![0, 8191, 0, 0] ![0, 0, 0, 0] u (broadcastInDim S_ ![] bcast_S_S_ (constant S_ .f32 0x00000000#32))
    reduceWindows_S6x8192x4x256_S6x8192x4x256_w1s1p0_0_w8192s1p8191_0_w1s1p0_0_w1s1p0_0 h_S_

/-- The running sums from zero. -/
def sums (u : FVec F S6x8192x4x256 .f32) : FVec F S6x8193x4x256 .f32 :=
  concatenate S6x8193x4x256 1 [⟨S6x1x4x256, broadcastInDim S6x1x4x256 ![] bcast_S_S6x1x4x256 (constant S_ .f32 0x00000000#32)⟩,
    ⟨S6x8192x4x256, running u⟩] concatenates_S6x1x4x256_S6x8192x4x256_S6x8193x4x256_d1

def take (u : FVec F S6x8192x4x256 .f32) (t : IVec S8192x4 32) : FVec F S6x8192x4x256 .f32 :=
  Host.gather gather_S6x8193x4x256_S8192x4x2_S6x8192x4x256_03_12_n_n_12_2_611256 (sums u) (starts t)

/-- Each window's mean less the row. -/
def pooled (u : FVec F S6x8192x4x256 .f32) : FVec F S6x8192x4x256 .f32 :=
  subf (Host.divf (subf (take u his) (take u los)) (broadcastInDim S6x8192x4x256 ![0, 1, 2, 3] bcast_S1x8192x4x1_S6x8192x4x256_0_1_2_3
    (broadcastInDim S1x8192x4x1 ![1, 2] bcast_S8192x4_S1x8192x4x1_1_2 (sitofp .f32 (subi his los))))) u

/-! ## The result -/

/-- The pooled channels, mixed within their group and scaled. -/
def mixeds (q : FVec F S6x8192x4x256 .f32) : FVec F S6x8192x1024 .f32 :=
  mulf (shapeCast _ (transpose S6x8192x4x256 [2, 3, 0, 1] (Host.dotGeneral dot_S4x256x256_S6x8192x4x256_S4x256x6x8192_1_3_2_01_0_2 none Wp q)
      transposes_S4x256x6x8192_S6x8192x4x256_2_3_0_1) shapeCasts_S6x8192x4x256_S6x8192x1024)
    (broadcastInDim S6x8192x1024 ![0, 1, 2] bcast_S1x1x1024_S6x8192x1024_0_1_2
      (broadcastInDim S1x1x1024 ![2] bcast_S1024_S1x1x1024_2 (shapeCast _ ps shapeCasts_S1x1024_S1024)))

/-- The gated sum. -/
def mergeds : FVec F S6x8192x1024 .f32 :=
  addf (mulf (extractStridedSlice S6x8192x1024 ![0, 0, 0] (gatesR x md np W) slices_S6x8192x2048_S6x8192x1024_0_0_0) (rows o))
    (mulf (extractStridedSlice S6x8192x1024 ![0, 0, 1024] (gatesR x md np W) slices_S6x8192x2048_S6x8192x1024_0_0_1024)
      (mixeds Wp ps (pooled (groups x md np W))))

/-- The result, by sequence. -/
def outs : FVec F S6x8192x1024 .f32 :=
  addf (rows x) (mulf (broadcastInDim S6x8192x1024 ![0, 1, 2] bcast_S6x1x1024_S6x8192x1024_0_1_2 (steps md))
    (norms (Host.dotGeneral dot_S6x8192x1024_S1024x1024_S6x8192x1024_2_0_01_1_n_n none (mergeds x o md np W Wp ps) Wo) no))

/-- The same, its rows in one axis. -/
def res : FVec F S49152x1024 .f32 := shapeCast _ (outs x o md np W Wp ps Wo no) shapeCasts_S6x8192x1024_S49152x1024

end Stages

set_option maxHeartbeats 4000000 in
theorem res_def {F : FTy → Type} [FloatOps F] (m : (ℓ : Loc nD τ sig) → Buf (Elt F) ℓ) (c : Dev nD) : Cert.PostReferenceIdeal.Value.res_main_v124 m c
    = res (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-! ## Running sums and reads of them -/

/-- The window's positions are those of its second axis. -/
def along (n : Fin 8192) : (⟨4, ![1, 8192, 1, 1]⟩ : Shape).Idx := ix4 0 n 0 0

theorem along_bijective : Function.Bijective along := by
  constructor
  · intro a b h
    exact congrFun h 1
  · intro p
    refine ⟨p 1, funext fun a => ?_⟩
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

theorem foldl_sum {ι : Type} (f : ι → EReal) (l : List ι) (v : EReal) : l.foldl (fun r n => r + f n) v = v + (l.map f).sum := by
  induction l generalizing v with
  | nil => simp
  | cons n l ih => rw [List.foldl_cons, ih, List.map_cons, List.sum_cons, add_assoc]

section Sums

variable (u : FVec Ideal S6x8192x4x256 .f32) (b : Fin 6) (g : Fin 4) (c : Fin 256)

/-- A channel of a sequence, zero past its end. -/
def chanR (s : ℕ) : EReal := if h : s < 8192 then u (ix4 b ⟨s, h⟩ g c) else 0

/-- The position of the window a number stands for. -/
abbrev place (n : Fin (⟨4, ![1, 8192, 1, 1]⟩ : Shape).numel) : (⟨4, ![1, 8192, 1, 1]⟩ : Shape).Idx :=
  (Shape.rowMajor (⟨4, ![1, 8192, 1, 1]⟩ : Shape)).symm n

theorem running_apply (i : Fin 8192) : running u (ix4 b i g c) = ∑ s ∈ Finset.range (i.val + 1), chanR u b g c s := by
  have hi := i.isLt
  have hz : broadcastInDim S_ ![] bcast_S_S_ (constant (F := Ideal) S_ .f32 0x00000000#32) (Shape.Idx.first h_S_) = (0 : EReal) := by
    pointwise
  unfold running Host.reduceWindowAdd
  rw [hz, Ideal.hostReduceWindowAdd_def]
  unfold Ideal.hostReduceWindowAdd
  show Host.reduceWindow (fun a b : EReal => a + b) ![1, 8192, 1, 1] ![1, 1, 1, 1] ![0, 8191, 0, 0] ![0, 0, 0, 0] u (fun _ => (0 : EReal))
    reduceWindows_S6x8192x4x256_S6x8192x4x256_w1s1p0_0_w8192s1p8191_0_w1s1p0_0_w1s1p0_0 h_S_ (ix4 b i g c) = _
  unfold Host.reduceWindow
  dsimp only
  refine (foldl_sum _ _ _).trans ?_
  rw [zero_add, ← Fin.sum_univ_def]
  refine (Finset.sum_congr rfl fun n _ => (?_ : _ = (fun p : (⟨4, ![1, 8192, 1, 1]⟩ : Shape).Idx =>
      if 8191 ≤ i.val + (p 1).val then chanR u b g c (i.val + (p 1).val - 8191) else (0 : EReal)) (place n))).trans ?_
  · dsimp only
    have p0 : (place n 0).val < 1 := (place n 0).isLt
    have p1 : (place n 1).val < 8192 := (place n 1).isLt
    have p2 : (place n 2).val < 1 := (place n 2).isLt
    have p3 : (place n 3).val < 1 := (place n 3).isLt
    have b0 := b.isLt
    have g0 := g.isLt
    have c0 := c.isLt
    by_cases hle : 8191 ≤ i.val + (place n 1).val
    · refine (dif_pos ?_).trans ?_
      · intro a
        match a with
        | ⟨0, _⟩ => show 0 ≤ b.val * 1 + (place n 0).val ∧ b.val * 1 + (place n 0).val - 0 < 6; omega
        | ⟨1, _⟩ => show 8191 ≤ i.val * 1 + (place n 1).val ∧ i.val * 1 + (place n 1).val - 8191 < 8192; omega
        | ⟨2, _⟩ => show 0 ≤ g.val * 1 + (place n 2).val ∧ g.val * 1 + (place n 2).val - 0 < 4; omega
        | ⟨3, _⟩ => show 0 ≤ c.val * 1 + (place n 3).val ∧ c.val * 1 + (place n 3).val - 0 < 256; omega
      · rw [if_pos hle]
        unfold chanR
        rw [dif_pos (by omega)]
        refine congrArg u (funext fun a => Fin.ext ?_)
        match a with
        | ⟨0, _⟩ => show b.val * 1 + (place n 0).val - 0 = b.val; omega
        | ⟨1, _⟩ => show i.val * 1 + (place n 1).val - 8191 = i.val + (place n 1).val - 8191; omega
        | ⟨2, _⟩ => show g.val * 1 + (place n 2).val - 0 = g.val; omega
        | ⟨3, _⟩ => show c.val * 1 + (place n 3).val - 0 = c.val; omega
    · refine (dif_neg fun hin => hle ?_).trans ?_
      · have h1 : 8191 ≤ i.val * 1 + (place n 1).val := (hin 1).1
        omega
      · exact (if_neg hle).symm
  refine (Equiv.sum_comp (Shape.rowMajor (⟨4, ![1, 8192, 1, 1]⟩ : Shape)).symm fun p : (⟨4, ![1, 8192, 1, 1]⟩ : Shape).Idx =>
    if 8191 ≤ i.val + (p 1).val then chanR u b g c (i.val + (p 1).val - 8191) else (0 : EReal)).trans ?_
  refine (Function.Bijective.sum_comp along_bijective _).symm.trans ?_
  show ∑ n : Fin 8192, (if 8191 ≤ i.val + n.val then chanR u b g c (i.val + n.val - 8191) else (0 : EReal)) = _
  refine (Fin.sum_univ_eq_sum_range (fun n => if 8191 ≤ i.val + n then chanR u b g c (i.val + n - 8191) else (0 : EReal)) 8192).trans ?_
  refine (congrArg (fun N => ∑ n ∈ Finset.range N, if 8191 ≤ i.val + n then chanR u b g c (i.val + n - 8191) else (0 : EReal))
    (show 8192 = (8191 - i.val) + (i.val + 1) by omega)).trans ?_
  rw [Finset.sum_range_add]
  refine (congrArg₂ (HAdd.hAdd : EReal → EReal → EReal) (Finset.sum_eq_zero fun n hn => ?_) (Finset.sum_congr rfl fun n hn => ?_)).trans (zero_add _)
  · exact if_neg (by have := Finset.mem_range.mp hn; omega)
  · exact (if_pos (by omega)).trans (congrArg (chanR u b g c) (by omega))

theorem sums_apply (n : Fin 8193) : sums u (ix4 b n g c) = ∑ s ∈ Finset.range n.val, chanR u b g c s := by
  pointwise [sums]
  by_cases h : n.val < 1
  · refine (dif_pos h).trans ?_
    rw [show n.val = 0 by omega, Finset.sum_range_zero]
  · refine (dif_neg h).trans ((running_apply u b g c _).trans ?_)
    exact congrArg (fun N => ∑ s ∈ Finset.range N, chanR u b g c s) (by dsimp only; omega)

/-- A read of the sums at a row and a group. -/
theorem gather_apply (y : FVec Ideal S6x8193x4x256 .f32) (t : IVec S8192x4x2 32) (i : Fin 8192) :
    Host.gather gather_S6x8193x4x256_S8192x4x2_S6x8192x4x256_03_12_n_n_12_2_611256 y t (ix4 b i g c)
      = y (ix4 b ⟨min (t (ix3 i g 0)).toInt.toNat 8192, by omega⟩ ⟨min (t (ix3 i g 1)).toInt.toNat 3, by omega⟩ c) := by
  unfold Host.gather
  congr 1
  funext a
  refine Fin.ext ?_
  show GatherDims.start _ (ix4 b i g c) t a + GatherDims.batchCoord _ (ix4 b i g c) a + GatherDims.offCoord _ (ix4 b i g c) a = _
  rw [GatherDims.batchCoord_eq_zero _ _ _ List.not_mem_nil]
  match a with
  | ⟨0, _⟩ =>
    unfold GatherDims.start
    rw [dif_neg (by decide +revert)]
    unfold GatherDims.offCoord
    rw [dif_pos (by decide +revert)]
    show 0 + 0 + b.val = b.val
    omega
  | ⟨1, _⟩ =>
    rw [GatherDims.offCoord_eq_zero _ _ _ (by decide +revert)]
    unfold GatherDims.start
    rw [dif_pos (by decide +revert)]
    show min (t _).toInt.toNat 8192 + 0 + 0 = min (t (ix3 i g 0)).toInt.toNat 8192
    refine congrArg (fun q => min (t q).toInt.toNat 8192) (funext fun k => ?_)
    match k with
    | ⟨0, _⟩ => rfl
    | ⟨1, _⟩ => rfl
    | ⟨2, _⟩ => rfl
  | ⟨2, _⟩ =>
    rw [GatherDims.offCoord_eq_zero _ _ _ (by decide +revert)]
    unfold GatherDims.start
    rw [dif_pos (by decide +revert)]
    show min (t _).toInt.toNat 3 + 0 + 0 = min (t (ix3 i g 1)).toInt.toNat 3
    refine congrArg (fun q => min (t q).toInt.toNat 3) (funext fun k => ?_)
    match k with
    | ⟨0, _⟩ => rfl
    | ⟨1, _⟩ => rfl
    | ⟨2, _⟩ => rfl
  | ⟨3, _⟩ =>
    unfold GatherDims.start
    rw [dif_neg (by decide +revert)]
    unfold GatherDims.offCoord
    rw [dif_pos (by decide +revert)]
    show 0 + 0 + c.val = c.val
    omega

/-- A word that is no negative number is not counted from the end. -/
theorem not_slt (n : ℕ) (h : n < 2 ^ 31) (z : BitVec 32) :
    Scalar.select (IntOp.cmpi CmpIPredicate.slt (BitVec.ofNat 32 n) 0#32) z (BitVec.ofNat 32 n) = BitVec.ofNat 32 n := by
  have e : IntOp.cmpi CmpIPredicate.slt (BitVec.ofNat 32 n) 0#32 = 0#1 := by
    have h0 : (BitVec.ofNat 32 n).slt 0#32 = false := by
      rw [BitVec.slt_eq_decide, toInt_word n h]
      exact decide_eq_false (by show ¬ ((n : ℤ) < 0); omega)
    show BitVec.ofBool ((BitVec.ofNat 32 n).slt 0#32) = 0#1
    rw [h0]
    rfl
  rw [e]
  rfl

theorem starts_apply (t : IVec S8192x4 32) (i : Fin 8192) (n : ℕ) (hn : n < 2 ^ 31) (ht : t (ix2 i g) = BitVec.ofNat 32 n) :
    starts t (ix3 i g 0) = BitVec.ofNat 32 n ∧ starts t (ix3 i g 1) = BitVec.ofNat 32 g.val := by
  constructor
  · pointwise [starts]
    rw [ht]
    exact not_slt n hn _
  · pointwise [starts]
    exact not_slt g.val (by omega) _

theorem take_apply (t : IVec S8192x4 32) (i : Fin 8192) (n : ℕ) (hn : n ≤ 8192) (ht : t (ix2 i g) = BitVec.ofNat 32 n) :
    take u t (ix4 b i g c) = ∑ s ∈ Finset.range n, chanR u b g c s := by
  obtain ⟨h0, h1⟩ := starts_apply g t i n (by omega) ht
  refine (gather_apply b g c (sums u) (starts t) i).trans ?_
  have e0 : (⟨min (starts t (ix3 i g 0)).toInt.toNat 8192, by omega⟩ : Fin 8193) = ⟨n, by omega⟩ := Fin.ext (by
    dsimp only; rw [h0, toInt_word n (by omega)]; omega)
  have e1 : (⟨min (starts t (ix3 i g 1)).toInt.toNat 3, by omega⟩ : Fin 4) = g := Fin.ext (by
    dsimp only; rw [h1, toInt_word g.val (by omega)]; omega)
  rw [e0, e1]
  exact sums_apply u b g c _

theorem halves_apply : halves (ix1 g) = BitVec.ofNat 32 (half g) := by
  fin_cases g <;> rfl

theorem half_le : half g ≤ 8 := by
  rcases half_cases g with h | h | h | h <;> omega

theorem los_apply (i : Fin 8192) : los (ix2 i g) = BitVec.ofNat 32 (i.val - half g) := by
  pointwise [los, clip, posns, spans]
  rw [halves_apply]
  exact lo_clip i.val (half g) i.isLt (half_le g)

theorem his_apply (i : Fin 8192) : his (ix2 i g) = BitVec.ofNat 32 (min (i.val + half g) 8192) := by
  pointwise [his, clip, posns, spans]
  rw [halves_apply]
  exact hi_clip i.val (half g) i.isLt (half_le g)

/-- The difference of two running sums, over the count, less the row: the pooled channel, where the channel is steady. Where it is infinite, both are
    the undefined difference of infinities. -/
theorem pooled_apply (i : Fin 8192) {f : ℕ → EReal} (hf : Steady f) (e : ∀ s, s < 8192 → chanR u b g c s = f s) :
    pooled u (ix4 b i g c) = pool g f i.val := by
  have hi := i.isLt
  have hh := half_le g
  have h1 : 1 ≤ half g := by
    rcases half_cases g with h | h | h | h <;> omega
  have hz : ∀ s, chanR u b g c s = if s < 8192 then f s else 0 := fun s => by
    by_cases h : s < 8192
    · rw [if_pos h, e s h]
    · exact (dif_neg h).trans (if_neg h).symm
  have hu : u (ix4 b i g c) = f i.val := by
    rw [← e _ hi]
    unfold chanR
    rw [dif_pos hi]
  pointwise [pooled]
  rw [take_apply u b g c his i _ (by omega) (his_apply g i), take_apply u b g c los i _ (by omega) (los_apply g i), hu]
  unfold pool
  rcases hf with hf | hf | hf
  · rw [sub_prefix _ (fun s => ?_) (half g) i.val hi, his_apply, los_apply]
    · refine congrArg₂ (HSub.hSub : EReal → EReal → EReal)
        (congrArg₂ Ideal.div (Finset.sum_congr rfl fun s hs => e s ?_) (cnt_word i.val (half g) hi hh)) rfl
      have := (Finset.mem_Ico.mp hs).2
      omega
    · rw [hz s]
      split
      · exact hf s
      · exact ⟨0, rfl⟩
  · rw [hf, EReal.sub_top, EReal.sub_top]
  · have hb : ∀ S : Finset ℕ, i.val ∈ S → ∀ v : ℕ → EReal, (∀ s, s < 8192 → v s = ⊥) → ∑ s ∈ S, v s = (⊥ : EReal) :=
      fun S hS v hv => by rw [← Finset.add_sum_erase S v hS, hv _ hi, EReal.bot_add]
    rw [hb _ (Finset.mem_range.mpr (by omega)) _ fun s h => (e s h).trans (hf s),
      EReal.bot_sub]
    unfold win
    rw [hb (Finset.Ico _ _) (Finset.mem_Ico.mpr (by omega)) f fun s _ => hf s]
    refine congrArg₂ (HSub.hSub : EReal → EReal → EReal) (congrArg (Ideal.div ⊥) ?_) rfl
    rw [his_apply, los_apply]
    exact cnt_word i.val (half g) hi hh

end Sums

section Result

variable (x o : FVec Ideal S49152x1024 .f32) (md : FVec Ideal S6x9x1024 .f32) (np : FVec Ideal S1x1024 .f32) (W : FVec Ideal S1024x3520 .f32)
  (Wp : FVec Ideal S4x256x256 .f32) (ps : FVec Ideal S1x1024 .f32) (Wo : FVec Ideal S1024x1024 .f32) (no : FVec Ideal S1x1024 .f32)
  (b : Fin 6) (i : Fin 8192)

theorem norms_apply (y : FVec Ideal S6x8192x1024 .f32) (k : Fin 1024) :
    norms y np (ix3 b i k) = norm (fun k => y (ix3 b i k)) (fun k => np (ix2 0 k)) k := by
  pointwise [norms]
  rfl

abbrev row (k : Fin 1024) : EReal := x (ix2 ⟨b.val * 8192 + i.val, by omega⟩ k)
abbrev modRow (r : Fin 9) (k : Fin 1024) : EReal := md (ix3 b r k)

theorem rows_apply (k : Fin 1024) : rows x (ix3 b i k) = row x b i k := by
  pointwise [rows]
  blk_ext

theorem shifts_apply (k : Fin 1024) : shifts md (ix3 b 0 k) = modRow md b 3 k := by
  pointwise [shifts, mods]
  blk_ext

theorem scales_apply (k : Fin 1024) : scales md (ix3 b 0 k) = modRow md b 4 k := by
  pointwise [scales, mods]
  blk_ext

theorem steps_apply (k : Fin 1024) : steps md (ix3 b 0 k) = modRow md b 5 k := by
  pointwise [steps, mods]
  blk_ext

theorem ins_apply (k : Fin 1024) :
    ins x md np (ix3 b i k) = modulated (row x b i) (modRow md b 3) (modRow md b 4) (fun k => np (ix2 0 k)) k := by
  pointwise [ins]
  simp only [norms_apply, rows_apply, shifts_apply, scales_apply]
  rfl

theorem wides_apply (k : Fin 3520) : wides x md np W (ix3 b i k)
    = ∑ j, modulated (row x b i) (modRow md b 3) (modRow md b 4) (fun k => np (ix2 0 k)) j * (W (ix2 j k) : EReal) := by
  pointwise [wides]
  exact Finset.sum_congr rfl fun j _ => congrArg₂ (HMul.hMul : EReal → EReal → EReal) (ins_apply x md np b i j) rfl

theorem gates_apply (k : Fin 2048) : gatesR x md np W (ix3 b i k)
    = gates (row x b i) (modRow md b 3) (modRow md b 4) (fun k => np (ix2 0 k)) (fun j k => W (ix2 j ⟨1472 + k.val, by omega⟩)) k := by
  pointwise [gatesR]
  simp only [wides_apply]
  simp only [gates, zero_sub]

theorem groups_apply (g : Fin 4) (c : Fin 256) : groups x md np W (ix4 b i g c) = chanOf x md np W b (chan g c) i.val := by
  pointwise [groups]
  refine (wides_apply x md np W b i _).trans ?_
  unfold chanOf chans
  have er : row x b i = fun k => x (ix2 (Fin.ofNat 49152 (b.val * 8192 + i.val)) k) := funext fun k =>
    congrArg (fun r => x (ix2 r k)) (Fin.ext (by simp only [Fin.val_ofNat]; omega))
  rw [er]
  exact Finset.sum_congr rfl fun j _ => congrArg₂ (HMul.hMul : EReal → EReal → EReal) rfl
    (congrArg (fun q => W (ix2 j q)) (Fin.ext (by show 448 + (g.val * 256 + c.val) = 448 + (256 * g.val + c.val); omega)))

theorem mixeds_apply (q : FVec Ideal S6x8192x4x256 .f32) (k : Fin 1024) : mixeds Wp ps q (ix3 b i k)
    = mixed (fun g c => q (ix4 b i g c)) (fun g c d => Wp (ix3 g c d)) (fun k => ps (ix2 0 k)) k := by
  pointwise [mixeds]
  exact congrArg₂ (HMul.hMul : EReal → EReal → EReal) (Finset.sum_congr rfl fun j _ => mul_comm _ _) rfl

section Real

variable (hc : ∀ (b : Fin 6) (k : Fin 1024), ∃ r : ℝ, md (ix3 b 4 k) = (r : EReal)) (hn : AllReal np)
  (hW : ∀ (j k : Fin 1024) (h : 448 + k.val < 3520), ∃ r : ℝ, W (ix2 j ⟨448 + k.val, h⟩) = (r : EReal))

include hc hn hW

theorem pools_apply (g : Fin 4) (c : Fin 256) :
    pooled (groups x md np W) (ix4 b i g c) = pool g (chanOf x md np W b (chan g c)) i.val :=
  pooled_apply _ b g c i (steady_chans _ _ (hc b) (fun _ => hn _) (fun j k => hW j k _) _) fun s h =>
    (dif_pos h).trans (groups_apply x md np W b ⟨s, h⟩ g c)

theorem mergeds_apply (k : Fin 1024) : mergeds x o md np W Wp ps (ix3 b i k)
    = merged (row x b i) (modRow md b 3) (modRow md b 4) (fun k => np (ix2 0 k)) (fun g c => pool g (chanOf x md np W b (chan g c)) i.val)
      (fun j k => W (ix2 j ⟨1472 + k.val, by omega⟩)) (fun g c d => Wp (ix3 g c d)) (fun k => ps (ix2 0 k)) (row o b i) k := by
  pointwise [mergeds]
  simp only [gates_apply, rows_apply, mixeds_apply, pools_apply x md np W b i hc hn hW]
  rfl

theorem outs_apply (k : Fin 1024) : outs x o md np W Wp ps Wo no (ix3 b i k) = postAt x o md np W Wp ps Wo no b i k := by
  pointwise [outs]
  simp only [rows_apply, steps_apply, norms_apply]
  unfold postAt post
  refine congrArg₂ (HAdd.hAdd : EReal → EReal → EReal) rfl (congrArg₂ (HMul.hMul : EReal → EReal → EReal) rfl ?_)
  refine congrArg (fun f => norm f _ k) (funext fun k => ?_)
  pointwise
  exact Finset.sum_congr rfl fun j _ => congrArg₂ (HMul.hMul : EReal → EReal → EReal) (mergeds_apply x o md np W Wp ps b i hc hn hW j) rfl

theorem res_eq : res x o md np W Wp ps Wo no = postO x o md np W Wp ps Wo no := by
  funext j
  pointwise [res]
  exact outs_apply x o md np W Wp ps Wo no _ _ hc hn hW _

end Real

end Result

/-- The reference runs, ends with this result, and leaves its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v124) = res (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (res_def m c), (h c).2⟩) (Cert.PostReferenceIdeal.Value.run m ρ)

end Cert.Proof.Post.Ref

end
-- ==== Proof.PostValues.lean ====
/- THE CLAIMS OF `mixer_post`. The kernel, its idealization and the reference run and leave their arguments; the kernel and the reference end
   with the same result,
   where the scale, the gain and the weights of the pooled channels are real numbers. -/
module

public import proofs.«01_k».proof.Defs
public import proofs.«01_k».proof.Proof.Values
public import proofs.«01_k».proof.Proof.Post
public import proofs.«01_k».proof.Proof.PostReference
public import proofs.«01_k».proof.Proof.Gen.PostKernel.Frame
public import Idealize.ShloMosaic.Lib.Claim

@[expose] public section

set_option maxRecDepth 16384

noncomputable section

namespace Cert.Proof.Post

open Idealize.ShloMosaic Idealize.SL.Sem

/-- The machine's program terminates without fault, leaves its arguments as they are and every counter at zero. -/
theorem frame_kernel : Cert.quiescent_PostKernel (hPostKernel := Cert.PostKernel.Gen.facts) := fun m ρ _ => Cert.PostKernel.Gen.frame m ρ

/-- So does its idealization. -/
theorem frame_ideal : Cert.quiescent_PostKernelIdeal (hPostKernelIdeal := Cert.PostKernelIdeal.Gen.facts) :=
  fun m ρ _ => Cert.PostKernelIdeal.Gen.frame m ρ

/-- So does the reference. -/
theorem frame_reference : Cert.quiescent_PostReferenceIdeal (hPostReferenceIdeal := Cert.PostReferenceIdeal.Gen.facts) := fun m ρ _ =>
  (θ_run Cert.PostReferenceIdeal.defs _ _).mono (fun r h => ⟨fun c => (h c).2, sem_eq_zero_of_no_sems (by decide) _⟩)
    (Cert.PostReferenceIdeal.Value.run m ρ)

/-- The precondition's facts about shapes. -/
theorem facts_pre : Cert.Pre_pool_finite.Facts := ⟨by decide, by decide, by decide, by decide, by decide⟩

/-- The kernel and the reference, from the same arguments, end with the same result. -/
theorem equal : Cert.algebraic_PostKernelIdeal_PostReferenceIdeal_pre_pool_finite (hPostKernelIdeal := Cert.PostKernelIdeal.Gen.facts)
    (hPostReferenceIdeal := Cert.PostReferenceIdeal.Gen.facts) (hPre_pool_finite := facts_pre) := by
  intro m ρ m' ρ' hp he
  refine ⟨fun c => postO (xA m c) (oA m c) (modA m c) (npA m c) (winA m c) (wpA m c) (psA m c) (woA m c) (noA m c), ?_, ?_⟩
  · exact (θ_run _ _ _).mono (fun r h c => ⟨(h c).1.trans (result m c), (h c).2⟩) (Cert.PostKernelIdeal.Value.run_blocks m ρ)
  · refine (θ_run _ _ _).mono (fun r h c => ⟨(h c).1.trans ?_, (h c).2⟩) (Ref.run m' ρ')
    obtain ⟨e0, e1, e2, e3, e4, e5, e6, e7, e8⟩ := he c
    rw [e0, e1, e2, e3, e4, e5, e6, e7, e8]
    obtain ⟨h0, h1, h2⟩ := hp c
    have r0 := real_of_lt (fun _ => rfl) h0
    have r2 := real_of_lt (fun _ => rfl) h2
    refine Ref.res_eq _ _ _ _ _ _ _ _ _ (fun b k => ?_) (real_of_lt (fun _ => rfl) h1) fun j k _ => ?_
    · have h := r0 (ix3 b 0 k)
      pointwise at h
      exact h
    · have h := r2 (ix2 j k)
      pointwise at h
      exact h

end Cert.Proof.Post

end
-- ==== Proof.lean ====
/- The certificate's claims, assembled. -/
module

public import proofs.«01_k».proof.Proof.Values
public import proofs.«01_k».proof.Proof.FfnValues
public import proofs.«01_k».proof.Proof.PostValues

@[expose] public section

noncomputable section

namespace Cert.Proof

theorem claim : Cert.Claim :=
  ⟨Cert.Kernel.Gen.facts, Cert.KernelIdeal.Gen.facts, Cert.ReferenceIdeal.Gen.facts, Cert.FfnKernel.Gen.facts, Cert.FfnKernelIdeal.Gen.facts,
    Cert.FfnReferenceIdeal.Gen.facts, Cert.PostKernel.Gen.facts, Cert.PostKernelIdeal.Gen.facts, Cert.PostReferenceIdeal.Gen.facts, facts_pre,
    Post.facts_pre, frame_kernel, frame_ideal, fun m ρ _ => frame_ideal m ρ trivial, frame_reference, fun m ρ _ => frame_reference m ρ trivial,
    Ffn.frame_kernel, Ffn.frame_ideal, Ffn.frame_reference, Post.frame_kernel, Post.frame_ideal, fun m ρ _ => Post.frame_ideal m ρ trivial,
    Post.frame_reference, fun m ρ _ => Post.frame_reference m ρ trivial, trivial, equal, trivial, Ffn.equal, trivial, Post.equal⟩

end Cert.Proof

end
